-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S16x128x4096 : Shape := ⟨3, ![16, 128, 4096]⟩
abbrev S16x4 : Shape := ⟨2, ![16, 4]⟩
abbrev S16x8x128 : Shape := ⟨3, ![16, 8, 128]⟩
abbrev S16 : Shape := ⟨1, ![16]⟩
abbrev S2 : Shape := ⟨1, ![2]⟩
abbrev S1 : Shape := ⟨1, ![1]⟩
abbrev S_ : Shape := ⟨0, ![]⟩
abbrev S128x4096 : Shape := ⟨2, ![128, 4096]⟩
abbrev S1x128x4096 : Shape := ⟨3, ![1, 128, 4096]⟩
abbrev S1x1 : Shape := ⟨2, ![1, 1]⟩
abbrev S1x32x4096 : Shape := ⟨3, ![1, 32, 4096]⟩
abbrev S32x4096 : Shape := ⟨2, ![32, 4096]⟩
abbrev S1024x512 : Shape := ⟨2, ![1024, 512]⟩
abbrev S128x512 : Shape := ⟨2, ![128, 512]⟩
abbrev S1x128x512 : Shape := ⟨3, ![1, 128, 512]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S4096x512, .bf16⟩
  | .local _ .vmem, ⟨0, _⟩ => ⟨S16x128x4096, .bf16⟩
  | .local _ .vmem, ⟨1, _⟩ => ⟨S16x128x4096, .bf16⟩
  | .local _ .vmem, ⟨2, _⟩ => ⟨S16x8x128, .f32⟩
  | .local _ .vmem, ⟨3, _⟩ => ⟨S4096x512, .bf16⟩
  | .local _ .vmem, ⟨4, _⟩ => ⟨S4096x512, .bf16⟩
  | .local _ .vmem, ⟨5, _⟩ => ⟨S256x4096, .f32⟩
  | .local _ .vmem, ⟨6, _⟩ => ⟨S4096x512, .f32⟩
  | _, _ => ⟨S256x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 306 → Bool
  | ⟨i, _⟩ => dmaSemScopedAt i

abbrev sig : RefSig :=
  (ofTc nBuf bufTy 1 306 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch6 : Ref sig .tc := ⟨.vmem, 2, rfl⟩
abbrev cc0_scratch9 : Ref sig .tc := ⟨.vmem, 3, rfl⟩
abbrev cc0_scratch10 : Ref sig .tc := ⟨.vmem, 4, rfl⟩
abbrev cc0_scratch12 : Ref sig .tc := ⟨.vmem, 5, rfl⟩
abbrev cc0_scratch13 : Ref sig .tc := ⟨.vmem, 6, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7 : BitVec 32 := 1#32
  let v13 : BitVec 32 := Scalar.muli v7 c1_i32_7
  let v14 : BitVec 32 := Scalar.addi c0_i32_8 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10 : BitVec 32 := 1#32
  let v15 : BitVec 32 := Scalar.muli v4 c1_i32_10
  let v16 : BitVec 32 := Scalar.addi c0_i32_11 v15
  v16.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_27 : BitVec 32 := 1#32
  let v29 : BitVec 32 := Scalar.muli v4 c1_i32_27
  let v30 : BitVec 32 := Scalar.addi c0_i32_28 v29
  v30.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_39 : BitVec 32 := 1#32
  let v39 : BitVec 32 := Scalar.muli v7 c1_i32_39
  let v40 : BitVec 32 := Scalar.addi c0_i32_40 v39
  v40.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_51 : BitVec 32 := 1#32
  let v49 : BitVec 32 := Scalar.muli v4 c1_i32_51
  let v50 : BitVec 32 := Scalar.addi c0_i32_52 v49
  v50.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_62 : BitVec 32 := 1#32
  let v59 : BitVec 32 := Scalar.muli v7 c1_i32_62
  let v60 : BitVec 32 := Scalar.addi c0_i32_63 v59
  v60.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_74 : BitVec 32 := 1#32
  let v69 : BitVec 32 := Scalar.muli v4 c1_i32_74
  let v70 : BitVec 32 := Scalar.addi c0_i32_75 v69
  v70.toNat
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_85 : BitVec 32 := 1#32
  let v79 : BitVec 32 := Scalar.muli v7 c1_i32_85
  let v80 : BitVec 32 := Scalar.addi c0_i32_86 v79
  v80.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_96 : BitVec 32 := 1#32
  let v89 : BitVec 32 := Scalar.muli v4 c1_i32_96
  let v90 : BitVec 32 := Scalar.addi c0_i32_97 v89
  v90.toNat
def k0_dev10 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_107 : BitVec 32 := 1#32
  let v99 : BitVec 32 := Scalar.muli v7 c1_i32_107
  let v100 : BitVec 32 := Scalar.addi c0_i32_108 v99
  v100.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v135 : BitVec 32 := Scalar.muli v2 c256_i32
  let v136 : Index := Scalar.indexCast v135
  let c0_132 : Index := 0#32
  ![v136.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_139 : BitVec 32 := 256#32
  let v144 : BitVec 32 := Scalar.muli v2 c256_i32_139
  let c128_i32 : BitVec 32 := 128#32
  let v145 : BitVec 32 := Scalar.addi v144 c128_i32
  let v146 : Index := Scalar.indexCast v145
  let c0_140 : Index := 0#32
  ![v146.toNat, 0]
@[reducible] def k0_t1_loop : Scf.Loop 32 :=
  let c1_i32_143 : BitVec 32 := 1#32
  let c15_i32 : BitVec 32 := 15#32
  let v159 : BitVec 32 := Scalar.addi c1_i32_143 c15_i32
  let c1_i32_144 : BitVec 32 := 1#32
  ⟨c1_i32_143, v159, c1_i32_144⟩
def k0_off3 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c0_i32_622 : BitVec 32 := 0#32
  ![arg18.toNat, 0]
def k0_off4 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c0_i32_626 : BitVec 32 := 0#32
  let c0_i32_627 : BitVec 32 := 0#32
  ![arg18.toNat, 0, 0]
def k0_cond1 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_630 : BitVec 32 := 15#32
  let v574 : BitVec 1 := Scalar.cmpi .slt arg18 c15_i32_630
  let v575 : BitVec 32 := Scalar.extui v574
  let c0_i32_631 : BitVec 32 := 0#32
  let v576 : BitVec 1 := Scalar.cmpi .ne v575 c0_i32_631
  v576

def k0_off5 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c0_i32_725 : BitVec 32 := 0#32
  ![arg18.toNat, 0]
def k0_off6 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c0_i32_724 : BitVec 32 := 0#32
  ![v691.toNat, 0]
def k0_off7 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c0_i32_728 : BitVec 32 := 0#32
  let c0_i32_729 : BitVec 32 := 0#32
  ![v690.toNat, 0, 0]
def k0_off8 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c0_i32_730 : BitVec 32 := 0#32
  let c0_i32_731 : BitVec 32 := 0#32
  ![arg18.toNat, 0, 0]
def k0_dev11 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_726 : BitVec 32 := 1#32
  let v692 : BitVec 32 := Scalar.muli v4 c1_i32_726
  let v693 : BitVec 32 := Scalar.addi c0_i32_727 v692
  v693.toNat
def k0_cond2 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_640 : BitVec 32 := 15#32
  let v585 : BitVec 1 := Scalar.cmpi .slt arg18 c15_i32_640
  let v586 : BitVec 32 := Scalar.extui v585
  let c0_i32_641 : BitVec 32 := 0#32
  let v587 : BitVec 1 := Scalar.cmpi .ne v586 c0_i32_641
  v587

def k0_off9 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c0_i32_725 : BitVec 32 := 0#32
  ![arg18.toNat, 0]
def k0_off10 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c0_i32_724 : BitVec 32 := 0#32
  ![v691.toNat, 0]
def k0_off11 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c0_i32_728 : BitVec 32 := 0#32
  let c0_i32_729 : BitVec 32 := 0#32
  ![v690.toNat, 0, 0]
def k0_off12 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c0_i32_730 : BitVec 32 := 0#32
  let c0_i32_731 : BitVec 32 := 0#32
  ![arg18.toNat, 0, 0]
def k0_dev12 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_726 : BitVec 32 := 1#32
  let v692 : BitVec 32 := Scalar.muli v7 c1_i32_726
  let v693 : BitVec 32 := Scalar.addi c0_i32_727 v692
  v693.toNat
def k0_off13 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_642 : BitVec 32 := 1#32
  ![arg18.toNat, 1]
def k0_off14 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c32_i32_646 : BitVec 32 := 32#32
  let c0_i32_647 : BitVec 32 := 0#32
  ![arg18.toNat, 32, 0]
def k0_cond3 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_650 : BitVec 32 := 15#32
  let v596 : BitVec 1 := Scalar.cmpi .slt arg18 c15_i32_650
  let v597 : BitVec 32 := Scalar.extui v596
  let c0_i32_651 : BitVec 32 := 0#32
  let v598 : BitVec 1 := Scalar.cmpi .ne v597 c0_i32_651
  v598

def k0_off15 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_725 : BitVec 32 := 1#32
  ![arg18.toNat, 1]
def k0_off16 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c1_i32_724 : BitVec 32 := 1#32
  ![v691.toNat, 1]
def k0_off17 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c32_i32_728 : BitVec 32 := 32#32
  let c0_i32_729 : BitVec 32 := 0#32
  ![v690.toNat, 32, 0]
def k0_off18 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c32_i32_730 : BitVec 32 := 32#32
  let c0_i32_731 : BitVec 32 := 0#32
  ![arg18.toNat, 32, 0]
def k0_dev13 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_726 : BitVec 32 := 1#32
  let v692 : BitVec 32 := Scalar.muli v4 c1_i32_726
  let v693 : BitVec 32 := Scalar.addi c0_i32_727 v692
  v693.toNat
def k0_cond4 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_660 : BitVec 32 := 15#32
  let v607 : BitVec 1 := Scalar.cmpi .slt arg18 c15_i32_660
  let v608 : BitVec 32 := Scalar.extui v607
  let c0_i32_661 : BitVec 32 := 0#32
  let v609 : BitVec 1 := Scalar.cmpi .ne v608 c0_i32_661
  v609

def k0_off19 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_725 : BitVec 32 := 1#32
  ![arg18.toNat, 1]
def k0_off20 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c1_i32_724 : BitVec 32 := 1#32
  ![v691.toNat, 1]
def k0_off21 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c32_i32_728 : BitVec 32 := 32#32
  let c0_i32_729 : BitVec 32 := 0#32
  ![v690.toNat, 32, 0]
def k0_off22 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c32_i32_730 : BitVec 32 := 32#32
  let c0_i32_731 : BitVec 32 := 0#32
  ![arg18.toNat, 32, 0]
def k0_dev14 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_726 : BitVec 32 := 1#32
  let v692 : BitVec 32 := Scalar.muli v7 c1_i32_726
  let v693 : BitVec 32 := Scalar.addi c0_i32_727 v692
  v693.toNat
def k0_off23 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c2_i32_662 : BitVec 32 := 2#32
  ![arg18.toNat, 2]
def k0_off24 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c64_i32_666 : BitVec 32 := 64#32
  let c0_i32_667 : BitVec 32 := 0#32
  ![arg18.toNat, 64, 0]
def k0_cond5 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_670 : BitVec 32 := 15#32
  let v618 : BitVec 1 := Scalar.cmpi .slt arg18 c15_i32_670
  let v619 : BitVec 32 := Scalar.extui v618
  let c0_i32_671 : BitVec 32 := 0#32
  let v620 : BitVec 1 := Scalar.cmpi .ne v619 c0_i32_671
  v620

def k0_off25 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c2_i32_725 : BitVec 32 := 2#32
  ![arg18.toNat, 2]
def k0_off26 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c2_i32_724 : BitVec 32 := 2#32
  ![v691.toNat, 2]
def k0_off27 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c64_i32_728 : BitVec 32 := 64#32
  let c0_i32_729 : BitVec 32 := 0#32
  ![v690.toNat, 64, 0]
def k0_off28 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c64_i32_730 : BitVec 32 := 64#32
  let c0_i32_731 : BitVec 32 := 0#32
  ![arg18.toNat, 64, 0]
def k0_dev15 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_726 : BitVec 32 := 1#32
  let v692 : BitVec 32 := Scalar.muli v4 c1_i32_726
  let v693 : BitVec 32 := Scalar.addi c0_i32_727 v692
  v693.toNat
def k0_cond6 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_680 : BitVec 32 := 15#32
  let v629 : BitVec 1 := Scalar.cmpi .slt arg18 c15_i32_680
  let v630 : BitVec 32 := Scalar.extui v629
  let c0_i32_681 : BitVec 32 := 0#32
  let v631 : BitVec 1 := Scalar.cmpi .ne v630 c0_i32_681
  v631

def k0_off29 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c2_i32_725 : BitVec 32 := 2#32
  ![arg18.toNat, 2]
def k0_off30 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c2_i32_724 : BitVec 32 := 2#32
  ![v691.toNat, 2]
def k0_off31 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c64_i32_728 : BitVec 32 := 64#32
  let c0_i32_729 : BitVec 32 := 0#32
  ![v690.toNat, 64, 0]
def k0_off32 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c64_i32_730 : BitVec 32 := 64#32
  let c0_i32_731 : BitVec 32 := 0#32
  ![arg18.toNat, 64, 0]
def k0_dev16 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_726 : BitVec 32 := 1#32
  let v692 : BitVec 32 := Scalar.muli v7 c1_i32_726
  let v693 : BitVec 32 := Scalar.addi c0_i32_727 v692
  v693.toNat
def k0_off33 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c3_i32_682 : BitVec 32 := 3#32
  ![arg18.toNat, 3]
def k0_off34 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c96_i32_686 : BitVec 32 := 96#32
  let c0_i32_687 : BitVec 32 := 0#32
  ![arg18.toNat, 96, 0]
def k0_cond7 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_690 : BitVec 32 := 15#32
  let v640 : BitVec 1 := Scalar.cmpi .slt arg18 c15_i32_690
  let v641 : BitVec 32 := Scalar.extui v640
  let c0_i32_691 : BitVec 32 := 0#32
  let v642 : BitVec 1 := Scalar.cmpi .ne v641 c0_i32_691
  v642

def k0_off35 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c3_i32_725 : BitVec 32 := 3#32
  ![arg18.toNat, 3]
def k0_off36 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c3_i32_724 : BitVec 32 := 3#32
  ![v691.toNat, 3]
def k0_off37 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c96_i32_728 : BitVec 32 := 96#32
  let c0_i32_729 : BitVec 32 := 0#32
  ![v690.toNat, 96, 0]
def k0_off38 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c96_i32_730 : BitVec 32 := 96#32
  let c0_i32_731 : BitVec 32 := 0#32
  ![arg18.toNat, 96, 0]
def k0_dev17 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_726 : BitVec 32 := 1#32
  let v692 : BitVec 32 := Scalar.muli v4 c1_i32_726
  let v693 : BitVec 32 := Scalar.addi c0_i32_727 v692
  v693.toNat
def k0_cond8 (k0_t1 : Fin k0_t1_loop.trips) : BitVec 1 :=
  let c1_i32_143 : BitVec 32 := 1#32
  let c1_i32_144 : BitVec 32 := 1#32
  let arg18 : BitVec 32 := Scf.iv c1_i32_143 c1_i32_144 k0_t1
  let c15_i32_700 : BitVec 32 := 15#32
  let v651 : BitVec 1 := Scalar.cmpi .slt arg18 c15_i32_700
  let v652 : BitVec 32 := Scalar.extui v651
  let c0_i32_701 : BitVec 32 := 0#32
  let v653 : BitVec 1 := Scalar.cmpi .ne v652 c0_i32_701
  v653

def k0_off39 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c3_i32_725 : BitVec 32 := 3#32
  ![arg18.toNat, 3]
def k0_off40 (k0_t1 : Fin k0_t1_loop.trips) : Fin 2 → Nat :=
  let c1_i32_143 : BitVec 32 := 1#32
  let c1_i32_144 : BitVec 32 := 1#32
  let arg18 : BitVec 32 := Scf.iv c1_i32_143 c1_i32_144 k0_t1
  let c1_i32_723 : BitVec 32 := 1#32
  let v691 : BitVec 32 := Scalar.addi arg18 c1_i32_723
  let c3_i32_724 : BitVec 32 := 3#32
  ![v691.toNat, 3]
def k0_off41 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c1_i32_722 : BitVec 32 := 1#32
  let v690 : BitVec 32 := Scalar.addi arg18 c1_i32_722
  let c96_i32_728 : BitVec 32 := 96#32
  let c0_i32_729 : BitVec 32 := 0#32
  ![v690.toNat, 96, 0]
def k0_off42 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let c96_i32_730 : BitVec 32 := 96#32
  let c0_i32_731 : BitVec 32 := 0#32
  ![arg18.toNat, 96, 0]
def k0_dev18 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_726 : BitVec 32 := 1#32
  let v692 : BitVec 32 := Scalar.muli v7 c1_i32_726
  let v693 : BitVec 32 := Scalar.addi c0_i32_727 v692
  v693.toNat
def k0_off43 (k0_t1 : Fin k0_t1_loop.trips) : Fin 3 → Nat :=
  let c1_i32_143 : BitVec 32 := 1#32
  let c1_i32_144 : BitVec 32 := 1#32
  let arg18 : BitVec 32 := Scf.iv c1_i32_143 c1_i32_144 k0_t1
  let v659 : Index := Scalar.indexCast arg18
  let c0_705 : Index := 0#32
  let c0_706 : Index := 0#32
  ![v659.toNat, 0, 0]
def k0_off44 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_702 : BitVec 32 := 16#32
  let v654 : BitVec 32 := Scalar.addi v2 c16_i32_702
  let c1_i32_143 : BitVec 32 := 1#32
  let c1_i32_144 : BitVec 32 := 1#32
  let arg18 : BitVec 32 := Scf.iv c1_i32_143 c1_i32_144 k0_t1
  let v655 : BitVec 32 := Scalar.subi v654 arg18
  let c16_i32_703 : BitVec 32 := 16#32
  let v656 : BitVec 32 := Scalar.remsi v655 c16_i32_703
  let c256_i32_710 : BitVec 32 := 256#32
  let v664 : BitVec 32 := Scalar.muli v656 c256_i32_710
  let v665 : Index := Scalar.indexCast v664
  let c0_711 : Index := 0#32
  ![v665.toNat, 0]
def k0_off45 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_143 : BitVec 32 := 1#32
  let c1_i32_144 : BitVec 32 := 1#32
  let arg18 : BitVec 32 := Scf.iv c1_i32_143 c1_i32_144 k0_t1
  let v657 : BitVec 32 := Scalar.addi v2 arg18
  let c16_i32_704 : BitVec 32 := 16#32
  let v658 : BitVec 32 := Scalar.remsi v657 c16_i32_704
  let c256_i32_717 : BitVec 32 := 256#32
  let v674 : BitVec 32 := Scalar.muli v658 c256_i32_717
  let c128_i32_718 : BitVec 32 := 128#32
  let v675 : BitVec 32 := Scalar.addi v674 c128_i32_718
  let v676 : Index := Scalar.indexCast v675
  let c0_719 : Index := 0#32
  ![v676.toNat, 0]
def k0_dev19 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_150 : BitVec 32 := 1#32
  let v166 : BitVec 32 := Scalar.addi v2 c1_i32_150
  let c16_i32_151 : BitVec 32 := 16#32
  let v167 : BitVec 32 := Scalar.remsi v166 c16_i32_151
  let c1_i32_156 : BitVec 32 := 1#32
  let v168 : BitVec 32 := Scalar.muli v167 c1_i32_156
  let v169 : BitVec 32 := Scalar.addi c0_i32_157 v168
  v169.toNat
def k0_dev20 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_162 : BitVec 32 := 2#32
  let v178 : BitVec 32 := Scalar.addi v2 c2_i32_162
  let c16_i32_163 : BitVec 32 := 16#32
  let v179 : BitVec 32 := Scalar.remsi v178 c16_i32_163
  let c1_i32_168 : BitVec 32 := 1#32
  let v180 : BitVec 32 := Scalar.muli v179 c1_i32_168
  let v181 : BitVec 32 := Scalar.addi c0_i32_169 v180
  v181.toNat
def k0_dev21 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_174 : BitVec 32 := 3#32
  let v190 : BitVec 32 := Scalar.addi v2 c3_i32_174
  let c16_i32_175 : BitVec 32 := 16#32
  let v191 : BitVec 32 := Scalar.remsi v190 c16_i32_175
  let c1_i32_180 : BitVec 32 := 1#32
  let v192 : BitVec 32 := Scalar.muli v191 c1_i32_180
  let v193 : BitVec 32 := Scalar.addi c0_i32_181 v192
  v193.toNat
def k0_dev22 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v202 : BitVec 32 := Scalar.addi v2 c4_i32
  let c16_i32_186 : BitVec 32 := 16#32
  let v203 : BitVec 32 := Scalar.remsi v202 c16_i32_186
  let c1_i32_191 : BitVec 32 := 1#32
  let v204 : BitVec 32 := Scalar.muli v203 c1_i32_191
  let v205 : BitVec 32 := Scalar.addi c0_i32_192 v204
  v205.toNat
def k0_dev23 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v214 : BitVec 32 := Scalar.addi v2 c5_i32
  let c16_i32_197 : BitVec 32 := 16#32
  let v215 : BitVec 32 := Scalar.remsi v214 c16_i32_197
  let c1_i32_202 : BitVec 32 := 1#32
  let v216 : BitVec 32 := Scalar.muli v215 c1_i32_202
  let v217 : BitVec 32 := Scalar.addi c0_i32_203 v216
  v217.toNat
def k0_dev24 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v226 : BitVec 32 := Scalar.addi v2 c6_i32
  let c16_i32_208 : BitVec 32 := 16#32
  let v227 : BitVec 32 := Scalar.remsi v226 c16_i32_208
  let c1_i32_213 : BitVec 32 := 1#32
  let v228 : BitVec 32 := Scalar.muli v227 c1_i32_213
  let v229 : BitVec 32 := Scalar.addi c0_i32_214 v228
  v229.toNat
def k0_dev25 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v238 : BitVec 32 := Scalar.addi v2 c7_i32
  let c16_i32_219 : BitVec 32 := 16#32
  let v239 : BitVec 32 := Scalar.remsi v238 c16_i32_219
  let c1_i32_224 : BitVec 32 := 1#32
  let v240 : BitVec 32 := Scalar.muli v239 c1_i32_224
  let v241 : BitVec 32 := Scalar.addi c0_i32_225 v240
  v241.toNat
def k0_dev26 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v250 : BitVec 32 := Scalar.addi v2 c8_i32
  let c16_i32_230 : BitVec 32 := 16#32
  let v251 : BitVec 32 := Scalar.remsi v250 c16_i32_230
  let c1_i32_235 : BitVec 32 := 1#32
  let v252 : BitVec 32 := Scalar.muli v251 c1_i32_235
  let v253 : BitVec 32 := Scalar.addi c0_i32_236 v252
  v253.toNat
def k0_dev27 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v262 : BitVec 32 := Scalar.addi v2 c9_i32
  let c16_i32_241 : BitVec 32 := 16#32
  let v263 : BitVec 32 := Scalar.remsi v262 c16_i32_241
  let c1_i32_246 : BitVec 32 := 1#32
  let v264 : BitVec 32 := Scalar.muli v263 c1_i32_246
  let v265 : BitVec 32 := Scalar.addi c0_i32_247 v264
  v265.toNat
def k0_dev28 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v274 : BitVec 32 := Scalar.addi v2 c10_i32
  let c16_i32_252 : BitVec 32 := 16#32
  let v275 : BitVec 32 := Scalar.remsi v274 c16_i32_252
  let c1_i32_257 : BitVec 32 := 1#32
  let v276 : BitVec 32 := Scalar.muli v275 c1_i32_257
  let v277 : BitVec 32 := Scalar.addi c0_i32_258 v276
  v277.toNat
def k0_dev29 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v286 : BitVec 32 := Scalar.addi v2 c11_i32
  let c16_i32_263 : BitVec 32 := 16#32
  let v287 : BitVec 32 := Scalar.remsi v286 c16_i32_263
  let c1_i32_268 : BitVec 32 := 1#32
  let v288 : BitVec 32 := Scalar.muli v287 c1_i32_268
  let v289 : BitVec 32 := Scalar.addi c0_i32_269 v288
  v289.toNat
def k0_dev30 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v298 : BitVec 32 := Scalar.addi v2 c12_i32
  let c16_i32_274 : BitVec 32 := 16#32
  let v299 : BitVec 32 := Scalar.remsi v298 c16_i32_274
  let c1_i32_279 : BitVec 32 := 1#32
  let v300 : BitVec 32 := Scalar.muli v299 c1_i32_279
  let v301 : BitVec 32 := Scalar.addi c0_i32_280 v300
  v301.toNat
def k0_dev31 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v310 : BitVec 32 := Scalar.addi v2 c13_i32
  let c16_i32_285 : BitVec 32 := 16#32
  let v311 : BitVec 32 := Scalar.remsi v310 c16_i32_285
  let c1_i32_290 : BitVec 32 := 1#32
  let v312 : BitVec 32 := Scalar.muli v311 c1_i32_290
  let v313 : BitVec 32 := Scalar.addi c0_i32_291 v312
  v313.toNat
def k0_dev32 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v322 : BitVec 32 := Scalar.addi v2 c14_i32
  let c16_i32_296 : BitVec 32 := 16#32
  let v323 : BitVec 32 := Scalar.remsi v322 c16_i32_296
  let c1_i32_301 : BitVec 32 := 1#32
  let v324 : BitVec 32 := Scalar.muli v323 c1_i32_301
  let v325 : BitVec 32 := Scalar.addi c0_i32_302 v324
  v325.toNat
def k0_dev33 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_307 : BitVec 32 := 15#32
  let v334 : BitVec 32 := Scalar.addi v2 c15_i32_307
  let c16_i32_308 : BitVec 32 := 16#32
  let v335 : BitVec 32 := Scalar.remsi v334 c16_i32_308
  let c1_i32_313 : BitVec 32 := 1#32
  let v336 : BitVec 32 := Scalar.muli v335 c1_i32_313
  let v337 : BitVec 32 := Scalar.addi c0_i32_314 v336
  v337.toNat
@[reducible] def k0_t2_loop : Scf.Loop 32 :=
  let c0_i32_469 : BitVec 32 := 0#32
  let c15_i32_470 : BitVec 32 := 15#32
  let v466 : BitVec 32 := Scalar.addi c0_i32_469 c15_i32_470
  let c1_i32_471 : BitVec 32 := 1#32
  ⟨c0_i32_469, v466, c1_i32_471⟩
def k0_off46 (k0_t2 : Fin k0_t2_loop.trips) : Fin 2 → Nat :=
  let c0_i32_469 : BitVec 32 := 0#32
  let c1_i32_471 : BitVec 32 := 1#32
  let arg18 : BitVec 32 := Scf.iv c0_i32_469 c1_i32_471 k0_t2
  let c0_i32_624 : BitVec 32 := 0#32
  ![arg18.toNat, 0]
def k0_off47 (k0_t2 : Fin k0_t2_loop.trips) : Fin 2 → Nat :=
  let c0_i32_469 : BitVec 32 := 0#32
  let c1_i32_471 : BitVec 32 := 1#32
  let arg18 : BitVec 32 := Scf.iv c0_i32_469 c1_i32_471 k0_t2
  let c1_i32_644 : BitVec 32 := 1#32
  ![arg18.toNat, 1]
def k0_off48 (k0_t2 : Fin k0_t2_loop.trips) : Fin 2 → Nat :=
  let c0_i32_469 : BitVec 32 := 0#32
  let c1_i32_471 : BitVec 32 := 1#32
  let arg18 : BitVec 32 := Scf.iv c0_i32_469 c1_i32_471 k0_t2
  let c2_i32_664 : BitVec 32 := 2#32
  ![arg18.toNat, 2]
def k0_off49 (k0_t2 : Fin k0_t2_loop.trips) : Fin 2 → Nat :=
  let c0_i32_469 : BitVec 32 := 0#32
  let c1_i32_471 : BitVec 32 := 1#32
  let arg18 : BitVec 32 := Scf.iv c0_i32_469 c1_i32_471 k0_t2
  let c3_i32_684 : BitVec 32 := 3#32
  ![arg18.toNat, 3]
@[reducible] def k0_t3_loop : Scf.Loop 32 :=
  let c0_i32_614 : BitVec 32 := 0#32
  let c16_i32_615 : BitVec 32 := 16#32
  let v564 : BitVec 32 := Scalar.addi c0_i32_614 c16_i32_615
  let c1_i32_616 : BitVec 32 := 1#32
  ⟨c0_i32_614, v564, c1_i32_616⟩
def k0_off50 (k0_t3 : Fin k0_t3_loop.trips) : Fin 2 → Nat :=
  let c0_i32_614 : BitVec 32 := 0#32
  let c1_i32_616 : BitVec 32 := 1#32
  let arg18 : BitVec 32 := Scf.iv c0_i32_614 c1_i32_616 k0_t3
  let c256_i32_622 : BitVec 32 := 256#32
  let v566 : BitVec 32 := Scalar.muli arg18 c256_i32_622
  let v567 : Index := Scalar.indexCast v566
  let c0_623 : Index := 0#32
  ![v567.toNat, 0]
def k0_off51 (k0_t3 : Fin k0_t3_loop.trips) : Fin 1 → Nat :=
  let c0_i32_614 : BitVec 32 := 0#32
  let c1_i32_616 : BitVec 32 := 1#32
  let arg18 : BitVec 32 := Scf.iv c0_i32_614 c1_i32_616 k0_t3
  ![arg18.toNat]
def k0_off52 (k0_t3 : Fin k0_t3_loop.trips) : Fin 2 → Nat :=
  let c0_i32_614 : BitVec 32 := 0#32
  let c1_i32_616 : BitVec 32 := 1#32
  let arg18 : BitVec 32 := Scf.iv c0_i32_614 c1_i32_616 k0_t3
  let c256_i32_622 : BitVec 32 := 256#32
  let v566 : BitVec 32 := Scalar.muli arg18 c256_i32_622
  let c0_i32_627 : BitVec 32 := 0#32
  ![v566.toNat, 0]
@[reducible] def k0_t4_loop : Scf.Loop 32 :=
  let c0_i32_618 : BitVec 32 := 0#32
  let c16_i32_619 : BitVec 32 := 16#32
  let v565 : BitVec 32 := Scalar.addi c0_i32_618 c16_i32_619
  let c1_i32_620 : BitVec 32 := 1#32
  ⟨c0_i32_618, v565, c1_i32_620⟩
def k0_off53 (k0_t4 : Fin k0_t4_loop.trips) : Fin 1 → Nat :=
  let c0_i32_618 : BitVec 32 := 0#32
  let c1_i32_620 : BitVec 32 := 1#32
  let arg18 : BitVec 32 := Scf.iv c0_i32_618 c1_i32_620 k0_t4
  ![arg18.toNat]
def k0_off54 (k0_t4 : Fin k0_t4_loop.trips) : Fin 2 → Nat :=
  let c0_i32_618 : BitVec 32 := 0#32
  let c1_i32_620 : BitVec 32 := 1#32
  let arg18 : BitVec 32 := Scf.iv c0_i32_618 c1_i32_620 k0_t4
  let c256_i32_622 : BitVec 32 := 256#32
  let v566 : BitVec 32 := Scalar.muli arg18 c256_i32_622
  let c0_i32_623 : BitVec 32 := 0#32
  ![v566.toNat, 0]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x4096, .bf16⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Ring.Setup.lean ====
/-
  What the proof of the kernel's run shares: the resource algebra, the devices' ring, the two families of remote
  transfers with the order in which every device issues them, and the semaphore cells they complete on.

  The devices form a ring of sixteen. `sh k c` is the device `k` places after `c`. A RING transfer `(dir, h, s)` carries
  the `s`-th quarter of slot `h` of one of the two row buffers to slot `h + 1` of the neighbour: the next device for the
  first buffer (`dir = false`), the previous one for the second (`dir = true`). A PEAK transfer `d` carries a device's
  own maximum (slot 0 of the peak table) to slot `d + 1` of the device `d + 1` places on. `rank` is the place of a
  transfer in the program text of its issuer, which is the same on every device, and is also the order in which a device
  waits for the transfers that land on it and for its own to have been read out.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds library's resources for the cells the devices talk through. -/
abbrev UT : Type := URounds (GSem nD τ sig) Bool

/-- The pipeline's resources, the talk's, and the counters of the local copies. -/
abbrev UU : Type := Idealize.ShloMosaic.UR sig nD τ × (UT × Counters)

local notation "𝕄" => MT nD τ sig Unit (Elt F) ℕ UU ℕ

/-- Where the pipeline's resources lie, -/
def EP : Emb (Idealize.ShloMosaic.UR sig nD τ) (MT nD τ sig Unit (Elt F) ℕ UU ℕ) :=
  (Emb.inl : Emb (Idealize.ShloMosaic.UR sig nD τ) UU).trans
    (uEmb (nD := nD) (sig := sig) (Ix := Unit) (Val := Elt F) (Name := ℕ) (U := UU) (Lvl := ℕ)).toEmb

/-- where the talk's lie, -/
def ER : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb

/-- and where the counters lie. -/
abbrev EC : UEmb Counters (MT nD τ sig Unit (Elt F) ℕ UU ℕ) :=
  countersEmb (nD := nD) (τ := τ) (sig := sig) (Ix := Unit) (Val := Elt F) (Name := ℕ) (U := UU) (Lvl := ℕ)

instance EP_landsIn : (EP : Emb (Idealize.ShloMosaic.UR sig nD τ) 𝕄).LandsIn (upEmb : UEmb _ 𝕄) := by unfold EP; infer_instance
instance ER_landsIn : (ER : Emb UT 𝕄).LandsIn (upEmb : UEmb _ 𝕄) := by unfold ER; infer_instance
instance EC_landsIn : (EC : UEmb Counters 𝕄).LandsIn (upEmb : UEmb _ 𝕄) := by infer_instance

/-- No program variants. -/
abbrev 𝒱₀ : Variants := Variants.none

/-! ## The ring of devices -/

set_option backward.proofsInPublic true in
/-- The device `k` places after `c`. -/
def sh (k : ℕ) (c : Dev nD) : Dev nD := ⟨(c.val + k) % 16, Nat.mod_lt _ (by decide)⟩

theorem sh_val (k : ℕ) (c : Dev nD) : (sh k c).val = (c.val + k) % 16 := rfl

theorem dev_lt (c : Dev nD) : c.val < 16 := c.isLt

theorem sh_sh (a b : ℕ) (c : Dev nD) : sh a (sh b c) = sh (b + a) c := by
  apply Fin.ext; rw [sh_val, sh_val, sh_val]; omega

theorem sh_mod {a b : ℕ} (h : a % 16 = b % 16) (c : Dev nD) : sh a c = sh b c := by
  apply Fin.ext; rw [sh_val, sh_val]; omega

theorem sh_zero (c : Dev nD) : sh 0 c = c := by
  apply Fin.ext; rw [sh_val]; have := dev_lt c; omega

theorem sh_sixteen {a : ℕ} (h : a % 16 = 0) (c : Dev nD) : sh a c = c := by
  rw [sh_mod (b := 0) (by omega), sh_zero]

/-- Moving on by `k` permutes the devices. -/
def shE (k : ℕ) : Dev nD ≃ Dev nD where
  toFun := sh k
  invFun := sh (15 * k)
  left_inv c := by rw [sh_sh]; exact sh_sixteen (by omega) c
  right_inv c := by rw [sh_sh]; exact sh_sixteen (by omega) c

@[simp] theorem shE_apply (k : ℕ) (c : Dev nD) : shE k c = sh k c := rfl

theorem dev_next {n : ℕ} {h : n < nD} {c : Dev nD} (e : n = (c.val + 1) % 16) : (⟨n, h⟩ : Dev nD) = sh 1 c :=
  Fin.ext e
theorem dev_prev {n : ℕ} {h : n < nD} {c : Dev nD} (e : n = (c.val + 15) % 16) : (⟨n, h⟩ : Dev nD) = sh 15 c :=
  Fin.ext e

/-! ## The transfers -/

/-- A ring transfer: which of the two buffers, from which slot, which quarter of it. -/
abbrev RX : Type := Bool × Fin 15 × Fin 4

/-- A transfer: of the ring, or of a device's peak. -/
abbrev X : Type := RX ⊕ Fin 15

/-- The transfer's place in the issuer's program. -/
def rank : X → ℕ
  | .inl (b, h, s) => 8 * h.val + 2 * s.val + (if b then 1 else 0)
  | .inr d => 120 + d.val

theorem rank_lt (x : X) : rank x < 135 := by
  rcases x with ⟨b, h, s⟩ | d
  · cases b <;> simp only [rank] <;> have := h.isLt <;> have := s.isLt <;> simp <;> omega
  · simp only [rank]; have := d.isLt; omega

theorem rank_inj : Function.Injective rank := by
  rintro (⟨b, h, s⟩ | d) (⟨b', h', s'⟩ | d') e
  · have h1 := h.isLt; have h2 := s.isLt; have h3 := h'.isLt; have h4 := s'.isLt
    cases b <;> cases b' <;> simp [rank] at e <;> simp [Fin.ext_iff] <;> omega
  · have h1 := h.isLt; have h2 := s.isLt
    cases b <;> simp [rank] at e <;> omega
  · have h1 := h'.isLt; have h2 := s'.isLt
    cases b' <;> simp [rank] at e <;> omega
  · simp [rank] at e; simp [Fin.ext_iff]; omega

/-- How far along the ring the transfer goes. -/
def dist : X → ℕ
  | .inl (b, _, _) => if b then 15 else 1
  | .inr d => d.val + 1

/-- The device the transfer of `c` lands on. -/
abbrev tgt (x : X) (c : Dev nD) : Dev nD := sh (dist x) c

/-! ## The cells -/

/-- The number of the semaphore that counts the transfer read out, on its issuer, -/
def sndNum : X → ℕ
  | .inl (b, h, s) => (if b then 128 else 0) + 4 * h.val + s.val
  | .inr d => 257 + d.val

/-- and of the one that counts it landed, on its target. -/
def rcvNum : X → ℕ
  | .inl (b, h, s) => (if b then 192 else 64) + 4 * (h.val + 1) + s.val
  | .inr d => 273 + d.val

theorem sndNum_lt (x : X) : sndNum x < 306 := by
  rcases x with ⟨b, h, s⟩ | d
  · cases b <;> simp only [sndNum] <;> have := h.isLt <;> have := s.isLt <;> simp <;> omega
  · simp only [sndNum]; have := d.isLt; omega
theorem rcvNum_lt (x : X) : rcvNum x < 306 := by
  rcases x with ⟨b, h, s⟩ | d
  · cases b <;> simp only [rcvNum] <;> have := h.isLt <;> have := s.isLt <;> simp <;> omega
  · simp only [rcvNum]; have := d.isLt; omega

/-- The read-out semaphore, -/
def sndS (x : X) : DmaSem sig := ⟨sndNum x, sndNum_lt x⟩
/-- and the landing semaphore. -/
def rcvS (x : X) : DmaSem sig := ⟨rcvNum x, rcvNum_lt x⟩

/-- The barrier semaphore. -/
abbrev barS : Sem sig := barrier0

/-- A cell's name on a device: the barrier, the read-out of a transfer (`false`), the landing of one (`true`). -/
abbrev K : Type := Option (Bool × X)

/-- The semaphore of that name. -/
def csem : K → SemLoc sig
  | none => .reg barS
  | some (false, x) => .dma (sndS x)
  | some (true, x) => .dma (rcvS x)

theorem csem_inj : Function.Injective csem := by
  have key : ∀ (x y : X), sndNum x ≠ rcvNum y := by
    rintro (⟨b, h, s⟩ | d) (⟨b', h', s'⟩ | d') e
    · have h1 := h.isLt; have h2 := s.isLt; have h3 := h'.isLt; have h4 := s'.isLt
      cases b <;> cases b' <;> simp [sndNum, rcvNum] at e <;> omega
    · have h1 := h.isLt; have h2 := s.isLt
      cases b <;> simp [sndNum, rcvNum] at e <;> omega
    · have h1 := h'.isLt; have h2 := s'.isLt; have h3 := d.isLt
      cases b' <;> simp [sndNum, rcvNum] at e <;> omega
    · have h1 := d.isLt
      simp [sndNum, rcvNum] at e; omega
  have ks : ∀ (x y : X), sndNum x = sndNum y → x = y := by
    rintro (⟨b, h, s⟩ | d) (⟨b', h', s'⟩ | d') e
    · have h1 := h.isLt; have h2 := s.isLt; have h3 := h'.isLt; have h4 := s'.isLt
      cases b <;> cases b' <;> simp [sndNum] at e <;> simp [Fin.ext_iff] <;> omega
    · have h1 := h.isLt; have h2 := s.isLt
      cases b <;> simp [sndNum] at e <;> omega
    · have h1 := h'.isLt; have h2 := s'.isLt; have h3 := d.isLt
      cases b' <;> simp [sndNum] at e <;> omega
    · simp [sndNum] at e; simp [Fin.ext_iff]; omega
  have kr : ∀ (x y : X), rcvNum x = rcvNum y → x = y := by
    rintro (⟨b, h, s⟩ | d) (⟨b', h', s'⟩ | d') e
    · have h1 := h.isLt; have h2 := s.isLt; have h3 := h'.isLt; have h4 := s'.isLt
      cases b <;> cases b' <;> simp [rcvNum] at e <;> simp [Fin.ext_iff] <;> omega
    · have h1 := h.isLt; have h2 := s.isLt
      cases b <;> simp [rcvNum] at e <;> omega
    · have h1 := h'.isLt; have h2 := s'.isLt; have h3 := d.isLt
      cases b' <;> simp [rcvNum] at e <;> omega
    · simp [rcvNum] at e; simp [Fin.ext_iff]; omega
  rintro (_ | ⟨b, x⟩) (_ | ⟨b', y⟩) e
  · rfl
  · cases b' <;> simp [csem] at e
  · cases b <;> simp [csem] at e
  · cases b <;> cases b' <;> simp only [csem, SemLoc.dma.injEq] at e
    · rw [ks x y (congrArg Fin.val e)]
    · exact absurd (congrArg Fin.val e) (key x y)
    · exact absurd (congrArg Fin.val e).symm (key y x)
    · rw [kr x y (congrArg Fin.val e)]

/-- The cell on device `c`. -/
abbrev cell (c : Dev nD) (k : K) : GSem nD τ sig := ((c : Thread nD τ), csem k)

/-- The cell the read-out of a transfer of `c` is counted on, -/
abbrev sndC (c : Dev nD) (x : X) : GSem nD τ sig := ((c : Thread nD τ), .dma (sndS x))
/-- the cell on `c` the landing of a transfer is counted on, -/
abbrev rcvC (c : Dev nD) (x : X) : GSem nD τ sig := ((c : Thread nD τ), .dma (rcvS x))
/-- and the barrier's cell. -/
abbrev barC (c : Dev nD) : GSem nD τ sig := ((c : Thread nD τ), .reg barS)

theorem cell_inj : Function.Injective (fun ck : Dev nD × K => cell ck.1 ck.2) := by
  rintro ⟨c, k⟩ ⟨c', k'⟩ h
  have h1 : c = c' := congrArg (fun g : GSem nD τ sig => g.1.1) h
  have h2 : k = k' := csem_inj (congrArg Prod.snd h)
  rw [h1, h2]

/-- The name of a semaphore, if it is one the devices talk through. -/
def nameOf (sm : SemLoc sig) : Option K := by
  classical exact if h : ∃ k, csem k = sm then some h.choose else none

theorem nameOf_csem (k : K) : nameOf (csem k) = some k := by
  have h : ∃ k', csem k' = csem k := ⟨k, rfl⟩
  unfold nameOf; rw [dif_pos h]
  exact congrArg some (csem_inj h.choose_spec)

theorem nameOf_snd (x : X) : nameOf (.dma (sndS x)) = some (some (false, x)) := nameOf_csem (some (false, x))
theorem nameOf_rcv (x : X) : nameOf (.dma (rcvS x)) = some (some (true, x)) := nameOf_csem (some (true, x))
theorem nameOf_bar : nameOf (.reg barS) = some none := nameOf_csem none

end Cert.Ring

end
-- ==== Proof.Ring.Cursor.lean ====
/-
  A family of resources walked through in a fixed order: everything of rank below the cursor has been turned from its
  `B` form into its `A` form, everything else is still in its `B` form.
-/
module

public import proofs.«01_k».proof.Proof.Ring.Setup

@[expose] public section

noncomputable section

namespace Cert.Ring

open Idealize.SL Idealize.SL.RA Idealize.SL.BI
open scoped Idealize.SL.BI
open Idealize.SL.BI.BIBase Idealize.SL.BI.Laws Idealize.SL.ProofMode

variable {M : Type} [URA M] {I : Type} [Fintype I] [DecidableEq I]

/-- The family with the members of rank below `n` in form `A`, the others in form `B`. -/
def cursor (rk : I → ℕ) (A B : I → sProp M) (n : ℕ) : sProp M :=
  bigSep Finset.univ fun i => if rk i < n then A i else B i

variable {rk : I → ℕ} {A B : I → sProp M} {n : ℕ}

/-- The member at the cursor is taken out in form `B`; handed back in form `A`, the cursor has moved on. -/
theorem cursor_take (hrk : Function.Injective rk) (i : I) (h : rk i = n) :
    cursor rk A B n ⊢ iprop(B i ∗ (A i -∗ cursor rk A B (n + 1))) := by
  have e := bigSep_univ_update (M := M) (Φ := fun i => if rk i < n then A i else B i)
    (Ψ := fun i => if rk i < n + 1 then A i else B i) i (fun j hj => by
      have hne : rk j ≠ n := fun e => hj (hrk (e.trans h.symm))
      by_cases hlt : rk j < n
      · simp only [if_pos hlt, if_pos (Nat.lt_succ_of_lt hlt)]
      · have : ¬ rk j < n + 1 := by omega
        simp only [if_neg hlt, if_neg this])
  have h1 : ¬ rk i < n := by omega
  have h2 : rk i < n + 1 := by omega
  simp only [if_neg h1, if_pos h2] at e
  exact e

omit [DecidableEq I] in
/-- At the start everything is in form `B`, -/
theorem cursor_start (h : ∀ i, n ≤ rk i) : cursor rk A B n = bigSep Finset.univ B :=
  bigSep_congr fun i _ => if_neg (Nat.not_lt.mpr (h i))

omit [DecidableEq I] in
/-- and at the end in form `A`. -/
theorem cursor_end (h : ∀ i, rk i < n) : cursor rk A B n = bigSep Finset.univ A :=
  bigSep_congr fun i _ => if_pos (h i)

omit [DecidableEq I] in
/-- Where no rank lies between, the cursor may jump. -/
theorem cursor_skip {n' : ℕ} (hn : n ≤ n') (h : ∀ i, rk i < n' → rk i < n) : cursor rk A B n = cursor rk A B n' :=
  bigSep_congr fun i _ => by
    by_cases hi : rk i < n
    · rw [if_pos hi, if_pos (lt_of_lt_of_le hi hn)]
    · rw [if_neg hi, if_neg fun h' => hi (h i h')]

end Cert.Ring

end
-- ==== Proof.Ring.Protocol.lean ====
/-
  The protocol of the kernel's devices: what every buffer holds, once written, at any time in the run, and what each
  landing hands over.

  Slot `h` of the first row buffer of device `c` holds the first half (128 rows, rounded to bf16) of the rows of the
  device `h` places BEFORE `c`; slot `h` of the second one the second half of the rows of the device `h` places AFTER it.
  Slot `i` of the peak table of `c` holds the peak of the device `i` places before `c`.

  Who pays whom, per semaphore of device `c`:
  * the barrier: one unit from the next device, with leave to write the slots `1 … 15` of that device's first buffer,
    and one from the previous device, with leave to write the slots `1 … 15` of that device's second buffer;
  * the landing semaphore of a ring transfer `(dir, h, s)`: the bytes of the piece, from the neighbour that sends it,
    with the piece `s` of slot `h + 1` holding what it should. The last piece (`s = 3`) of a slot of the second buffer
    brings also the leave to write the peak slots `h + 1 … 15` of the device `h + 1` places after `c`;
  * the read-out semaphore of a transfer of `c`: the bytes, from `c` itself, with the half share of the source it lent;
  * the landing semaphore of a peak transfer `d`: the bytes, with slot `d + 1` holding the sender's peak.
-/
module

public import proofs.«01_k».proof.Proof.Ring.Cursor
public import Idealize.ShloMosaic.Lib.ValueIdxCore

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The contents -/

section Contents

variable (m : (ℓ : Loc nD τ sig) → Buf (Elt F) ℓ)

/-- The rows device `c` was given, -/
def xs (c : Dev nD) : Vec F S256x4096 .f32 := m ((c : Thread nD τ).loc main_arg0)
/-- and the columns of the weights. -/
def ws (c : Dev nD) : Vec F S4096x512 .f32 := m ((c : Thread nD τ).loc main_arg1)

set_option backward.proofsInPublic true in
/-- The first half of the rows, -/
def lo (c : Dev nD) : Vec F S128x4096 .f32 := fun j =>
  xs m c (ix2 ⟨(j 0).val, lt_trans (idx2_lt0 j) (by decide)⟩ ⟨(j 1).val, idx2_lt1 j⟩)
set_option backward.proofsInPublic true in
/-- and the second. -/
def hi (c : Dev nD) : Vec F S128x4096 .f32 := fun j =>
  xs m c (ix2 ⟨128 + (j 0).val, by have := idx2_lt0 j; omega⟩ ⟨(j 1).val, idx2_lt1 j⟩)

/-- The first half in bf16, as a slot of the first buffer, -/
def loB (c : Dev nD) : Vec F S1x128x4096 .bf16 := k0_pay8 (lo m c)
/-- and the second half, as a slot of the second. -/
def hiB (c : Dev nD) : Vec F S1x128x4096 .bf16 := k0_pay10 (k0_pay9 (hi m c))

/-- Where the rows in slot `h` of a buffer come from. -/
def orig (b : Bool) (h : ℕ) (c : Dev nD) : Dev nD := if b then sh h c else sh (16 - h) c

/-- The slot coming from device `c`. -/
def half (b : Bool) (c : Dev nD) : Vec F S1x128x4096 .bf16 := if b then hiB m c else loB m c

set_option backward.proofsInPublic true in
/-- What the two row buffers hold. -/
def RB (c : Dev nD) (b : Bool) : Vec F S16x128x4096 .bf16 := fun i =>
  half m b (orig b (i 0).val c) (ix3 0 ⟨(i 1).val, (i 1).isLt⟩ ⟨(i 2).val, (i 2).isLt⟩)

set_option backward.proofsInPublic true in
/-- The weights in bf16, converted a quarter at a time. -/
def wbf (c : Dev nD) : Vec F S4096x512 .bf16 := fun i =>
  k0_pay11 (fun j => ws m c (ix2 ⟨1024 * ((i 0).val / 1024) + (j 0).val, by
      have h1 := idx2_lt0 i; have h2 := idx2_lt0 j; omega⟩ ⟨(j 1).val, idx2_lt1 j⟩))
    (ix2 ⟨(i 0).val % 1024, Nat.mod_lt _ (by decide)⟩ ⟨(i 1).val, idx2_lt1 i⟩)

set_option backward.proofsInPublic true in
/-- The products, all rows by the device's columns: 256 rows of each device. -/
def YB (c : Dev nD) : Vec F S4096x512 .f32 := fun i =>
  if (i 0).val % 256 < 128 then
    k0_pay3 (loB m ⟨(i 0).val / 256, by have := idx2_lt0 i; show _ < 16; omega⟩) (wbf m c)
      (ix2 ⟨(i 0).val % 128, Nat.mod_lt _ (by decide)⟩ ⟨(i 1).val, idx2_lt1 i⟩)
  else
    k0_pay5 (hiB m ⟨(i 0).val / 256, by have := idx2_lt0 i; show _ < 16; omega⟩) (wbf m c)
      (ix2 ⟨(i 0).val % 128, Nat.mod_lt _ (by decide)⟩ ⟨(i 1).val, idx2_lt1 i⟩)

/-- The running maximum after the device's own rows and `t` hops. -/
def accs (c : Dev nD) : ℕ → F .f32
  | 0 => k0_pay20 (k0_pay15 (loB m c)) (wbf m c) (hiB m c) (wbf m c)
  | t + 1 => k0_pay21 (accs c t) (k0_pay6 (loB m (orig false (t + 1) c)) (wbf m c))
      (k0_pay7 (hiB m (orig true (t + 1) c)) (wbf m c))

/-- A device's peak, spread over a slot. -/
def peak (c : Dev nD) : Vec F S1x8x128 .f32 := k0_pay22 (accs m c 15)

set_option backward.proofsInPublic true in
/-- What the peak table holds. -/
def AB (c : Dev nD) : Vec F S16x8x128 .f32 := fun i =>
  peak m (sh (16 - (i 0).val) c) (ix3 0 ⟨(i 1).val, (i 1).isLt⟩ ⟨(i 2).val, (i 2).isLt⟩)

set_option backward.proofsInPublic true in
/-- The result of the device: 256 rows at a time. -/
def OB (c : Dev nD) : Vec F S4096x512 .bf16 := fun i =>
  k0_pay1 (AB m c) (fun j => YB m c (ix2 ⟨256 * ((i 0).val / 256) + (j 0).val, by
      have h1 := idx2_lt0 i; have h2 := idx2_lt0 j; omega⟩ ⟨(j 1).val, idx2_lt1 j⟩))
    (ix2 ⟨(i 0).val % 256, Nat.mod_lt _ (by decide)⟩ ⟨(i 1).val, idx2_lt1 i⟩)

end Contents

/-! ## The pieces of memory -/

/-- The `s`-th quarter of slot `h`. -/
def pset (h s : ℕ) : Finset S16x128x4096.Idx :=
  Finset.univ.filter fun i => (i 0).val = h ∧ 32 * s ≤ (i 1).val ∧ (i 1).val < 32 * s + 32
/-- The whole slot `h`. -/
def slset (h : ℕ) : Finset S16x128x4096.Idx := Finset.univ.filter fun i => (i 0).val = h
/-- Slot `d` of the peak table. -/
def apset (d : ℕ) : Finset S16x8x128.Idx := Finset.univ.filter fun i => (i 0).val = d

/-- Elements of one of the two row buffers, held at a share with contents. -/
def rows (b : Bool) (c : Dev nD) (S : Finset S16x128x4096.Idx) (q : PosShare TreeShare) (f : Vec F S16x128x4096 .bf16) : sProp 𝕄 :=
  match b with
  | false => ((c : Thread nD τ).loc cc0_scratch0) ↦[S]{q} f
  | true => ((c : Thread nD τ).loc cc0_scratch1) ↦[S]{q} f

/-- Elements of the peak table. -/
def peaks (c : Dev nD) (S : Finset S16x8x128.Idx) (q : PosShare TreeShare) (f : Vec F S16x8x128 .f32) : sProp 𝕄 :=
  ((c : Thread nD τ).loc cc0_scratch6) ↦[S]{q} f

/-- Leave to write a piece of a row buffer, -/
def rowsAny (b : Bool) (c : Dev nD) (h s : ℕ) : sProp 𝕄 := iprop(∃ f, rows (F := F) b c (pset h s) fullShare f)
/-- or a peak slot. -/
def peakAny (c : Dev nD) (d : ℕ) : sProp 𝕄 := iprop(∃ f, peaks (F := F) c (apset d) fullShare f)

/-- Leave to write the slots `1 … 15` of a buffer. -/
def leaveRows (b : Bool) (c : Dev nD) : sProp 𝕄 :=
  bigSep Finset.univ fun hs : Fin 15 × Fin 4 => rowsAny (F := F) b c (hs.1.val + 1) hs.2.val

/-- Leave to write the peak slots `n + 1 … 15` of a device. -/
def leavePeaks (c : Dev nD) (n : ℕ) : sProp 𝕄 :=
  bigSep (Finset.univ.filter fun d : Fin 15 => n ≤ d.val) fun d => peakAny (F := F) c (d.val + 1)

instance rows_storable (b c S q f) : Storable (upEmb : UEmb _ 𝕄) (rows (F := F) b c S q f) := by
  cases b <;> (unfold rows; infer_instance)
instance peaks_storable (c S q f) : Storable (upEmb : UEmb _ 𝕄) (peaks (F := F) c S q f) := by
  unfold peaks; infer_instance
instance rowsAny_storable (b c h s) : Storable (upEmb : UEmb _ 𝕄) (rowsAny (F := F) b c h s) := by
  unfold rowsAny; infer_instance
instance peakAny_storable (c d) : Storable (upEmb : UEmb _ 𝕄) (peakAny (F := F) c d) := by
  unfold peakAny; infer_instance
instance leaveRows_storable (b c) : Storable (upEmb : UEmb _ 𝕄) (leaveRows (F := F) b c) := by
  unfold leaveRows; infer_instance
instance leavePeaks_storable (c n) : Storable (upEmb : UEmb _ 𝕄) (leavePeaks (F := F) c n) := by
  unfold leavePeaks; infer_instance

/-! ## What the landings hand over -/

section Schedule

variable (m : (ℓ : Loc nD τ sig) → Buf (Elt F) ℓ)

/-- What comes along with a ring transfer besides its piece, landing on `c`. -/
def along (c : Dev nD) : RX → sProp 𝕄
  | (b, h, s) => if b = true ∧ s.val = 3 then leavePeaks (F := F) (sh (h.val + 1) c) h.val else iprop(emp)

/-- What the landing of a transfer hands device `c`, -/
def landed (c : Dev nD) : X → sProp 𝕄
  | .inl (b, h, s) => iprop(rows b c (pset (h.val + 1) s.val) fullShare (RB m c b) ∗ along (F := F) c (b, h, s))
  | .inr d => peaks c (apset (d.val + 1)) fullShare (AB m c)

/-- and what its reading out hands its issuer back. -/
def lent (c : Dev nD) : X → sProp 𝕄
  | .inl (b, h, s) => rows b c (pset h.val s.val) fullShare.left (RB m c b)
  | .inr d => peaks c (apset 0) (Transfers.shareTokN fullShare d.val) (AB m c)

/-- What the barrier's units hand `c`. -/
def barPay (c : Dev nD) (d : Bool) : sProp 𝕄 := if d then leaveRows (F := F) false (sh 1 c) else leaveRows (F := F) true (sh 15 c)

instance along_storable (c x) : Storable (upEmb : UEmb _ 𝕄) (along (F := F) c x) := by
  obtain ⟨b, h, s⟩ := x
  show Storable _ (if b = true ∧ s.val = 3 then leavePeaks (F := F) (sh (h.val + 1) c) h.val else iprop(emp))
  by_cases hh : b = true ∧ s.val = 3
  · rw [if_pos hh]; infer_instance
  · rw [if_neg hh]; infer_instance
instance landed_storable (c x) : Storable (upEmb : UEmb _ 𝕄) (landed m c x) := by
  rcases x with ⟨b, h, s⟩ | d
  · haveI := along_storable (F := F) c (b, h, s)
    exact (inferInstance : Storable (upEmb : UEmb _ 𝕄)
      iprop(rows b c (pset (h.val + 1) s.val) fullShare (RB m c b) ∗ along (F := F) c (b, h, s)))
  · exact peaks_storable ..
instance lent_storable (c x) : Storable (upEmb : UEmb _ 𝕄) (lent m c x) := by
  rcases x with ⟨b, h, s⟩ | d
  · exact rows_storable ..
  · exact peaks_storable ..
instance barPay_storable (c d) : Storable (upEmb : UEmb _ 𝕄) (barPay (F := F) c d) := by
  unfold barPay; split <;> infer_instance

/-- The memref of a piece. -/
abbrev pcM (M : Memref sig .tc .vmem S16x128x4096 .bf16) (off : Fin 3 → ℕ)
    (inb : ∀ a, off a + S1x32x4096.size a ≤ S16x128x4096.size a) : Memref sig .tc .vmem S32x4096 .bf16 :=
  (M.slice (Rect.unit (s := S16x128x4096) off S1x32x4096.size inb) (fun _ => rfl)).squeeze S32x4096 squeezes_S1x32x4096_S32x4096

/-- The memref of a peak slot. -/
abbrev pkM (M : Memref sig .tc .vmem S16x8x128 .f32) (off : Fin 3 → ℕ)
    (inb : ∀ a, off a + S1x8x128.size a ≤ S16x8x128.size a) : Memref sig .tc .vmem S8x128 .f32 :=
  (M.slice (Rect.unit (s := S16x8x128) off S1x8x128.size inb) (fun _ => rfl)).squeeze S8x128 squeezes_S1x8x128_S8x128

/-- The two row buffers. -/
abbrev rM (b : Bool) : Memref sig .tc .vmem S16x128x4096 .bf16 :=
  match b with
  | false => Memref.whole cc0_scratch0
  | true => Memref.whole cc0_scratch1

/-- The peak table. -/
abbrev pM : Memref sig .tc .vmem S16x8x128 .f32 := Memref.whole cc0_scratch6

set_option backward.proofsInPublic true in
/-- The units a transfer's landing counts. -/
def amt : X → ℕ
  | .inl (b, _, _) => (pcM (rM b) ![0, 0, 0] inb_S16x128x4096_S1x32x4096_0_0_0).view.dmaCredit
  | .inr _ => (pkM pM ![0, 0, 0] inb_S16x8x128_S1x8x128_0_0_0).view.dmaCredit

theorem amt_ring (b : Bool) (h : Fin 15) (s : Fin 4) (off : Fin 3 → ℕ) (inb) :
    (pcM (rM b) off inb).view.dmaCredit = amt (.inl (b, h, s)) := by cases b <;> rfl
theorem amt_peak (d : Fin 15) (off : Fin 3 → ℕ) (inb) : (pkM pM off inb).view.dmaCredit = amt (.inr d) := rfl

theorem amt_pos (x : X) : 0 < amt x := by
  rcases x with ⟨b, h, s⟩ | d
  · exact View.dmaCredit_pos _ (by decide)
  · exact View.dmaCredit_pos _ (by decide)

/-- The duties of a cell by its name, -/
def dutiesOf : Option K → Finset Bool
  | some none => Finset.univ
  | some (some _) => {false}
  | none => ∅
/-- their amounts, -/
def amountOf : Option K → ℕ
  | some (some (_, x)) => amt x
  | some none => 1
  | none => 1
/-- and what they hand over. -/
def payloadOf (c : Dev nD) (d : Bool) : Option K → sProp 𝕄
  | some none => barPay c d
  | some (some (false, x)) => lent m c x
  | some (some (true, x)) => landed m c x
  | none => iprop(emp)

theorem amountOf_pos (k : Option K) : 0 < amountOf k := by
  rcases k with _ | _ | ⟨b, x⟩
  · exact Nat.one_pos
  · exact Nat.one_pos
  · exact amt_pos x

/-- One round on every cell: the two signals on the barrier, one transfer on each of the others. -/
def Rd : Rounds.Schedule (GSem nD τ sig) Bool 𝕄 where
  duties g r := if r = 0 then (if g.1.2 = .tc then dutiesOf (nameOf g.2) else ∅) else ∅
  amount g _ _ := amountOf (nameOf g.2)
  payload g _ d := payloadOf m g.1.1 d (nameOf g.2)
  unitless := fun _ => False
  amount_pos g r d _ := amountOf_pos _

instance Rd_storable (g : GSem nD τ sig) (r : ℕ) (d : Bool) : Storable (upEmb : UEmb _ 𝕄) ((Rd m).payload g r d) := by
  show Storable _ (payloadOf m g.1.1 d (nameOf g.2))
  rcases nameOf g.2 with _ | _ | ⟨_ | _, x⟩
  · exact (inferInstance : Storable (upEmb : UEmb _ 𝕄) iprop(emp))
  · exact barPay_storable ..
  · exact lent_storable ..
  · exact landed_storable ..

theorem duties_of {c : Dev nD} {k : K} : (Rd m).duties (cell c k) 0 = dutiesOf (some k) := by
  show (if 0 = 0 then (if (Proc.tc : Proc τ) = Proc.tc then dutiesOf (nameOf (csem k)) else ∅) else ∅) = _
  rw [if_pos rfl, if_pos rfl, nameOf_csem]
theorem duties_bar (c : Dev nD) : (Rd m).duties (barC c) 0 = Finset.univ := duties_of m (k := none)
theorem duties_snd (c : Dev nD) (x : X) : (Rd m).duties (sndC c x) 0 = {false} := duties_of m (k := some (false, x))
theorem duties_rcv (c : Dev nD) (x : X) : (Rd m).duties (rcvC c x) 0 = {false} := duties_of m (k := some (true, x))
theorem duties_later (g : GSem nD τ sig) : ∀ r, 1 ≤ r → (Rd m).duties g r = ∅ := fun r hr => by
  show (if r = 0 then _ else ∅) = ∅
  exact if_neg (by omega)
theorem amount_bar (c : Dev nD) (r d) : (Rd m).amount (barC c) r d = 1 := congrArg amountOf nameOf_bar
theorem amount_snd (c : Dev nD) (x : X) (r d) : (Rd m).amount (sndC c x) r d = amt x := congrArg amountOf (nameOf_snd x)
theorem amount_rcv (c : Dev nD) (x : X) (r d) : (Rd m).amount (rcvC c x) r d = amt x := congrArg amountOf (nameOf_rcv x)
theorem payload_bar (c : Dev nD) (r d) : (Rd m).payload (barC c) r d = barPay c d := congrArg (payloadOf m c d) nameOf_bar
theorem payload_snd (c : Dev nD) (x : X) (r d) : (Rd m).payload (sndC c x) r d = lent m c x :=
  congrArg (payloadOf m c d) (nameOf_snd x)
theorem payload_rcv (c : Dev nD) (x : X) (r d) : (Rd m).payload (rcvC c x) r d = landed m c x :=
  congrArg (payloadOf m c d) (nameOf_rcv x)
theorem expect_bar (c : Dev nD) : (Rd m).expect (barC c) 0 = 2 := by
  unfold Rounds.Schedule.expect Rounds.Schedule.amountOf; rw [duties_bar, Finset.sum_congr rfl fun d _ => amount_bar m c 0 d]; rfl
theorem expect_snd (c : Dev nD) (x : X) : (Rd m).expect (sndC c x) 0 = amt x := by
  unfold Rounds.Schedule.expect Rounds.Schedule.amountOf; rw [duties_snd, Finset.sum_singleton, amount_snd]
theorem expect_rcv (c : Dev nD) (x : X) : (Rd m).expect (rcvC c x) 0 = amt x := by
  unfold Rounds.Schedule.expect Rounds.Schedule.amountOf; rw [duties_rcv, Finset.sum_singleton, amount_rcv]

end Schedule

/-! ## The levels, and what a device owes -/

/-- Every cell of a core has the one index. -/
def L : GSem nD τ sig → Finset Unit := fun g => if g.1.2 = .tc then {()} else ∅

/-- Local and read-out semaphores lowest, then the barrier, then the landings hop by hop, the peaks last. -/
def lvOf : Option K → ℕ
  | some none => 1
  | some (some (true, .inl (_, h, _))) => 2 + h.val
  | some (some (true, .inr _)) => 20
  | some (some (false, _)) => 0
  | none => 0

/-- The level of a cell. -/
def lv : GSem nD τ sig → Unit → ℕ := fun g _ => lvOf (nameOf g.2)

theorem mem_L (c : Dev nD) (sm : SemLoc sig) : () ∈ L ((c : Thread nD τ), sm) := by
  unfold L; rw [if_pos rfl]; exact Finset.mem_singleton_self _

theorem lv_bar (c : Dev nD) : lv (barC c) () = 1 := congrArg lvOf nameOf_bar
theorem lv_snd (c : Dev nD) (x : X) : lv (sndC c x) () = 0 := congrArg lvOf (nameOf_snd x)
theorem lv_ring (c : Dev nD) (b h s) : lv (rcvC c (.inl (b, h, s))) () = 2 + h.val := congrArg lvOf (nameOf_rcv _)
theorem lv_peak (c : Dev nD) (d) : lv (rcvC c (.inr d)) () = 20 := congrArg lvOf (nameOf_rcv _)

/-- What the device still owes once its first `n` transfers are issued. -/
def owed (c : Dev nD) (n : ℕ) : CellTallies nD τ sig Unit :=
  ∑ x ∈ Finset.univ.filter (fun x : X => n ≤ rank x), tallyAt (rcvC (tgt x c) x) () (amt x)

theorem owed_step (c : Dev nD) (x : X) {n : ℕ} (h : rank x = n) :
    owed c n = owed c (n + 1) + tallyAt (rcvC (tgt x c) x) () (amt x) := by
  have e : (Finset.univ.filter fun y : X => n ≤ rank y) = insert x (Finset.univ.filter fun y : X => n + 1 ≤ rank y) := by
    ext y
    simp only [Finset.mem_filter, Finset.mem_univ, true_and, Finset.mem_insert]
    constructor
    · intro hy
      by_cases hxy : y = x
      · exact .inl hxy
      · right; have : rank y ≠ rank x := fun e => hxy (rank_inj e); omega
    · rintro (rfl | hy) <;> omega
  unfold owed
  rw [e, Finset.sum_insert (by simp [h]), add_comm]

theorem owed_end (c : Dev nD) : owed c 135 = 0 := by
  unfold owed
  rw [Finset.filter_eq_empty_iff.mpr (fun x _ => by have := rank_lt x; omega)]; rfl

/-- What the device owes at launch: all its transfers, and its two signals, the one to the previous device first. -/
def O₀ (c : Dev nD) : CellTallies nD τ sig Unit :=
  (owed c 0 + tallyAt (barC (sh 1 c)) () 1) + tallyAt (barC (sh 15 c)) () 1

/-- A unit still owed sits on the landing of a transfer not yet issued. -/
theorem owed_pos {c : Dev nD} {n : ℕ} {g : GSem nD τ sig} {i : Unit} (h : 0 < owed c n g i) :
    ∃ x : X, n ≤ rank x ∧ g = rcvC (tgt x c) x := by
  obtain ⟨x, hx, hp⟩ := Pipeline.sum_pos_exists h
  exact ⟨x, (Finset.mem_filter.mp hx).2, (Pipeline.tallyAt_pos hp).1⟩

end Cert.Ring

end
-- ==== Proof.Ring.Geometry.lean ====
/-
  Where the views of the row buffers and of the peak table lie, and what a landing leaves there: the piece a device
  receives holds, at the receiver, what the protocol says it holds.
-/
module

public import proofs.«01_k».proof.Proof.Ring.Protocol

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Rectangles of the row buffers and of the peak table -/

theorem mem_pset {h s : ℕ} {i : S16x128x4096.Idx} :
    i ∈ pset h s ↔ (i 0).val = h ∧ 32 * s ≤ (i 1).val ∧ (i 1).val < 32 * s + 32 := by
  unfold pset; rw [Finset.mem_filter]; exact ⟨fun h => h.2, fun h => ⟨Finset.mem_univ _, h⟩⟩
theorem mem_slset {h : ℕ} {i : S16x128x4096.Idx} : i ∈ slset h ↔ (i 0).val = h := by
  unfold slset; rw [Finset.mem_filter]; exact ⟨fun h => h.2, fun h => ⟨Finset.mem_univ _, h⟩⟩
theorem mem_apset {d : ℕ} {i : S16x8x128.Idx} : i ∈ apset d ↔ (i 0).val = d := by
  unfold apset; rw [Finset.mem_filter]; exact ⟨fun h => h.2, fun h => ⟨Finset.mem_univ _, h⟩⟩

/-- A quarter of a slot as a rectangle, -/
theorem rect_piece {off : Fin 3 → ℕ} {inb : ∀ a, off a + S1x32x4096.size a ≤ S16x128x4096.size a} {h s : ℕ}
    (ho : off = ![h, 32 * s, 0]) : (Rect.unit (s := S16x128x4096) off S1x32x4096.size inb).set = pset h s := by
  subst ho
  ext i
  rw [Rect.mem_set_unit, mem_pset]
  constructor
  · intro H
    have h0 := H 0; have h1 := H 1
    simp at h0 h1
    exact ⟨by omega, by omega, by omega⟩
  · rintro ⟨h0, h1, h2⟩ a
    have h3 : (i 2).val < 4096 := (i 2).isLt
    match a with
    | ⟨0, _⟩ => exact ⟨by show h ≤ (i 0).val; omega, by show (i 0).val < h + 1; omega⟩
    | ⟨1, _⟩ => exact ⟨h1, h2⟩
    | ⟨2, _⟩ => exact ⟨Nat.zero_le _, by show (i 2).val < 0 + 4096; omega⟩

/-- a slot as a rectangle, -/
theorem rect_slot {off : Fin 3 → ℕ} {inb : ∀ a, off a + S1x128x4096.size a ≤ S16x128x4096.size a} {h : ℕ}
    (ho : off = ![h, 0, 0]) : (Rect.unit (s := S16x128x4096) off S1x128x4096.size inb).set = slset h := by
  subst ho
  ext i
  rw [Rect.mem_set_unit, mem_slset]
  constructor
  · intro H
    have h0 := H 0
    simp at h0
    omega
  · rintro h0 a
    have h3 : (i 1).val < 128 := (i 1).isLt
    have h4 : (i 2).val < 4096 := (i 2).isLt
    match a with
    | ⟨0, _⟩ => exact ⟨by show h ≤ (i 0).val; omega, by show (i 0).val < h + 1; omega⟩
    | ⟨1, _⟩ => exact ⟨Nat.zero_le _, by show (i 1).val < 0 + 128; omega⟩
    | ⟨2, _⟩ => exact ⟨Nat.zero_le _, by show (i 2).val < 0 + 4096; omega⟩

/-- a peak slot as a rectangle. -/
theorem rect_peak {off : Fin 3 → ℕ} {inb : ∀ a, off a + S1x8x128.size a ≤ S16x8x128.size a} {d : ℕ}
    (ho : off = ![d, 0, 0]) : (Rect.unit (s := S16x8x128) off S1x8x128.size inb).set = apset d := by
  subst ho
  ext i
  rw [Rect.mem_set_unit, mem_apset]
  constructor
  · intro H
    have h0 := H 0
    simp at h0
    omega
  · rintro h0 a
    have h3 : (i 1).val < 8 := (i 1).isLt
    have h4 : (i 2).val < 128 := (i 2).isLt
    match a with
    | ⟨0, _⟩ => exact ⟨by show d ≤ (i 0).val; omega, by show (i 0).val < d + 1; omega⟩
    | ⟨1, _⟩ => exact ⟨Nat.zero_le _, by show (i 1).val < 0 + 8; omega⟩
    | ⟨2, _⟩ => exact ⟨Nat.zero_le _, by show (i 2).val < 0 + 128; omega⟩

/-! ## The views -/

/-- Contents of a row buffer, as the view's buffer's. -/
def asBuf (b : Bool) (c : Dev nD) (off : Fin 3 → ℕ) (inb) (f : Vec F S16x128x4096 .bf16) :
    Buf (Elt F) ((pcM (rM b) off inb).view.loc (c : Thread nD τ)) :=
  match b with
  | false => f
  | true => f

theorem pcM_set (b : Bool) {off : Fin 3 → ℕ} {inb} {h s : ℕ} (ho : off = ![h, 32 * s, 0]) :
    (pcM (rM b) off inb).view.set = (match b with | false => pset h s | true => pset h s) := by
  cases b
  · exact (View.set_reshape _ _).trans ((View.set_slice_whole _ _).trans (rect_piece ho))
  · exact (View.set_reshape _ _).trans ((View.set_slice_whole _ _).trans (rect_piece ho))

/-- A piece held through its memref. -/
theorem rows_view (b : Bool) (c : Dev nD) {off : Fin 3 → ℕ} {inb} {h s : ℕ} (ho : off = ![h, 32 * s, 0])
    (q : PosShare TreeShare) (f : Vec F S16x128x4096 .bf16) :
    rows (F := F) b c (pset h s) q f
      = ((pcM (rM b) off inb).view.loc (c : Thread nD τ) ↦[(pcM (rM b) off inb).view.set]{q} asBuf b c off inb f) := by
  rw [pcM_set b ho]
  cases b <;> rfl

set_option backward.proofsInPublic true in
/-- The place in a row buffer of an element of a piece. -/
def pcAt (off : Fin 3 → ℕ) (inb : ∀ a, off a + S1x32x4096.size a ≤ S16x128x4096.size a) (j : S32x4096.Idx) : S16x128x4096.Idx :=
  (Rect.unit (s := S16x128x4096) off S1x32x4096.size inb).emb (Shape.reshapeEquiv squeezes_S1x32x4096_S32x4096.numel_eq j)

set_option backward.proofsInPublic true in
/-- The place in the peak table of an element of a slot. -/
def pkAt (off : Fin 3 → ℕ) (inb : ∀ a, off a + S1x8x128.size a ≤ S16x8x128.size a) (j : S8x128.Idx) : S16x8x128.Idx :=
  (Rect.unit (s := S16x8x128) off S1x8x128.size inb).emb (Shape.reshapeEquiv squeezes_S1x8x128_S8x128.numel_eq j)

theorem pcAt_val (off : Fin 3 → ℕ) (inb) (j : S32x4096.Idx) (a : Fin 3) : (pcAt off inb j a).val
    = off a + ((Shape.reshapeEquiv squeezes_S1x32x4096_S32x4096.numel_eq j : S1x32x4096.Idx) a).val := by
  show off a + 1 * _ = _
  rw [Nat.one_mul]
theorem pcAt_zero (off : Fin 3 → ℕ) (inb) (j : S32x4096.Idx) : (pcAt off inb j 0).val = off 0 := by
  rw [pcAt_val]
  have : ((Shape.reshapeEquiv squeezes_S1x32x4096_S32x4096.numel_eq j : S1x32x4096.Idx) 0).val < 1 :=
    ((Shape.reshapeEquiv squeezes_S1x32x4096_S32x4096.numel_eq j : S1x32x4096.Idx) 0).isLt
  omega
theorem pkAt_val (off : Fin 3 → ℕ) (inb) (j : S8x128.Idx) (a : Fin 3) : (pkAt off inb j a).val
    = off a + ((Shape.reshapeEquiv squeezes_S1x8x128_S8x128.numel_eq j : S1x8x128.Idx) a).val := by
  show off a + 1 * _ = _
  rw [Nat.one_mul]
theorem pkAt_zero (off : Fin 3 → ℕ) (inb) (j : S8x128.Idx) : (pkAt off inb j 0).val = off 0 := by
  rw [pkAt_val]
  have : ((Shape.reshapeEquiv squeezes_S1x8x128_S8x128.numel_eq j : S1x8x128.Idx) 0).val < 1 :=
    ((Shape.reshapeEquiv squeezes_S1x8x128_S8x128.numel_eq j : S1x8x128.Idx) 0).isLt
  omega

/-- The contents one hop on. -/
theorem RB_hop (m : (ℓ : Loc nD τ sig) → Buf (Elt F) ℓ) (b : Bool) (c : Dev nD) {h : ℕ} (hh : h < 15)
    {i i' : S16x128x4096.Idx} (h0 : (i 0).val = h) (h0' : (i' 0).val = h + 1) (h1 : (i' 1).val = (i 1).val)
    (h2 : (i' 2).val = (i 2).val) : RB m c b i = RB m (sh (if b then 15 else 1) c) b i' := by
  have e : orig b (i 0).val c = orig b (i' 0).val (sh (if b then 15 else 1) c) := by
    rw [h0, h0']
    cases b
    · show sh (16 - h) c = sh (16 - (h + 1)) (sh 1 c)
      rw [sh_sh]; exact sh_mod (by omega) c
    · show sh h c = sh (h + 1) (sh 15 c)
      rw [sh_sh]; exact sh_mod (by omega) c
  unfold RB
  rw [e]
  congr 1
  exact congrArg₂ (ix3 0) (Fin.ext h1.symm) (Fin.ext h2.symm)

/-- A piece landed at the next device holds what it is to hold. -/
theorem landing_rows (m : (ℓ : Loc nD τ sig) → Buf (Elt F) ℓ) (b : Bool) (c : Dev nD) {h s : ℕ} (hh : h < 15)
    {offs offd : Fin 3 → ℕ} {inbs inbd} (hs : offs = ![h, 32 * s, 0]) (hd : offd = ![h + 1, 32 * s, 0])
    (fd : Buf (Elt F) ((pcM (rM b) offd inbd).view.loc ((sh (if b then 15 else 1) c : Dev nD) : Thread nD τ))) :
    ((pcM (rM b) offd inbd).view.loc ((sh (if b then 15 else 1) c : Dev nD) : Thread nD τ)
        ↦[(pcM (rM b) offd inbd).view.set]{fullShare}
        (pcM (rM b) offd inbd).view.write (Elt F) fd
          ((pcM (rM b) offs inbs).view.read (Elt F) (asBuf b c offs inbs (RB m c b))) Finset.univ)
      = (rows (F := F) b (sh (if b then 15 else 1) c) (pset (h + 1) s) fullShare
          (RB m (sh (if b then 15 else 1) c) b)) := by
  rw [rows_view b _ hd]
  refine pointsTo_congr fun i hi => ?_
  obtain ⟨j, -, rfl⟩ := Finset.mem_map.mp hi
  subst hs; subst hd
  rw [View.write_emb_of_mem _ _ (Finset.mem_univ _)]
  cases b
  · refine RB_hop m false c hh (i := pcAt _ _ j) (i' := pcAt _ _ j) (pcAt_zero _ inbs j) (pcAt_zero _ inbd j) ?_ ?_
    · rw [pcAt_val, pcAt_val]; rfl
    · rw [pcAt_val, pcAt_val]; rfl
  · refine RB_hop m true c hh (i := pcAt _ _ j) (i' := pcAt _ _ j) (pcAt_zero _ inbs j) (pcAt_zero _ inbd j) ?_ ?_
    · rw [pcAt_val, pcAt_val]; rfl
    · rw [pcAt_val, pcAt_val]; rfl

/-! ## The peak table -/

theorem pkM_set {off : Fin 3 → ℕ} {inb} {d : ℕ} (ho : off = ![d, 0, 0]) : (pkM pM off inb).view.set = apset d :=
  (View.set_reshape _ _).trans ((View.set_slice_whole _ _).trans (rect_peak ho))

/-- A peak slot held through its memref. -/
theorem peaks_view (c : Dev nD) {off : Fin 3 → ℕ} {inb} {d : ℕ} (ho : off = ![d, 0, 0])
    (q : PosShare TreeShare) (f : Vec F S16x8x128 .f32) :
    peaks (F := F) c (apset d) q f
      = ((pkM pM off inb).view.loc (c : Thread nD τ) ↦[(pkM pM off inb).view.set]{q} f) := by
  rw [pkM_set ho]; rfl

theorem AB_hop (m : (ℓ : Loc nD τ sig) → Buf (Elt F) ℓ) (c : Dev nD) {d : ℕ} (hd : d < 15)
    {i i' : S16x8x128.Idx} (h0 : (i 0).val = 0) (h0' : (i' 0).val = d + 1) (h1 : (i' 1).val = (i 1).val)
    (h2 : (i' 2).val = (i 2).val) : AB m c i = AB m (sh (d + 1) c) i' := by
  have e : sh (16 - (i 0).val) c = sh (16 - (i' 0).val) (sh (d + 1) c) := by
    rw [h0, h0', sh_sh]; exact sh_mod (by omega) c
  unfold AB
  rw [e]
  congr 1
  exact congrArg₂ (ix3 0) (Fin.ext h1.symm) (Fin.ext h2.symm)

/-- A peak landed at another device is that device's slot. -/
theorem landing_peak (m : (ℓ : Loc nD τ sig) → Buf (Elt F) ℓ) (c : Dev nD) {d : ℕ} (hd : d < 15)
    {offs offd : Fin 3 → ℕ} {inbs inbd} (hs : offs = ![0, 0, 0]) (ho : offd = ![d + 1, 0, 0])
    (fd : Buf (Elt F) ((pkM pM offd inbd).view.loc ((sh (d + 1) c : Dev nD) : Thread nD τ))) :
    ((pkM pM offd inbd).view.loc ((sh (d + 1) c : Dev nD) : Thread nD τ)
        ↦[(pkM pM offd inbd).view.set]{fullShare}
        (pkM pM offd inbd).view.write (Elt F) fd ((pkM pM offs inbs).view.read (Elt F) (AB m c)) Finset.univ)
      = (peaks (F := F) (sh (d + 1) c) (apset (d + 1)) fullShare (AB m (sh (d + 1) c))) := by
  rw [peaks_view _ ho]
  refine pointsTo_congr fun i hi => ?_
  obtain ⟨j, -, rfl⟩ := Finset.mem_map.mp hi
  subst hs; subst ho
  rw [View.write_emb_of_mem _ _ (Finset.mem_univ _)]
  refine AB_hop m c hd (i := pkAt _ _ j) (i' := pkAt _ _ j) (pkAt_zero _ inbs j) (pkAt_zero _ inbd j) ?_ ?_
  · rw [pkAt_val, pkAt_val]; rfl
  · rw [pkAt_val, pkAt_val]; rfl

end Cert.Ring

end
-- ==== Proof.Ring.Steps.lean ====
/-
  The steps of the protocol: one lemma per kind of transfer and per kind of wait, over the state of a device's talk.
-/
module

public import proofs.«01_k».proof.Proof.Ring.Geometry
public import proofs.«01_k».proof.Proof.Ring.Cursor

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores by their place -/

/-- The arrays of read-out semaphores of the two rings, -/
abbrev sA (b : Bool) : DmaSems sig S16x4 := match b with | false => cc0_scratch2 | true => cc0_scratch4
/-- and of landing semaphores. -/
abbrev rA (b : Bool) : DmaSems sig S16x4 := match b with | false => cc0_scratch3 | true => cc0_scratch5

/-- One semaphore of such an array, -/
abbrev semAt (A : DmaSems sig S16x4) (off : Fin 2 → ℕ) (inb : ∀ a, off a + S1x1.size a ≤ S16x4.size a) : DmaSem sig :=
  ((A.slice (Rect.unit (s := S16x4) off S1x1.size inb)).squeeze S_ squeezes_S1x1_S_).sem
/-- and of an array of sixteen. -/
abbrev semAt1 (A : DmaSems sig S16) (off : Fin 1 → ℕ) (inb : ∀ a, off a + S1.size a ≤ S16.size a) : DmaSem sig :=
  ((A.slice (Rect.unit (s := S16) off S1.size inb)).squeeze S_ squeezes_S1_S_).sem

theorem snd_at (b : Bool) (h : Fin 15) (s : Fin 4) {off : Fin 2 → ℕ} {inb} (ho : off = ![h.val, s.val]) :
    semAt (sA b) off inb = sndS (.inl (b, h, s)) := by
  subst ho
  revert b h s
  decide

theorem rcv_at (b : Bool) (h : Fin 15) (s : Fin 4) {off : Fin 2 → ℕ} {inb} (ho : off = ![h.val + 1, s.val]) :
    semAt (rA b) off inb = rcvS (.inl (b, h, s)) := by
  subst ho
  revert b h s
  decide

theorem psnd_at (d : Fin 15) {off : Fin 1 → ℕ} {inb} (ho : off = ![d.val + 1]) :
    semAt1 cc0_scratch7 off inb = sndS (.inr d) := by
  subst ho
  revert d
  decide

theorem prcv_at (d : Fin 15) {off : Fin 1 → ℕ} {inb} (ho : off = ![d.val + 1]) :
    semAt1 cc0_scratch8 off inb = rcvS (.inr d) := by
  subst ho
  revert d
  decide

/-! ## The state of a device's talk -/

section Talk

variable (m : (ℓ : Loc nD τ sig) → Buf (Elt F) ℓ) (κ : Dev nD × K → ℕ)

/-- What everybody knows: each cell's protocol, begun. -/
def recs : sProp 𝕄 :=
  bigSep Finset.univ fun p : Dev nD × K => iprop(cellInv ER (Rd m) (κ p) (cell p.1 p.2) ∗ reached ER (cell p.1 p.2) 0)

instance recs_persistent : Persistent (recs m κ) := by unfold recs; infer_instance

theorem recs_at (c : Dev nD) (k : K) : recs m κ ⊢ iprop(cellInv ER (Rd m) (κ (c, k)) (cell c k) ∗ reached ER (cell c k) 0) := by
  unfold recs
  classical exact bigSep_elim (Finset.mem_univ (c, k))

/-- Leave to write what a transfer writes (a peak's comes later). -/
def perm (c : Dev nD) : X → sProp 𝕄
  | .inl (b, h, s) => rowsAny (F := F) b (tgt (.inl (b, h, s)) c) (h.val + 1) s.val
  | .inr _ => iprop(emp)

/-- Before a transfer is issued: its tokens, the position on its read-out cell, the leave to write; -/
def sentB (c : Dev nD) (x : X) : sProp 𝕄 :=
  iprop((dutyTok ER (sndC c x) 0 false ∗ dutyTok ER (rcvC (tgt x c) x) 0 false) ∗ atPos ER (sndC c x) 0 ∅ 0 ∗ perm (F := F) c x)
/-- once issued: the right to wait for its reading out. -/
def sentA (c : Dev nD) (x : X) : sProp 𝕄 :=
  iprop(cred (tallyAt (sndC c x) () (amt x)) ∗ atPos ER (sndC c x) 0 ∅ 0)
/-- Before a landing is waited for, -/
def gotB (c : Dev nD) (x : X) : sProp 𝕄 :=
  iprop(cred (tallyAt (rcvC c x) () (amt x)) ∗ atPos ER (rcvC c x) 0 ∅ 0)
/-- and after. -/
def gotA (c : Dev nD) (x : X) : sProp 𝕄 := semVal (rcvC c x) 0
/-- A transfer whose reading out was waited for. -/
def backA (c : Dev nD) (x : X) : sProp 𝕄 := iprop(semVal (sndC c x) 0 ∗ lent m c x)

/-- The state with `ns` transfers issued and `nr` landings waited for. -/
def St (c : Dev nD) (ns nr : ℕ) : sProp 𝕄 :=
  iprop(recs m κ ∗ levAts L lv ∗ (∃ W, owes (c : Thread nD τ) (owed c ns) W)
    ∗ cursor rank (sentA (F := F) c) (sentB (F := F) c) ns ∗ cursor rank (gotA (F := F) c) (gotB (F := F) c) nr)

/-- A piece goes on to the next device of its ring. -/
theorem step_send (c : Dev nD) (b : Bool) (h : Fin 15) (s : Fin 4) {ns nr : ℕ} (hn : rank (.inl (b, h, s)) = ns)
    {offs offd : Fin 3 → ℕ} {inbs inbd} (hs : offs = ![h.val, 32 * s.val, 0]) (hd : offd = ![h.val + 1, 32 * s.val, 0])
    {n : Dev nD} (hdev : n = tgt (.inl (b, h, s)) c) {sS sR : DmaSem sig} (hsS : sS = sndS (.inl (b, h, s)))
    (hsR : sR = rcvS (.inl (b, h, s)))
    {hsc : (pcM (rM b) offd inbd : Memref sig (Dev.tc n : Thread nD τ).2.kind .vmem S32x4096 .bf16).view.ref.isScScratch = false}
    {hsrc : (pcM (rM b) offs inbs).view.WordExact} {hdst : (pcM (rM b) offd inbd).view.WordExact}
    {hsem : DmaTarget.Typed .vmem (.dma sR) (.remote (Dev.tc n : Thread nD τ) (pcM (rM b) offd inbd) (.dma sS) hsc)}
    {α : Type} {Q : α → sProp 𝕄} {k : PUnit → Prog (TpuEff nD τ sig (Elt F) Λ₀ .tc) α} :
    iprop(St m κ c ns nr ∗ rows b c (pset h.val s.val) fullShare.left (RB m c b) ∗ along (F := F) (tgt (.inl (b, h, s)) c) (b, h, s))
      ⊢ iprop((St m κ c (ns + 1) nr -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pcM (rM b) offs inbs) (.remote (Dev.tc n : Thread nD τ) (pcM (rM b) offd inbd) (.dma sS) hsc) (.dma sR)
                hsrc hdst hsem) k) Q) := by
  subst hdev; subst hsS; subst hsR
  iintro ⟨HS, Hp, HF⟩ Hk
  unfold St
  icases HS with ⟨#HR, #HL, ⟨%W, HO⟩, Hsnd, Hrcv⟩
  ihave ⟨HB, Hclose⟩ := (cursor_take rank_inj (.inl (b, h, s)) hn) $$ Hsnd
  unfold sentB
  icases HB with ⟨⟨HtS, HtR⟩, Hat, Hperm⟩
  ihave #⟨HIs, Hrs⟩ := (recs_at m κ c (some (false, .inl (b, h, s)))) $$ HR
  ihave #⟨HIr, Hrr⟩ := (recs_at m κ (tgt (.inl (b, h, s)) c) (some (true, .inl (b, h, s)))) $$ HR
  ihave Hperm := (show perm (F := F) c (.inl (b, h, s)) ⊢ rowsAny b (tgt (.inl (b, h, s)) c) (h.val + 1) s.val from .rfl) $$ Hperm
  unfold rowsAny
  icases Hperm with ⟨%fd, Hperm⟩
  ihave Hp := (Entails.of_eq (rows_view (F := F) b c hs fullShare.left (RB m c b) (inb := inbs))) $$ Hp
  ihave Hperm := (Entails.of_eq (rows_view (F := F) b (tgt (.inl (b, h, s)) c) hd fullShare fd (inb := inbd))) $$ Hperm
  iapply (wp_send_pointsTo_with 𝒱₀ ER (Rd m) (c : Thread nD τ) none (κ₁ := κ (c, some (false, .inl (b, h, s))))
    (κ₂ := κ (tgt (.inl (b, h, s)) c, some (true, .inl (b, h, s)))) (r₁ := 0) (r₂ := 0) (d₁ := false) (d₂ := false)
    (fs := asBuf b c offs inbs (RB m c b)) (fd := asBuf b (tgt (.inl (b, h, s)) c) offd inbd fd) (F := along (F := F) (tgt (.inl (b, h, s)) c) (b, h, s))
    (by rw [duties_snd]; exact Finset.mem_singleton_self _) (by rw [duties_rcv]; exact Finset.mem_singleton_self _)
    () () (amt (.inl (b, h, s))) (by exact amt_ring b h s offd inbd) (amount_snd m c _ _ _) (amount_rcv m _ _ _ _)
    (owed c (ns + 1)) (owed_step c _ hn) (W := W)
    (by rw [payload_snd]; exact Entails.of_eq (rows_view b c hs _ _).symm)
    (by rw [payload_rcv]
        exact sep_mono_left (Entails.of_eq (landing_rows m b c h.isLt hs hd (asBuf b (tgt (.inl (b, h, s)) c) offd inbd fd))))) $$ [Hp Hperm HF HO HtS HtR]
  · isplitr; · iexact HIs
    isplitr; · iexact HIr
    isplitl [Hp]; · iexact Hp
    isplitl [Hperm HF]
    · isplitl [Hperm]; · iexact Hperm
      iexact HF
    isplitl [HO]; · iexact HO
    isplitl [HtS]; · iexact HtS
    isplitr; · iexact Hrs
    isplitl [HtR]; · iexact HtR
    iexact Hrr
  iintro ⟨Hc, HO⟩
  iapply Hk
  isplitr; · iexact HR
  isplitr; · iexact HL
  isplitl [HO]; · iexists W; iexact HO
  isplitl [Hclose Hc Hat]
  · iapply Hclose; unfold sentA
    isplitl [Hc]; · iexact Hc
    iexact Hat
  iexact Hrcv

/-- A peak goes to another device. -/
theorem step_peak (c : Dev nD) (d : Fin 15) {ns nr : ℕ} (hn : rank (.inr d) = ns)
    {offs offd : Fin 3 → ℕ} {inbs inbd} (hs : offs = ![0, 0, 0]) (hd : offd = ![d.val + 1, 0, 0])
    {n : Dev nD} (hdev : n = sh (d.val + 1) c) {sS sR : DmaSem sig} (hsS : sS = sndS (.inr d)) (hsR : sR = rcvS (.inr d))
    {hsc : (pkM pM offd inbd : Memref sig (Dev.tc n : Thread nD τ).2.kind .vmem S8x128 .f32).view.ref.isScScratch = false}
    {hsrc : (pkM pM offs inbs).view.WordExact} {hdst : (pkM pM offd inbd).view.WordExact}
    {hsem : DmaTarget.Typed .vmem (.dma sR) (.remote (Dev.tc n : Thread nD τ) (pkM pM offd inbd) (.dma sS) hsc)}
    {α : Type} {Q : α → sProp 𝕄} {k : PUnit → Prog (TpuEff nD τ sig (Elt F) Λ₀ .tc) α} :
    iprop(St m κ c ns nr ∗ peaks c (apset 0) (Transfers.shareTokN fullShare d.val) (AB m c) ∗ peakAny (F := F) (sh (d.val + 1) c) (d.val + 1))
      ⊢ iprop((St m κ c (ns + 1) nr -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pkM pM offs inbs) (.remote (Dev.tc n : Thread nD τ) (pkM pM offd inbd) (.dma sS) hsc) (.dma sR)
                hsrc hdst hsem) k) Q) := by
  subst hdev; subst hsS; subst hsR
  iintro ⟨HS, Hp, Hperm⟩ Hk
  unfold St
  icases HS with ⟨#HR, #HL, ⟨%W, HO⟩, Hsnd, Hrcv⟩
  ihave ⟨HB, Hclose⟩ := (cursor_take rank_inj (.inr d) hn) $$ Hsnd
  unfold sentB
  icases HB with ⟨⟨HtS, HtR⟩, Hat, -⟩
  ihave #⟨HIs, Hrs⟩ := (recs_at m κ c (some (false, .inr d))) $$ HR
  ihave #⟨HIr, Hrr⟩ := (recs_at m κ (tgt (.inr d) c) (some (true, .inr d))) $$ HR
  unfold peakAny
  icases Hperm with ⟨%fd, Hperm⟩
  ihave Hp := (Entails.of_eq (peaks_view (F := F) c hs (Transfers.shareTokN fullShare d.val) (AB m c) (inb := inbs))) $$ Hp
  ihave Hperm := (Entails.of_eq (peaks_view (F := F) (sh (d.val + 1) c) hd fullShare fd (inb := inbd))) $$ Hperm
  iapply (wp_send_pointsTo 𝒱₀ ER (Rd m) (c : Thread nD τ) none (κ₁ := κ (c, some (false, .inr d)))
    (κ₂ := κ (tgt (.inr d) c, some (true, .inr d))) (r₁ := 0) (r₂ := 0) (d₁ := false) (d₂ := false)
    (fs := AB m c) (fd := fd)
    (by rw [duties_snd]; exact Finset.mem_singleton_self _) (by rw [duties_rcv]; exact Finset.mem_singleton_self _)
    () () (amt (.inr d)) (by exact amt_peak d offd inbd) (amount_snd m c _ _ _) (amount_rcv m _ _ _ _)
    (owed c (ns + 1)) (owed_step c _ hn) (W := W)
    (by rw [payload_snd]; exact Entails.of_eq (peaks_view c hs _ _).symm)
    (by rw [payload_rcv]
        exact Entails.of_eq (landing_peak m c d.isLt hs hd (inbs := inbs) (inbd := inbd) fd))) $$ [Hp Hperm HO HtS HtR]
  · isplitr; · iexact HIs
    isplitr; · iexact HIr
    isplitl [Hp]; · iexact Hp
    isplitl [Hperm]; · iexact Hperm
    isplitl [HO]; · iexact HO
    isplitl [HtS]; · iexact HtS
    isplitr; · iexact Hrs
    isplitl [HtR]; · iexact HtR
    iexact Hrr
  iintro ⟨Hc, HO⟩
  iapply Hk
  isplitr; · iexact HR
  isplitr; · iexact HL
  isplitl [HO]; · iexists W; iexact HO
  isplitl [Hclose Hc Hat]
  · iapply Hclose; unfold sentA
    isplitl [Hc]; · iexact Hc
    iexact Hat
  iexact Hrcv

/-- A wait on a cell of the protocol: it is over, and its payload is there. -/
theorem wait_core (c : Dev nD) (b : Bool) (x : X) {P : sProp 𝕄} (hpay : (Rd m).payload (cell c (some (b, x))) 0 false = P)
    {sm : DmaSem sig} (hsm : SemLoc.dma sm = csem (some (b, x)))
    {O : CellTallies nD τ sig Unit} {W : Waits sig Unit}
    {sp sp' : Space} {s s' : Shape} {e e' : EltTy} {src : Memref sig .tc sp' s' e'} {dst : Memref sig .tc sp s e}
    {hsrc : src.view.WordExact} {hdst : dst.view.WordExact} (hamt : dst.view.dmaCredit = amt x)
    {α : Type} {Q : α → sProp 𝕄} {k : PUnit → Prog (TpuEff nD τ sig (Elt F) Λ₀ .tc) α} :
    iprop(recs m κ ∗ cred (tallyAt (cell c (some (b, x))) () (amt x)) ∗ atPos ER (cell c (some (b, x))) 0 ∅ 0
        ∗ owes (c : Thread nD τ) O W ∗ MayWait (c : Thread nD τ) (.dma sm) () O)
      ⊢ iprop(((owes (c : Thread nD τ) O (insert (SemLoc.dma sm, ()) W) ∗ semVal (cell c (some (b, x))) 0
            ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hcell : (((c : Thread nD τ), SemLoc.dma sm) : GSem nD τ sig) = cell c (some (b, x)) := by rw [hsm]
  have hexp : (Rd m).expect (cell c (some (b, x))) 0 = amt x := by
    cases b
    · exact expect_snd m c x
    · exact expect_rcv m c x
  have hdut : (Rd m).duties (cell c (some (b, x))) 0 = {false} := duties_of m
  have hrest : bigSep ((Rd m).duties (cell c (some (b, x))) 0 \ ∅) (fun d => (Rd m).payload (cell c (some (b, x))) 0 d) = P := by
    rw [hdut, Finset.sdiff_empty, bigSep_singleton, hpay]
  iintro ⟨#HR, Hc, Hat, HO, HM⟩ Hk
  ihave #⟨HI, -⟩ := (recs_at m κ c (some (b, x))) $$ HR
  rw [← hcell] at *
  iapply (wp_wait_rest_token 𝒱₀ ER (Rd m) (c : Thread nD τ) none (κ := κ (c, some (b, x)))
    (wpE_waitDma2_eq 𝒱₀ (c : Thread nD τ) none Set.univ) (Set.mem_univ _) () (O := O) (W := W) (R := 0) (m := 0) (T := ∅)
    (by rw [Nat.zero_add, hexp, hamt])) $$ [Hc Hat HO HM]
  · isplitr; · iexact HI
    isplitl [Hc]; · rw [hamt]; iexact Hc
    isplitl [HO]; · iexact HO
    isplitl [HM]; · iexact HM
    iexact Hat
  iintro ⟨HO, Hat, -, Hpay⟩
  imod (cell_close ER (Rd m) (Set.mem_univ (κ (c, some (b, x)))) (fun h => h) (R := 0 + 1) (duties_later m _)) $$ [Hat] with Hz
  · isplitr; · iexact HI
    iexact Hat
  ihave Hpay := (Entails.of_eq hrest) $$ Hpay
  iapply Hk
  isplitl [HO]; · iexact HO
  isplitl [Hz]; · iexact Hz
  iexact Hpay

/-- A landing may be waited for below everything still owed. -/
theorem mayWait_owed (c : Dev nD) (n : ℕ) (sm : SemLoc sig) (h : ∀ x : X, n ≤ rank x → lvOf (nameOf sm) < lvOf (some (some (true, x)))) :
    levAts L lv ⊢ (MayWait (c : Thread nD τ) sm () (owed c n) : sProp 𝕄) := by
  refine Pipeline.mayWait_of_levAts (mem_L c sm) fun g i hg => ?_
  obtain ⟨x, hx, rfl⟩ := owed_pos hg
  refine ⟨mem_L _ _, ?_⟩
  have := h x hx
  show lvOf (nameOf sm) < lvOf (nameOf (.dma (rcvS x)))
  rw [nameOf_rcv]; exact this

/-- A piece has landed. -/
theorem step_recv (c : Dev nD) (b : Bool) (h : Fin 15) (s : Fin 4) {ns nr : ℕ} (hn : rank (.inl (b, h, s)) = nr)
    (hle : min (8 * (h.val + 1)) 120 ≤ ns) {sm : DmaSem sig} (hsm : sm = rcvS (.inl (b, h, s)))
    {src dst : Memref sig .tc .vmem S32x4096 .bf16}
    {hsrc : src.view.WordExact} {hdst : dst.view.WordExact} (hamt : dst.view.dmaCredit = amt (.inl (b, h, s)))
    {α : Type} {Q : α → sProp 𝕄} {k : PUnit → Prog (TpuEff nD τ sig (Elt F) Λ₀ .tc) α} :
    St m κ c ns nr
      ⊢ iprop(((St m κ c ns (nr + 1) ∗ rows b c (pset (h.val + 1) s.val) fullShare (RB m c b) ∗ along (F := F) c (b, h, s))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro HS Hk
  unfold St
  icases HS with ⟨#HR, #HL, ⟨%W, HO⟩, Hsnd, Hrcv⟩
  ihave ⟨HB, Hclose⟩ := (cursor_take rank_inj (.inl (b, h, s)) hn) $$ Hrcv
  unfold gotB
  icases HB with ⟨Hc, Hat⟩
  iapply (wait_core m κ c true (.inl (b, h, s)) (P := iprop(rows b c (pset (h.val + 1) s.val) fullShare (RB m c b) ∗ along (F := F) c (b, h, s)))
    (payload_rcv m c (.inl (b, h, s)) 0 false) rfl (O := owed c ns) (W := W) hamt) $$ [Hc Hat HO]
  · isplitr; · iexact HR
    isplitl [Hc]; · iexact Hc
    isplitl [Hat]; · iexact Hat
    isplitl [HO]; · iexact HO
    iapply (mayWait_owed (F := F) c ns _ fun x hx => by
      rw [nameOf_rcv]
      have h1 := h.isLt
      rcases x with ⟨b', h', s'⟩ | d
      · have h2 := h'.isLt; have h3 := s'.isLt
        have hr : rank (.inl (b', h', s')) ≤ 8 * h'.val + 7 := by cases b' <;> simp [rank] <;> omega
        show 2 + h.val < 2 + h'.val
        omega
      · show 2 + h.val < 20
        omega)
    iexact HL
  iintro ⟨HO, Hz, Hpay⟩
  iapply Hk
  isplitl [HO Hsnd Hclose Hz]
  · isplitr; · iexact HR
    isplitr; · iexact HL
    isplitl [HO]; · iexists _; iexact HO
    isplitl [Hsnd]; · iexact Hsnd
    iapply Hclose; unfold gotA; iexact Hz
  iexact Hpay

/-- A peak has landed. -/
theorem step_precv (c : Dev nD) (d : Fin 15) {nr : ℕ} (hn : rank (.inr d) = nr)
    {sm : DmaSem sig} (hsm : sm = rcvS (.inr d)) {src dst : Memref sig .tc .vmem S8x128 .f32}
    {hsrc : src.view.WordExact} {hdst : dst.view.WordExact} (hamt : dst.view.dmaCredit = amt (.inr d))
    {α : Type} {Q : α → sProp 𝕄} {k : PUnit → Prog (TpuEff nD τ sig (Elt F) Λ₀ .tc) α} :
    St m κ c 135 nr
      ⊢ iprop(((St m κ c 135 (nr + 1) ∗ peaks c (apset (d.val + 1)) fullShare (AB m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro HS Hk
  unfold St
  icases HS with ⟨#HR, #HL, ⟨%W, HO⟩, Hsnd, Hrcv⟩
  ihave ⟨HB, Hclose⟩ := (cursor_take rank_inj (.inr d) hn) $$ Hrcv
  unfold gotB
  icases HB with ⟨Hc, Hat⟩
  iapply (wait_core m κ c true (.inr d) (P := peaks c (apset (d.val + 1)) fullShare (AB m c)) (payload_rcv m c (.inr d) 0 false) rfl (O := owed c 135) (W := W) hamt) $$ [Hc Hat HO]
  · isplitr; · iexact HR
    isplitl [Hc]; · iexact Hc
    isplitl [Hat]; · iexact Hat
    isplitl [HO]; · iexact HO
    rw [owed_end, MayWait_zero]; iempintro
  iintro ⟨HO, Hz, Hpay⟩
  iapply Hk
  isplitl [HO Hsnd Hclose Hz]
  · isplitr; · iexact HR
    isplitr; · iexact HL
    isplitl [HO]; · iexists _; iexact HO
    isplitl [Hsnd]; · iexact Hsnd
    iapply Hclose; unfold gotA; iexact Hz
  iexact Hpay

/-- The state once everything is issued and landed, `nd` transfers' read-outs waited for. -/
def Dr (c : Dev nD) (nd : ℕ) : sProp 𝕄 :=
  iprop(recs m κ ∗ (∃ W, owes (c : Thread nD τ) 0 W) ∗ cursor rank (backA m c) (sentA (F := F) c) nd
    ∗ bigSep Finset.univ (gotA (F := F) c))

theorem dr_start (c : Dev nD) : St m κ c 135 135 ⊢ Dr m κ c 0 := by
  unfold St Dr
  rw [cursor_end (fun x => rank_lt x), cursor_end (fun x => rank_lt x), cursor_start (fun x => Nat.zero_le _), owed_end]
  iintro ⟨HR, -, HO, Hs, Hg⟩
  isplitl [HR]; · iexact HR
  isplitl [HO]; · iexact HO
  isplitl [Hs]; · iexact Hs
  iexact Hg

/-- A transfer has been read out. -/
theorem step_back (c : Dev nD) (x : X) {nd : ℕ} (hn : rank x = nd)
    {sm : DmaSem sig} (hsm : sm = sndS x)
    {sp sp' : Space} {s s' : Shape} {e e' : EltTy} {src : Memref sig .tc sp' s' e'} {dst : Memref sig .tc sp s e}
    {hsrc : src.view.WordExact} {hdst : dst.view.WordExact} (hamt : dst.view.dmaCredit = amt x)
    {α : Type} {Q : α → sProp 𝕄} {k : PUnit → Prog (TpuEff nD τ sig (Elt F) Λ₀ .tc) α} :
    Dr m κ c nd
      ⊢ iprop((Dr m κ c (nd + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro HS Hk
  unfold Dr
  icases HS with ⟨#HR, ⟨%W, HO⟩, Hsnd, Hrcv⟩
  ihave ⟨HB, Hclose⟩ := (cursor_take rank_inj x hn) $$ Hsnd
  unfold sentA
  icases HB with ⟨Hc, Hat⟩
  iapply (wait_core m κ c false x (payload_snd m c x 0 false) rfl (O := 0) (W := W) hamt) $$ [Hc Hat HO]
  · isplitr; · iexact HR
    isplitl [Hc]; · iexact Hc
    isplitl [Hat]; · iexact Hat
    isplitl [HO]; · iexact HO
    rw [MayWait_zero]; iempintro
  iintro ⟨HO, Hz, Hpay⟩
  iapply Hk
  isplitr; · iexact HR
  isplitl [HO]; · iexists _; iexact HO
  isplitl [Hclose Hz Hpay]
  · iapply Hclose; unfold backA
    isplitl [Hz]; · iexact Hz
    iexact Hpay
  iexact Hrcv

end Talk

end Cert.Ring

end
-- ==== Proof.Ring.Access.lean ====
/-
  The core's own loads and stores: what a load of a slot, of the weights or of a block of products reads, and what a
  store leaves.
-/
module

public import proofs.«01_k».proof.Proof.Ring.Geometry

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Slots of the row buffers -/

/-- A slot read out of a row buffer is the half it came from. -/
theorem read_slot (c : Dev nD) (b : Bool) {off : Fin 3 → ℕ} {inb : ∀ a, off a + S1x128x4096.size a ≤ S16x128x4096.size a} {h : ℕ}
    (ho : off = ![h, 0, 0]) :
    (fun j => RB m c b ((Rect.unit (s := S16x128x4096) off S1x128x4096.size inb).emb j) : Vec F S1x128x4096 .bf16)
      = half m b (orig b h c) := by
  subst ho
  funext j
  have h0 : (j 0).val = 0 := by have : (j 0).val < 1 := (j 0).isLt; omega
  have e : (((Rect.unit (s := S16x128x4096) ![h, 0, 0] S1x128x4096.size inb).emb j) 0).val = h := by
    show h + 1 * (j 0).val = h
    omega
  unfold RB
  rw [e]
  refine congrArg (half m b (orig b h c)) ?_
  funext a
  match a with
  | ⟨0, _⟩ => exact Fin.ext h0.symm
  | ⟨1, _⟩ => exact Fin.ext (show 0 + 1 * (j 1).val = (j 1).val by omega)
  | ⟨2, _⟩ => exact Fin.ext (show 0 + 1 * (j 2).val = (j 2).val by omega)

/-- Loading a slot. -/
theorem load_slot (c : Dev nD) (b : Bool) (h : ℕ) {off : Fin 3 → ℕ} {inb} (ho : off = ![h, 0, 0]) (q : PosShare TreeShare)
    {hl : (rM b).view.LoadsAt (Rect.unit (s := S16x128x4096) off S1x128x4096.size inb).toLoadRect}
    {α : Type} {Q : α → sProp 𝕄} {k : Vec F S1x128x4096 .bf16 → Prog (TpuEff nD τ sig (Elt F) Λ₀ .tc) α} :
    rows b c (slset h) q (RB m c b)
      ⊢ iprop((rows b c (slset h) q (RB m c b) -∗ wp frame (wpE (defs₀ (F := F)) 𝒱₀ (c : Thread nD τ) none) Set.univ (k (half m b (orig b h c))) Q)
        -∗ wp frame (wpE (defs₀ (F := F)) 𝒱₀ (c : Thread nD τ) none) Set.univ
            (.op (.load (rM b) (Rect.unit (s := S16x128x4096) off S1x128x4096.size inb).toLoadRect hl) k) Q) := by
  have e := read_slot m c b ho (inb := inb)
  have hs := rect_slot ho (inb := inb)
  cases b
  · have H := wp_load (defs := defs₀ (F := F)) 𝒱₀ (c : Thread nD τ) none Set.univ (m := rM false) (hl := hl) (k := k) (Q := Q) (Γ := .empty)
      (S := slset h) (q := q) (f := RB m c false)
      (by rw [← hs]; intro i hi; obtain ⟨j, hj, rfl⟩ := Finset.mem_map.mp hi; exact hj)
    have e' : (rM false).view.readAt (Elt F) (Rect.unit (s := S16x128x4096) off S1x128x4096.size inb).toLoadRect (RB m c false)
        = half m false (orig false h c) := e
    rw [e'] at H
    exact H
  · have H := wp_load (defs := defs₀ (F := F)) 𝒱₀ (c : Thread nD τ) none Set.univ (m := rM true) (hl := hl) (k := k) (Q := Q) (Γ := .empty)
      (S := slset h) (q := q) (f := RB m c true)
      (by rw [← hs]; intro i hi; obtain ⟨j, hj, rfl⟩ := Finset.mem_map.mp hi; exact hj)
    have e' : (rM true).view.readAt (Elt F) (Rect.unit (s := S16x128x4096) off S1x128x4096.size inb).toLoadRect (RB m c true)
        = half m true (orig true h c) := e
    rw [e'] at H
    exact H

/-- Loading the first slot before anything is known of it. -/
theorem load_slot_any (c : Dev nD) (b : Bool) {off : Fin 3 → ℕ} {inb} (ho : off = ![0, 0, 0]) (f : Vec F S16x128x4096 .bf16)
    {hl : (rM b).view.LoadsAt (Rect.unit (s := S16x128x4096) off S1x128x4096.size inb).toLoadRect}
    {α : Type} {Q : α → sProp 𝕄} {k : Vec F S1x128x4096 .bf16 → Prog (TpuEff nD τ sig (Elt F) Λ₀ .tc) α} :
    rows b c (slset 0) fullShare f
      ⊢ iprop((∀ v, rows b c (slset 0) fullShare f -∗ wp frame (wpE (defs₀ (F := F)) 𝒱₀ (c : Thread nD τ) none) Set.univ (k v) Q)
        -∗ wp frame (wpE (defs₀ (F := F)) 𝒱₀ (c : Thread nD τ) none) Set.univ
            (.op (.load (rM b) (Rect.unit (s := S16x128x4096) off S1x128x4096.size inb).toLoadRect hl) k) Q) := by
  have hs := rect_slot ho (inb := inb)
  cases b
  · have H := wp_load (defs := defs₀ (F := F)) 𝒱₀ (c : Thread nD τ) none Set.univ (m := rM false) (hl := hl) (k := k) (Q := Q) (Γ := .empty)
      (S := slset 0) (q := fullShare) (f := f)
      (by rw [← hs]; intro i hi; obtain ⟨j, hj, rfl⟩ := Finset.mem_map.mp hi; exact hj)
    exact H.trans (wand_mono_left (forall_elim _))
  · have H := wp_load (defs := defs₀ (F := F)) 𝒱₀ (c : Thread nD τ) none Set.univ (m := rM true) (hl := hl) (k := k) (Q := Q) (Γ := .empty)
      (S := slset 0) (q := fullShare) (f := f)
      (by rw [← hs]; intro i hi; obtain ⟨j, hj, rfl⟩ := Finset.mem_map.mp hi; exact hj)
    exact H.trans (wand_mono_left (forall_elim _))

/-- Storing the device's own half into the first slot. -/
theorem store_slot (c : Dev nD) (b : Bool) {off : Fin 3 → ℕ} {inb} (ho : off = ![0, 0, 0]) (f : Vec F S16x128x4096 .bf16)
    {w : Vec F S1x128x4096 .bf16} (hw : w = half m b c)
    {hx : ((rM b).access (Rect.unit (s := S16x128x4096) off S1x128x4096.size inb)).Stores Finset.univ} {hm}
    {α : Type} {Q : α → sProp 𝕄} {k : PUnit → Prog (TpuEff nD τ sig (Elt F) Λ₀ .tc) α} :
    rows b c (slset 0) fullShare f
      ⊢ iprop((rows b c (slset 0) fullShare (RB m c b) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (rM b) (Rect.unit (s := S16x128x4096) off S1x128x4096.size inb) w Finset.univ hx hm) k) Q) := by
  have e := read_slot m c b ho (inb := inb)
  have e0 : orig b 0 c = c := by cases b <;> [exact sh_sixteen (by omega) c; exact sh_zero c]
  rw [e0, ← hw] at e
  have hs := rect_slot ho (inb := inb)
  cases b
  · have hS : ((rM false).access (Rect.unit (s := S16x128x4096) off S1x128x4096.size inb)).setOn Finset.univ = slset 0 := by
      rw [← hs]; exact View.set_slice_whole _ _
    have H := wp_store (defs := defs₀ (F := F)) 𝒱₀ (c : Thread nD τ) none Set.univ (m := rM false) (w := w) (hx := hx) (hm := hm) (k := k) (Q := Q) (Γ := .empty)
      (S := slset 0) (f := f) (subset_of_eq hS)
    refine H.trans (wand_mono_left (wand_mono_left (Entails.of_eq ?_)))
    refine pointsTo_congr fun i hi => ?_
    rw [← hS] at hi
    obtain ⟨j, -, rfl⟩ := Finset.mem_map.mp hi
    rw [View.write_emb_of_mem _ _ (Finset.mem_univ _)]
    exact (congrFun e j).symm
  · have hS : ((rM true).access (Rect.unit (s := S16x128x4096) off S1x128x4096.size inb)).setOn Finset.univ = slset 0 := by
      rw [← hs]; exact View.set_slice_whole _ _
    have H := wp_store (defs := defs₀ (F := F)) 𝒱₀ (c : Thread nD τ) none Set.univ (m := rM true) (w := w) (hx := hx) (hm := hm) (k := k) (Q := Q) (Γ := .empty)
      (S := slset 0) (f := f) (subset_of_eq hS)
    refine H.trans (wand_mono_left (wand_mono_left (Entails.of_eq ?_)))
    refine pointsTo_congr fun i hi => ?_
    rw [← hS] at hi
    obtain ⟨j, -, rfl⟩ := Finset.mem_map.mp hi
    rw [View.write_emb_of_mem _ _ (Finset.mem_univ _)]
    exact (congrFun e j).symm

/-! ## The products -/

/-- The products buffer, -/
def ys (c : Dev nD) (f : Vec F S4096x512 .f32) : sProp 𝕄 := ((c : Thread nD τ).loc cc0_scratch13) ↦{fullShare} f
/-- and the bf16 weights. -/
def wq (c : Dev nD) (f : Vec F S4096x512 .bf16) : sProp 𝕄 := ((c : Thread nD τ).loc cc0_scratch9) ↦{fullShare} f

/-- The block of products made of a half from device `o`. -/
def yv (c : Dev nD) (b : Bool) (o : Dev nD) : Vec F S128x512 .f32 :=
  if b then k0_pay5 (hiB m o) (wbf m c) else k0_pay3 (loB m o) (wbf m c)

/-- The blocks of one kind made of the first `n` slots are in place. -/
def yDone (c : Dev nD) (b : Bool) (n : ℕ) (f : Vec F S4096x512 .f32) : Prop :=
  ∀ i : S4096x512.Idx, decide (128 ≤ (i 0).val % 256) = b → (∃ h, h < n ∧ (i 0).val / 256 = (orig b h c).val) → f i = YB m c i

theorem yDone_zero (c : Dev nD) (b : Bool) (f) : yDone m c b 0 f := fun _ _ ⟨_, h, _⟩ => absurd h (Nat.not_lt_zero _)

theorem yDone_all (c : Dev nD) (f) (h : ∀ b, yDone m c b 16 f) : f = YB m c := by
  funext i
  have hi := idx2_lt0 i
  have key : ∀ (b : Bool) (c : Dev nD) (o : Fin 16), ∃ h : Fin 16, o.val = (orig b h.val c).val := by decide
  obtain ⟨hh, e⟩ := key (decide (128 ≤ (i 0).val % 256)) c ⟨(i 0).val / 256, by omega⟩
  exact h _ i rfl ⟨hh.val, hh.isLt, e⟩

/-- A known fact in front of a wand may be dropped. -/
theorem fact_wand {φ : Prop} (h : φ) {R : sProp 𝕄} : iprop(⌜φ⌝ -∗ R) ⊢ R := by
  iintro H
  iapply H
  ipureintro
  exact h

/-- Storing a block of products. -/
theorem store_y (c : Dev nD) (b : Bool) (n : ℕ) {off : Fin 2 → ℕ} {inb : ∀ a, off a + S128x512.size a ≤ S4096x512.size a}
    (ho : off = ![256 * (orig b n c).val + (if b then 128 else 0), 0])
    (f : Vec F S4096x512 .f32) {w : Vec F S128x512 .f32} (hw : w = yv m c b (orig b n c))
    {hx : ((Memref.whole cc0_scratch13).access (Rect.unit (s := S4096x512) off S128x512.size inb)).Stores Finset.univ} {hm}
    {α : Type} {Q : α → sProp 𝕄} {k : PUnit → Prog (TpuEff nD τ sig (Elt F) Λ₀ .tc) α} :
    ys c f
      ⊢ iprop((∀ f', ⌜(yDone m c b n f → yDone m c b (n + 1) f') ∧ (∀ n', yDone m c (!b) n' f → yDone m c (!b) n' f')⌝ -∗ ys c f'
            -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch13) (Rect.unit (s := S4096x512) off S128x512.size inb) w Finset.univ hx hm) k) Q) := by
  have H := wp_store (defs := defs₀ (F := F)) 𝒱₀ (c : Thread nD τ) none Set.univ (m := Memref.whole cc0_scratch13) (w := w) (hx := hx) (hm := hm)
    (k := k) (Q := Q) (Γ := .empty) (S := Finset.univ) (f := f) (Finset.subset_univ _)
  subst ho
  set r := Rect.unit (s := S4096x512) ![256 * (orig b n c).val + (if b then 128 else 0), 0] S128x512.size inb with hr
  have hS : ((Memref.whole cc0_scratch13).access r).setOn Finset.univ = r.set := View.set_slice_whole _ _
  have hv : ∀ j : S128x512.Idx, YB m c (r.emb j) = w j := by
    intro j
    have h0 := idx2_lt0 j
    have h1 := idx2_lt1 j
    have e0 : ((r.emb j) 0).val = 256 * (orig b n c).val + (if b then 128 else 0) + (j 0).val := by
      show 256 * (orig b n c).val + (if b then 128 else 0) + 1 * (j 0).val = _; omega
    have e1 : ((r.emb j) 1).val = (j 1).val := by show 0 + 1 * (j 1).val = _; omega
    have ej : ∀ (p q), (ix2 ⟨((r.emb j) 0).val % 128, p⟩ ⟨((r.emb j) 1).val, q⟩ : S128x512.Idx) = j := by
      intro p q
      funext a
      match a with
      | ⟨0, _⟩ => exact Fin.ext (by show ((r.emb j) 0).val % 128 = (j 0).val; rw [e0]; cases b <;> simp <;> omega)
      | ⟨1, _⟩ => exact Fin.ext e1
    have eo : ∀ p, (⟨((r.emb j) 0).val / 256, p⟩ : Dev nD) = orig b n c := by
      intro p
      exact Fin.ext (by show ((r.emb j) 0).val / 256 = _; rw [e0]; cases b <;> simp <;> omega)
    unfold YB
    rw [hw]
    unfold yv
    cases b
    · have hlt : ((r.emb j) 0).val % 256 < 128 := by rw [e0]; simp; omega
      rw [if_pos hlt, ej, eo]; rfl
    · have hlt : ¬ ((r.emb j) 0).val % 256 < 128 := by rw [e0]; simp; omega
      rw [if_neg hlt, ej, eo]; rfl
  have hin : ∀ i ∈ r.set, ((Memref.whole cc0_scratch13).access r).write (Elt F) f w Finset.univ i = YB m c i := by
    intro i hi
    rw [← hS] at hi
    obtain ⟨j, -, rfl⟩ := Finset.mem_map.mp hi
    rw [View.write_emb_of_mem _ _ (Finset.mem_univ _)]
    exact (hv j).symm
  have hout : ∀ i, i ∉ r.set → ((Memref.whole cc0_scratch13).access r).write (Elt F) f w Finset.univ i = f i :=
    fun i hi => View.write_of_not_mem _ _ _ (by rw [hS]; exact hi)
  have hmem : ∀ i : S4096x512.Idx, i ∈ r.set ↔ ((i 0).val / 256 = (orig b n c).val ∧ decide (128 ≤ (i 0).val % 256) = b) := by
    intro i
    have h0 := idx2_lt0 i
    have h1 := idx2_lt1 i
    rw [hr, Rect.mem_set_unit]
    constructor
    · intro H
      have H0 := H 0
      cases b <;> simp at H0 ⊢ <;> omega
    · rintro ⟨H1, H2⟩ a
      match a with
      | ⟨0, _⟩ =>
        show 256 * (orig b n c).val + (if b then 128 else 0) ≤ (i 0).val ∧ (i 0).val < 256 * (orig b n c).val + (if b then 128 else 0) + 128
        cases b <;> simp at H1 H2 ⊢ <;> omega
      | ⟨1, _⟩ => exact ⟨Nat.zero_le _, by show (i 1).val < 0 + 512; omega⟩
  refine H.trans (wand_mono_left ((forall_elim (((Memref.whole cc0_scratch13).access r).write (Elt F) f w Finset.univ)).trans ?_))
  refine fact_wand ?_
  · refine ⟨fun hd i hb ⟨h, hlt, e⟩ => ?_, fun n' hd i hb he => ?_⟩
    · by_cases hi : i ∈ r.set
      · exact hin i hi
      · rw [hout i hi]
        refine hd i hb ⟨h, ?_, e⟩
        rcases Nat.lt_succ_iff_lt_or_eq.mp hlt with h' | rfl
        · exact h'
        · exact absurd ((hmem i).mpr ⟨e, hb⟩) hi
    · have hi : i ∉ r.set := fun hi => by
        have := ((hmem i).mp hi).2
        rw [hb] at this
        cases b <;> cases this
      rw [hout i hi]
      exact hd i hb he

/-- Loading anything from the products. -/
theorem load_y_any (c : Dev nD) (f : Vec F S4096x512 .f32) {r : LoadRect S4096x512}
    {hl : (Memref.whole cc0_scratch13).view.LoadsAt r}
    {α : Type} {Q : α → sProp 𝕄} {k : (r.shape.Idx → Elt F .f32) → Prog (TpuEff nD τ sig (Elt F) Λ₀ .tc) α} :
    ys c f
      ⊢ iprop((∀ v, ys c f -∗ wp frame (wpE (defs₀ (F := F)) 𝒱₀ (c : Thread nD τ) none) Set.univ (k v) Q)
        -∗ wp frame (wpE (defs₀ (F := F)) 𝒱₀ (c : Thread nD τ) none) Set.univ (.op (.load (Memref.whole cc0_scratch13) r hl) k) Q) := by
  have H := wp_load (defs := defs₀ (F := F)) 𝒱₀ (c : Thread nD τ) none Set.univ (m := Memref.whole cc0_scratch13) (hl := hl) (k := k) (Q := Q) (Γ := .empty)
      (S := Finset.univ) (q := fullShare) (f := f) (Finset.subset_univ _)
  exact H.trans (wand_mono_left (forall_elim _))

/-- Loading all the weights. -/
theorem load_w (c : Dev nD) (f : Vec F S4096x512 .bf16) {off : Fin 2 → ℕ} {inb : ∀ a, off a + S4096x512.size a ≤ S4096x512.size a}
    {hl : (Memref.whole cc0_scratch9).view.LoadsAt (Rect.unit (s := S4096x512) off S4096x512.size inb).toLoadRect}
    {α : Type} {Q : α → sProp 𝕄} {k : Vec F S4096x512 .bf16 → Prog (TpuEff nD τ sig (Elt F) Λ₀ .tc) α} :
    wq c f
      ⊢ iprop((wq c f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_scratch9) (Rect.unit (s := S4096x512) off S4096x512.size inb).toLoadRect hl) k) Q) := by
  have H := wp_load (defs := defs₀ (F := F)) 𝒱₀ (c : Thread nD τ) none Set.univ (m := Memref.whole cc0_scratch9) (hl := hl) (k := k) (Q := Q) (Γ := .empty)
      (S := Finset.univ) (q := fullShare) (f := f) (Finset.subset_univ _)
  have e : (Memref.whole cc0_scratch9).view.readAt (Elt F) (Rect.unit (s := S4096x512) off S4096x512.size inb).toLoadRect f = f := by
    funext j
    refine congrArg f (funext fun a => Fin.ext ?_)
    have := inb a
    show off a + 1 * (j a).val = (j a).val
    omega
  rw [e] at H
  exact H

end Cert.Ring

end
-- ==== Proof.Ring.Bufs.lean ====
/-
  The kernel's own buffers and semaphores, as the arguments every part of its body takes.
-/
module

public import proofs.«01_k».proof.Proof.Ring.Steps
public import proofs.«01_k».proof.Proof.Ring.Access

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A part of the body, at the kernel's buffers and semaphores. -/
abbrev onBufs {β : Type 1}
    (f : ∀ (arg0 : Memref sig .tc .hbm S256x4096 .f32) (_ : arg0.IsWhole) (arg1 : Memref sig .tc .hbm S4096x512 .f32) (_ : arg1.IsWhole)
      (arg2 : Memref sig .tc .hbm S4096x512 .bf16) (_ : arg2.IsWhole) (arg3 : Memref sig .tc .vmem S16x128x4096 .bf16) (_ : arg3.IsWhole)
      (arg4 : Memref sig .tc .vmem S16x128x4096 .bf16) (_ : arg4.IsWhole) (_ _ _ _ : DmaSems sig S16x4)
      (arg9 : Memref sig .tc .vmem S16x8x128 .f32) (_ : arg9.IsWhole) (_ _ : DmaSems sig S16)
      (arg12 : Memref sig .tc .vmem S4096x512 .bf16) (_ : arg12.IsWhole) (arg13 : Memref sig .tc .vmem S4096x512 .bf16) (_ : arg13.IsWhole)
      (_ : DmaSems sig S16) (arg15 : Memref sig .tc .vmem S256x4096 .f32) (_ : arg15.IsWhole)
      (arg16 : Memref sig .tc .vmem S4096x512 .f32) (_ : arg16.IsWhole) (_ : DmaSems sig S2), β) : β :=
  f (Memref.whole main_arg0) (Memref.isWhole_whole _) (Memref.whole main_arg1) (Memref.isWhole_whole _) (Memref.whole main_v1)
    (Memref.isWhole_whole _) (Memref.whole cc0_scratch0) (Memref.isWhole_whole _) (Memref.whole cc0_scratch1) (Memref.isWhole_whole _)
    cc0_scratch2 cc0_scratch3 cc0_scratch4 cc0_scratch5 (Memref.whole cc0_scratch6) (Memref.isWhole_whole _) cc0_scratch7 cc0_scratch8
    (Memref.whole cc0_scratch9) (Memref.isWhole_whole _) (Memref.whole cc0_scratch10) (Memref.isWhole_whole _) cc0_scratch11
    (Memref.whole cc0_scratch12) (Memref.isWhole_whole _) (Memref.whole cc0_scratch13) (Memref.isWhole_whole _) cc0_scratch14

/-- A part whose run is known, at the head of what follows. -/
theorem use_part {α : Type} {c : Dev nD} {p : Prog (TpuEff nD τ sig (Elt F) Λ₀ .tc) α} {P : sProp 𝕄} {Q Q' : α → sProp 𝕄}
    (H : P ⊢ wp frame (wpE (defs₀ (F := F)) 𝒱₀ (c : Thread nD τ) none) Set.univ p Q) :
    P ⊢ iprop((∀ a, Q a -∗ Q' a) -∗ wp frame (wpE (defs₀ (F := F)) 𝒱₀ (c : Thread nD τ) none) Set.univ p Q') :=
  H.trans (wp_wand frame _ Set.univ)

end Cert.Ring

end
-- ==== Proof.Ring.Hop.lean ====
/-
  One hop of the two rings.
-/
module

public import proofs.«01_k».proof.Proof.Ring.Bufs

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-! ## Pieces, slots and shares -/

theorem pointsTo_halves (c : Dev nD) (b : Bool) (S) (f : Vec F S16x128x4096 .bf16) :
    rows (F := F) b c S fullShare f ⊣⊢ iprop(rows b c S fullShare.left f ∗ rows b c S fullShare.right f) := by
  cases b <;> exact pointsTo_share (PosShare.mem_left_op_right _)

/-- A slot is its four pieces. -/
theorem slot_pieces (c : Dev nD) (b : Bool) (h : ℕ) (q) (f : Vec F S16x128x4096 .bf16) :
    rows (F := F) b c (slset h) q f = bigSep Finset.univ fun s : Fin 4 => rows b c (pset h s.val) q f := by
  have e : slset h = Finset.univ.biUnion fun s : Fin 4 => pset h s.val := by
    ext i
    have h1 : (i 1).val < 128 := (i 1).isLt
    simp only [mem_slset, Finset.mem_biUnion, Finset.mem_univ, true_and, mem_pset]
    constructor
    · intro hi
      refine ⟨⟨(i 1).val / 32, by omega⟩, hi, ?_, ?_⟩
      · show 32 * ((i 1).val / 32) ≤ _; omega
      · show _ < 32 * ((i 1).val / 32) + 32; omega
    · rintro ⟨s, hi, -, -⟩
      exact hi
  have hd : ∀ s ∈ (Finset.univ : Finset (Fin 4)), ∀ s' ∈ (Finset.univ : Finset (Fin 4)), s ≠ s' → Disjoint (pset h s.val) (pset h s'.val) := by
    intro s _ s' _ hne
    refine Finset.disjoint_left.mpr fun i hi hi' => ?_
    rw [mem_pset] at hi hi'
    exact hne (Fin.ext (by omega))
  rw [e]
  cases b <;> exact pointsTo_biUnion _ _ hd

/-- The share of a piece that a device keeps while it sends the piece on. -/
def keepSh (t : ℕ) : PosShare TreeShare := if t = 14 then fullShare else fullShare.right

/-- What goes along with the piece's next transfer. -/
def fwdAlong (c : Dev nD) (b : Bool) (t : Fin 15) (s : Fin 4) : sProp 𝕄 :=
  if h : t.val < 14 then along (F := F) (tgt (.inl (b, ⟨t.val + 1, by omega⟩, s)) c) (b, ⟨t.val + 1, by omega⟩, s) else iprop(emp)

/-- What the last piece of a hop brings for the device itself. -/
def extra (c : Dev nD) (b : Bool) (t : Fin 15) (s : Fin 4) : sProp 𝕄 :=
  if b = true ∧ s.val = 3 then peakAny (F := F) (sh (t.val + 1) c) (t.val + 1) else iprop(emp)

theorem fwdAlong_of_not {c : Dev nD} {b : Bool} {t : Fin 15} {s : Fin 4} (h : ¬ (b = true ∧ s.val = 3)) :
    fwdAlong (F := F) c b t s = iprop(emp) := by
  unfold fwdAlong
  by_cases ht : t.val < 14
  · rw [dif_pos ht]; exact if_neg h
  · exact dif_neg ht

theorem along_turn (c : Dev nD) (b : Bool) (t : Fin 15) (s : Fin 4) :
    along (F := F) c (b, t, s) ⊢ iprop(extra (F := F) c b t s ∗ fwdAlong (F := F) c b t s) := by
  by_cases h : b = true ∧ s.val = 3
  · have e1 : along (F := F) c (b, t, s) = leavePeaks (F := F) (sh (t.val + 1) c) t.val := if_pos h
    have e2 : extra (F := F) c b t s = peakAny (F := F) (sh (t.val + 1) c) (t.val + 1) := if_pos h
    have e3 : fwdAlong (F := F) c b t s = leavePeaks (F := F) (sh (t.val + 1) c) (t.val + 1) := by
      unfold fwdAlong
      by_cases ht : t.val < 14
      · rw [dif_pos ht]
        refine (if_pos h).trans ?_
        have : sh (t.val + 1 + 1) (sh 15 c) = sh (t.val + 1) c := by rw [sh_sh]; exact sh_mod (by omega) c
        obtain ⟨rfl, -⟩ := h
        show leavePeaks (F := F) (sh (t.val + 1 + 1) (sh 15 c)) (t.val + 1) = _
        rw [this]
      · rw [dif_neg ht]
        unfold leavePeaks
        rw [show (Finset.univ.filter fun d : Fin 15 => t.val + 1 ≤ d.val) = ∅ from by
          refine Finset.filter_eq_empty_iff.mpr fun d _ => ?_
          have := d.isLt; omega]
        exact bigSep_empty.symm
    rw [e1, e2, e3]
    unfold leavePeaks
    rw [show (Finset.univ.filter fun d : Fin 15 => t.val ≤ d.val) = insert t (Finset.univ.filter fun d : Fin 15 => t.val + 1 ≤ d.val) from by
      ext d
      simp only [Finset.mem_filter, Finset.mem_univ, true_and, Finset.mem_insert, Fin.ext_iff]
      omega]
    exact (Entails.of_eq (bigSep_insert (by simp)))
  · have e1 : along (F := F) c (b, t, s) = iprop(emp) := if_neg h
    have e2 : extra (F := F) c b t s = iprop(emp) := if_neg h
    rw [e1, e2, fwdAlong_of_not h]
    iintro H
    isplitl; · iempintro
    iempintro

/-! ## A piece of a hop -/

/-- The transfers issued when `k` pieces of hop `t` are through. -/
def nsAt (t k : ℕ) : ℕ := if t < 14 then 8 * (t + 1) + k else 120

/-- The order of a hop's pieces. -/
def prk (x : Bool × Fin 4) : ℕ := 2 * x.2.val + if x.1 then 1 else 0

theorem prk_inj : Function.Injective prk := by unfold Function.Injective; decide

/-- The pieces of hop `t` that are through, kept by the device. -/
def kept (c : Dev nD) (t k : ℕ) : sProp 𝕄 :=
  cursor prk (fun x => rows x.1 c (pset (t + 1) x.2.val) (keepSh t) (RB m c x.1)) (fun _ => iprop(emp)) k

/-- A piece lands. -/
theorem hop_recv (c : Dev nD) (b : Bool) (t : Fin 15) (s : Fin 4) {k : ℕ} (hk : k = prk (b, s))
    {off : Fin 2 → ℕ} {inb} (ho : off = ![t.val + 1, s.val]) {offd : Fin 3 → ℕ} {inbd inbs}
    {hsrc : (pcM (rM b) offd inbs).view.WordExact} {hdst : (pcM (rM b) offd inbd).view.WordExact}
    {α : Type} {Q : α → sProp 𝕄} {k' : PUnit → Prog (TpuEff nD τ sig (Elt F) Λ₀ .tc) α} :
    St m κ c (nsAt t.val k) (8 * t.val + k)
      ⊢ iprop(((St m κ c (nsAt t.val k) (8 * t.val + (k + 1)) ∗ rows b c (pset (t.val + 1) s.val) fullShare (RB m c b)
            ∗ extra (F := F) c b t s ∗ fwdAlong (F := F) c b t s)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 (semAt (rA b) off inb) (pcM (rM b) offd inbs) (pcM (rM b) offd inbd) hsrc hdst) k') Q) := by
  iintro HS HK
  iapply (step_recv m κ c b t s (ns := nsAt t.val k) (nr := 8 * t.val + k)
    (by rw [hk]; show 8 * t.val + 2 * s.val + (if b then 1 else 0) = 8 * t.val + (2 * s.val + if b then 1 else 0); omega)
    (by unfold nsAt; have := t.isLt; split <;> omega) (rcv_at b t s ho) (amt_ring b t s offd inbd)) $$ HS
  iintro ⟨HS, Hp, Ha⟩
  ihave ⟨He, Hf⟩ := (along_turn (F := F) c b t s) $$ Ha
  iapply HK
  isplitl [HS]; · iexact HS
  isplitl [Hp]; · iexact Hp
  isplitl [He]; · iexact He
  iexact Hf

/-- A piece goes on, but for the last hop. -/
theorem hop_fwd (c : Dev nD) (b : Bool) (t : Fin 15) (s : Fin 4) {k : ℕ} (hk : k = prk (b, s))
    {p : Prop} [Decidable p] (hp : p ↔ t.val < 14) {α : Type} {Q : α → sProp 𝕄}
    {eff : p → TpuEff nD τ sig (Elt F) Λ₀ .tc PUnit} {J : Prog (TpuEff nD τ sig (Elt F) Λ₀ .tc) α}
    (hsend : ∀ (h : p) (ht : t.val < 14),
      iprop(St m κ c (8 * (t.val + 1) + k) (8 * t.val + (k + 1)) ∗ rows b c (pset (t.val + 1) s.val) fullShare.left (RB m c b)
          ∗ along (F := F) (tgt (.inl (b, ⟨t.val + 1, by omega⟩, s)) c) (b, ⟨t.val + 1, by omega⟩, s))
        ⊢ iprop((St m κ c (8 * (t.val + 1) + k + 1) (8 * t.val + (k + 1)) -∗ wp frame (wpE (defs₀ (F := F)) 𝒱₀ (c : Thread nD τ) none) Set.univ J Q)
          -∗ wp frame (wpE (defs₀ (F := F)) 𝒱₀ (c : Thread nD τ) none) Set.univ (.op (eff h) fun _ => J) Q)) :
    iprop(St m κ c (nsAt t.val k) (8 * t.val + (k + 1)) ∗ rows b c (pset (t.val + 1) s.val) fullShare (RB m c b) ∗ fwdAlong (F := F) c b t s ∗ kept m c t.val k)
      ⊢ iprop(((St m κ c (nsAt t.val (k + 1)) (8 * t.val + (k + 1)) ∗ kept m c t.val (k + 1))
            -∗ wp frame (wpE (defs₀ (F := F)) 𝒱₀ (c : Thread nD τ) none) Set.univ J Q)
          -∗ wp frame (wpE (defs₀ (F := F)) 𝒱₀ (c : Thread nD τ) none) Set.univ
              (if h : p then .op (eff h) fun _ => J else J) Q) := by
  unfold kept
  by_cases ht : t.val < 14
  · have hp' := hp.mpr ht
    rw [dif_pos hp']
    have e1 : ∀ k, nsAt t.val k = 8 * (t.val + 1) + k := fun k => if_pos ht
    have e2 : fwdAlong (F := F) c b t s = along (F := F) (tgt (.inl (b, ⟨t.val + 1, by omega⟩, s)) c) (b, ⟨t.val + 1, by omega⟩, s) := dif_pos ht
    have e3 : keepSh t.val = fullShare.right := if_neg (by omega)
    rw [e1, e1, e2, e3]
    iintro ⟨HS, Hp, Hf, Hk⟩ HK
    ihave ⟨-, Hclose⟩ := (cursor_take prk_inj (b, s) hk.symm) $$ Hk
    ihave ⟨Hl, Hr⟩ := ((pointsTo_halves c b (pset (t.val + 1) s.val) (RB m c b)).1) $$ Hp
    iapply (hsend hp' ht) $$ [HS Hl Hf]
    · isplitl [HS]; · iexact HS
      isplitl [Hl]; · iexact Hl
      iexact Hf
    iintro HS
    iapply HK
    isplitl [HS]; · iexact HS
    iapply Hclose; iexact Hr
  · have hp' := fun h => ht (hp.mp h)
    rw [dif_neg hp']
    have e1 : ∀ k, nsAt t.val k = 120 := fun k => if_neg ht
    have e3 : keepSh t.val = fullShare := if_pos (by have := t.isLt; omega)
    rw [e1, e1, e3]
    iintro ⟨HS, Hp, Hf, Hk⟩ HK
    ihave ⟨-, Hclose⟩ := (cursor_take prk_inj (b, s) hk.symm) $$ Hk
    iapply HK
    isplitl [HS]; · iexact HS
    iapply Hclose; iexact Hp

/-- The same, for the transfer the kernel writes. -/
theorem hop_pass (c : Dev nD) (b : Bool) (t : Fin 15) (s : Fin 4) {k : ℕ} (hk : k = prk (b, s))
    {p : Prop} [Decidable p] (hp : p ↔ t.val < 14) {offs offd : Fin 3 → ℕ}
    {inbs : p → ∀ a, offs a + S1x32x4096.size a ≤ S16x128x4096.size a} {inbd : p → ∀ a, offd a + S1x32x4096.size a ≤ S16x128x4096.size a}
    (hs : offs = ![t.val + 1, 32 * s.val, 0]) (hd : offd = ![t.val + 2, 32 * s.val, 0]) {n : ℕ} {hn : p → n < nD}
    (hdev : n = (c.val + (if b then 15 else 1)) % 16) {off5 off6 : Fin 2 → ℕ}
    {inb5 : p → ∀ a, off5 a + S1x1.size a ≤ S16x4.size a} {inb6 : p → ∀ a, off6 a + S1x1.size a ≤ S16x4.size a}
    (h5 : off5 = ![t.val + 1, s.val]) (h6 : off6 = ![t.val + 2, s.val])
    {hsc : ∀ h : p, (pcM (rM b) offd (inbd h) : Memref sig (Dev.tc (⟨n, hn h⟩ : Dev nD) : Thread nD τ).2.kind .vmem S32x4096 .bf16).view.ref.isScScratch = false}
    {hsrc : ∀ h : p, (pcM (rM b) offs (inbs h)).view.WordExact} {hdst : ∀ h : p, (pcM (rM b) offd (inbd h)).view.WordExact}
    {hsem : ∀ h : p, DmaTarget.Typed .vmem (.dma (semAt (rA b) off6 (inb6 h)))
      (.remote (Dev.tc (⟨n, hn h⟩ : Dev nD) : Thread nD τ) (pcM (rM b) offd (inbd h)) (.dma (semAt (sA b) off5 (inb5 h))) (hsc h))}
    {α : Type} {Q : α → sProp 𝕄} {J : Prog (TpuEff nD τ sig (Elt F) Λ₀ .tc) α} :
    iprop(St m κ c (nsAt t.val k) (8 * t.val + (k + 1)) ∗ rows b c (pset (t.val + 1) s.val) fullShare (RB m c b)
        ∗ fwdAlong (F := F) c b t s ∗ kept m c t.val k)
      ⊢ iprop(((St m κ c (nsAt t.val (k + 1)) (8 * t.val + (k + 1)) ∗ kept m c t.val (k + 1))
            -∗ wp frame (wpE (defs₀ (F := F)) 𝒱₀ (c : Thread nD τ) none) Set.univ J Q)
          -∗ wp frame (wpE (defs₀ (F := F)) 𝒱₀ (c : Thread nD τ) none) Set.univ
              (if h : p then
                .op (.enqueueDma (pcM (rM b) offs (inbs h)) (.remote (Dev.tc (⟨n, hn h⟩ : Dev nD) : Thread nD τ) (pcM (rM b) offd (inbd h))
                  (.dma (semAt (sA b) off5 (inb5 h))) (hsc h)) (.dma (semAt (rA b) off6 (inb6 h))) (hsrc h) (hdst h) (hsem h)) fun _ => J
              else J) Q) := by
  refine hop_fwd m κ c b t s hk hp fun h ht => ?_
  have hx : (⟨n, hn h⟩ : Dev nD) = tgt (.inl (b, ⟨t.val + 1, by omega⟩, s)) c := by
    cases b
    · exact dev_next hdev
    · exact dev_prev hdev
  refine step_send m κ c b ⟨t.val + 1, by omega⟩ s ?_ hs hd hx (snd_at b ⟨t.val + 1, by omega⟩ s h5) (rcv_at b ⟨t.val + 1, by omega⟩ s h6)
    (k := fun _ => J) (Q := Q)
  rw [hk]
  show 8 * (t.val + 1) + 2 * s.val + (if b then 1 else 0) = 8 * (t.val + 1) + (2 * s.val + if b then 1 else 0)
  omega

/-- A piece lands and goes on: one of the eight beats of a hop. -/
theorem hop_beat (c : Dev nD) (b : Bool) (t : Fin 15) (s : Fin 4) {k : ℕ} (hk : k = prk (b, s))
    {offr : Fin 2 → ℕ} {inbr} (hr : offr = ![t.val + 1, s.val]) {offw : Fin 3 → ℕ} {inbw inbw'}
    {hsrcw : (pcM (rM b) offw inbw').view.WordExact} {hdstw : (pcM (rM b) offw inbw).view.WordExact}
    {p : Prop} [Decidable p] (hp : p ↔ t.val < 14) {offs offd : Fin 3 → ℕ}
    {inbs : p → ∀ a, offs a + S1x32x4096.size a ≤ S16x128x4096.size a} {inbd : p → ∀ a, offd a + S1x32x4096.size a ≤ S16x128x4096.size a}
    (hs : offs = ![t.val + 1, 32 * s.val, 0]) (hd : offd = ![t.val + 2, 32 * s.val, 0]) {n : ℕ} {hn : p → n < nD}
    (hdev : n = (c.val + (if b then 15 else 1)) % 16) {off5 off6 : Fin 2 → ℕ}
    {inb5 : p → ∀ a, off5 a + S1x1.size a ≤ S16x4.size a} {inb6 : p → ∀ a, off6 a + S1x1.size a ≤ S16x4.size a}
    (h5 : off5 = ![t.val + 1, s.val]) (h6 : off6 = ![t.val + 2, s.val])
    {hsc : ∀ h : p, (pcM (rM b) offd (inbd h) : Memref sig (Dev.tc (⟨n, hn h⟩ : Dev nD) : Thread nD τ).2.kind .vmem S32x4096 .bf16).view.ref.isScScratch = false}
    {hsrc : ∀ h : p, (pcM (rM b) offs (inbs h)).view.WordExact} {hdst : ∀ h : p, (pcM (rM b) offd (inbd h)).view.WordExact}
    {hsem : ∀ h : p, DmaTarget.Typed .vmem (.dma (semAt (rA b) off6 (inb6 h)))
      (.remote (Dev.tc (⟨n, hn h⟩ : Dev nD) : Thread nD τ) (pcM (rM b) offd (inbd h)) (.dma (semAt (sA b) off5 (inb5 h))) (hsc h))}
    {α : Type} {Q : α → sProp 𝕄} {J : Prog (TpuEff nD τ sig (Elt F) Λ₀ .tc) α} :
    iprop(St m κ c (nsAt t.val k) (8 * t.val + k) ∗ kept m c t.val k)
      ⊢ iprop(((St m κ c (nsAt t.val (k + 1)) (8 * t.val + (k + 1)) ∗ kept m c t.val (k + 1))
            -∗ wp frame (wpE (defs₀ (F := F)) 𝒱₀ (c : Thread nD τ) none) Set.univ J Q)
          -∗ wp frame (wpE (defs₀ (F := F)) 𝒱₀ (c : Thread nD τ) none) Set.univ
              (.op (.waitDma2 (semAt (rA b) offr inbr) (pcM (rM b) offw inbw') (pcM (rM b) offw inbw) hsrcw hdstw) fun _ =>
              if h : p then
                .op (.enqueueDma (pcM (rM b) offs (inbs h)) (.remote (Dev.tc (⟨n, hn h⟩ : Dev nD) : Thread nD τ) (pcM (rM b) offd (inbd h))
                  (.dma (semAt (sA b) off5 (inb5 h))) (hsc h)) (.dma (semAt (rA b) off6 (inb6 h))) (hsrc h) (hdst h) (hsem h)) fun _ => J
              else J) Q) := by
  iintro ⟨HS, Hk⟩ HK
  iapply (hop_recv m κ c b t s hk hr) $$ HS
  iintro ⟨HS, Hp, -, Hf⟩
  iapply (hop_pass m κ c b t s hk hp hs hd hdev h5 h6) $$ [HS Hp Hf Hk]
  · isplitl [HS]; · iexact HS
    isplitl [Hp]; · iexact Hp
    isplitl [Hf]; · iexact Hf
    iexact Hk
  iexact HK

/-- With all beats through, the slots of the hop are there. -/
theorem kept_all (c : Dev nD) (t : ℕ) :
    kept m c t 8 = iprop(rows false c (slset (t + 1)) (keepSh t) (RB m c false) ∗ rows true c (slset (t + 1)) (keepSh t) (RB m c true)) := by
  unfold kept
  rw [cursor_end (by decide), bigSep_univ_prod, show (Finset.univ : Finset Bool) = {false, true} from by decide,
    bigSep_insert (by decide), bigSep_singleton, slot_pieces, slot_pieces]
  rfl

end Cert.Ring

end
-- ==== Proof.Ring.Whole.lean ====
/-
  The whole buffers as their first slot and the slots the hops fill.
-/
module

public import proofs.«01_k».proof.Proof.Ring.Hop

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A row buffer is its first slot and the pieces that land in it. -/
theorem rows_whole (c : Dev nD) (b : Bool) (q) (f : Vec F S16x128x4096 .bf16) :
    rows (F := F) b c Finset.univ q f = iprop(rows b c (slset 0) q f
      ∗ bigSep Finset.univ fun hs : Fin 15 × Fin 4 => rows b c (pset (hs.1.val + 1) hs.2.val) q f) := by
  have hd : ∀ s ∈ (Finset.univ : Finset (Fin 15 × Fin 4)), ∀ s' ∈ (Finset.univ : Finset (Fin 15 × Fin 4)), s ≠ s' →
      Disjoint (pset (s.1.val + 1) s.2.val) (pset (s'.1.val + 1) s'.2.val) := by
    intro s _ s' _ hne
    refine Finset.disjoint_left.mpr fun i hi hi' => ?_
    rw [mem_pset] at hi hi'
    exact hne (Prod.ext (Fin.ext (by omega)) (Fin.ext (by omega)))
  have e : (Finset.univ : Finset S16x128x4096.Idx)
      = slset 0 ∪ Finset.univ.biUnion fun hs : Fin 15 × Fin 4 => pset (hs.1.val + 1) hs.2.val := by
    ext i
    have h0 : (i 0).val < 16 := (i 0).isLt
    have h1 : (i 1).val < 128 := (i 1).isLt
    simp only [Finset.mem_univ, true_iff, Finset.mem_union, mem_slset, Finset.mem_biUnion, true_and, mem_pset]
    by_cases hz : (i 0).val = 0
    · exact .inl hz
    · refine .inr ⟨(⟨(i 0).val - 1, by omega⟩, ⟨(i 1).val / 32, by omega⟩), ?_, ?_, ?_⟩
      · show (i 0).val = (i 0).val - 1 + 1; omega
      · show 32 * ((i 1).val / 32) ≤ _; omega
      · show _ < 32 * ((i 1).val / 32) + 32; omega
  have hdis : Disjoint (slset 0) (Finset.univ.biUnion fun hs : Fin 15 × Fin 4 => pset (hs.1.val + 1) hs.2.val) := by
    refine Finset.disjoint_left.mpr fun i hi hi' => ?_
    obtain ⟨hs, -, h⟩ := Finset.mem_biUnion.mp hi'
    rw [mem_slset] at hi
    rw [mem_pset] at h
    omega
  have key : ∀ (l : Loc nD τ sig) (g : Buf (Elt F) l) (A B C : Finset (Idx l)), A = B ∪ C → Disjoint B C →
      ((l ↦[A]{q} g : sProp 𝕄) = iprop((l ↦[B]{q} g) ∗ (l ↦[C]{q} g))) :=
    fun l g A B C h hd => by rw [h]; exact equiv_iff.mp ⟨(pointsTo_union hd).1, (pointsTo_union hd).2⟩
  cases b
  · exact (key ((c : Thread nD τ).loc cc0_scratch0) f _ _ _ e hdis).trans (congrArg _ (pointsTo_biUnion _ _ hd))
  · exact (key ((c : Thread nD τ).loc cc0_scratch1) f _ _ _ e hdis).trans (congrArg _ (pointsTo_biUnion _ _ hd))

/-- The peak table is its first slot and the fifteen that land in it. -/
theorem peaks_whole (c : Dev nD) (q) (f : Vec F S16x8x128 .f32) :
    peaks (F := F) c Finset.univ q f = iprop(peaks c (apset 0) q f ∗ bigSep Finset.univ fun d : Fin 15 => peaks c (apset (d.val + 1)) q f) := by
  have hd : ∀ s ∈ (Finset.univ : Finset (Fin 15)), ∀ s' ∈ (Finset.univ : Finset (Fin 15)), s ≠ s' →
      Disjoint (apset (s.val + 1)) (apset (s'.val + 1)) := by
    intro s _ s' _ hne
    refine Finset.disjoint_left.mpr fun i hi hi' => ?_
    rw [mem_apset] at hi hi'
    exact hne (Fin.ext (by omega))
  have e : (Finset.univ : Finset S16x8x128.Idx) = apset 0 ∪ Finset.univ.biUnion fun d : Fin 15 => apset (d.val + 1) := by
    ext i
    have h0 : (i 0).val < 16 := (i 0).isLt
    simp only [Finset.mem_univ, true_iff, Finset.mem_union, mem_apset, Finset.mem_biUnion, true_and]
    by_cases hz : (i 0).val = 0
    · exact .inl hz
    · exact .inr ⟨⟨(i 0).val - 1, by omega⟩, by show (i 0).val = (i 0).val - 1 + 1; omega⟩
  have hdis : Disjoint (apset 0) (Finset.univ.biUnion fun d : Fin 15 => apset (d.val + 1)) := by
    refine Finset.disjoint_left.mpr fun i hi hi' => ?_
    obtain ⟨hs, -, h⟩ := Finset.mem_biUnion.mp hi'
    rw [mem_apset] at hi h
    omega
  have key : ∀ (l : Loc nD τ sig) (g : Buf (Elt F) l) (A B C : Finset (Idx l)), A = B ∪ C → Disjoint B C →
      ((l ↦[A]{q} g : sProp 𝕄) = iprop((l ↦[B]{q} g) ∗ (l ↦[C]{q} g))) :=
    fun l g A B C h hd => by rw [h]; exact equiv_iff.mp ⟨(pointsTo_union hd).1, (pointsTo_union hd).2⟩
  exact (key ((c : Thread nD τ).loc cc0_scratch6) f _ _ _ e hdis).trans (congrArg _ (pointsTo_biUnion _ _ hd))

/-- The slots a device lets others write. -/
theorem rows_lend (c : Dev nD) (b : Bool) (f : Vec F S16x128x4096 .bf16) :
    rows (F := F) b c Finset.univ fullShare f ⊢ iprop(rows b c (slset 0) fullShare f ∗ leaveRows b c) := by
  rw [rows_whole]
  unfold leaveRows
  iintro ⟨H0, H⟩
  isplitl [H0]; · iexact H0
  iapply (show (bigSep Finset.univ fun hs : Fin 15 × Fin 4 => rows b c (pset (hs.1.val + 1) hs.2.val) fullShare f : sProp 𝕄)
    ⊢ bigSep Finset.univ fun hs : Fin 15 × Fin 4 => rowsAny (F := F) b c (hs.1.val + 1) hs.2.val from
      bigSep_mono fun hs _ => exists_intro (Φ := fun f => rows b c (pset (hs.1.val + 1) hs.2.val) fullShare f) f) $$ H
theorem peaks_lend (c : Dev nD) (f : Vec F S16x8x128 .f32) :
    peaks (F := F) c Finset.univ fullShare f ⊢ iprop(peaks c (apset 0) fullShare f ∗ leavePeaks c 0) := by
  rw [peaks_whole]
  unfold leavePeaks
  rw [show (Finset.univ.filter fun d : Fin 15 => 0 ≤ d.val) = Finset.univ from Finset.filter_true_of_mem fun _ _ => Nat.zero_le _]
  iintro ⟨H0, H⟩
  isplitl [H0]; · iexact H0
  iapply (show (bigSep Finset.univ fun d : Fin 15 => peaks c (apset (d.val + 1)) fullShare f : sProp 𝕄)
    ⊢ bigSep Finset.univ fun d : Fin 15 => peakAny (F := F) c (d.val + 1) from
      bigSep_mono fun d _ => exists_intro (Φ := fun f => peaks c (apset (d.val + 1)) fullShare f) f) $$ H

/-- Back together: the first slot and the slots of all hops. -/
theorem rows_back (c : Dev nD) (b : Bool) (q) (f : Vec F S16x128x4096 .bf16) :
    iprop(rows (F := F) b c (slset 0) q f ∗ bigSep Finset.univ fun h : Fin 15 => rows b c (slset (h.val + 1)) q f)
      = rows b c Finset.univ q f := by
  rw [rows_whole, bigSep_univ_prod]
  exact congrArg _ (bigSep_congr fun h _ => slot_pieces c b (h.val + 1) q f)

end Cert.Ring

end
-- ==== Proof.Ring.Fetch.lean ====
/-
  A device's own operands: the two copies that fetch them, the conversion of the weights, and the loads of the rows.
-/
module

public import proofs.«01_k».proof.Proof.Ring.Steps
public import proofs.«01_k».proof.Proof.Ring.Access

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-! ## The two copies -/

/-- The semaphores of the two fetching copies. -/
abbrev inS (off : Fin 1 → ℕ) (inb : ∀ a, off a + S1.size a ≤ S2.size a) : DmaSem sig :=
  ((cc0_scratch14.slice (Rect.unit (s := S2) off S1.size inb)).squeeze S_ squeezes_S1_S_).sem
/-- The one for the rows, -/
abbrev inX : DmaSem sig := inS ![0] inb_S2_S1_0
/-- and the one for the weights. -/
abbrev inW : DmaSem sig := inS ![1] inb_S2_S1_1

/-- The device's rows where they arrive, -/
def xb (c : Dev nD) (f : Vec F S256x4096 .f32) : sProp 𝕄 := ((c : Thread nD τ).loc cc0_scratch12) ↦{fullShare} f
/-- its first operand, -/
def argX (c : Dev nD) : sProp 𝕄 := ((c : Thread nD τ).loc main_arg0) ↦{fullShare} xs m c
/-- and its second. -/
def argW (c : Dev nD) : sProp 𝕄 := ((c : Thread nD τ).loc main_arg1) ↦{fullShare} ws m c

/-- The bytes of the two copies, as their semaphores count them. -/
abbrev amtX : ℕ := (Memref.whole cc0_scratch12).view.dmaCredit
abbrev amtW : ℕ := (Memref.whole cc0_scratch13).view.dmaCredit

/-- The rows under way, -/
def flX (c : Dev nD) : sProp 𝕄 := Transfers.Flight EC (c : Thread nD τ) (.dma inX) () amtX iprop(xb c (xs m c) ∗ argX m c)
/-- and the weights. -/
def flW (c : Dev nD) : sProp 𝕄 := Transfers.Flight EC (c : Thread nD τ) (.dma inW) () amtW iprop(ys c (ws m c) ∗ argW m c)

/-- The copy of the rows is issued. -/
theorem fetch_x (c : Dev nD) (f : Vec F S256x4096 .f32) {hsrc hdst hsem}
    {α : Type} {Q : α → sProp 𝕄} {k : PUnit → Prog (TpuEff nD τ sig (Elt F) Λ₀ .tc) α} :
    iprop(argX m c ∗ xb c f ∗ semVal ((c : Thread nD τ), .dma inX) 0)
      ⊢ iprop((flX m c -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (Memref.whole main_arg0) (.here (Memref.whole cc0_scratch12)) (.dma inX) hsrc hdst hsem) k) Q) := by
  have H := Transfers.wp_dmaLocal (defs := defs₀ (F := F)) EC 𝒱₀ (c : Thread nD τ) none (src := Memref.whole main_arg0) (via := .same)
    (dst := Memref.whole cc0_scratch12) (sm := .dma inX) (hsrc := hsrc) (hdst := hdst) (hsem := hsem) (k := k) (Q := Q) (q := fullShare)
    (fs := xs m c) (Sd := Finset.univ) (fd := f) () amtX rfl (by decide) (Finset.subset_univ _)
  rw [View.set_whole, show ((Memref.whole cc0_scratch12).view.write (Elt F) f
    ((ReadAs.same : ReadAs (Elt F) _ _ _ _).apply ((Memref.whole main_arg0).view.read (Elt F) (xs m c))) Finset.univ) = xs m c from
      View.write_whole_univ _ _ _] at H
  exact H

/-- The copy of the weights is issued. -/
theorem fetch_w (c : Dev nD) (f : Vec F S4096x512 .f32) {hsrc hdst hsem}
    {α : Type} {Q : α → sProp 𝕄} {k : PUnit → Prog (TpuEff nD τ sig (Elt F) Λ₀ .tc) α} :
    iprop(argW m c ∗ ys c f ∗ semVal ((c : Thread nD τ), .dma inW) 0)
      ⊢ iprop((flW m c -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (Memref.whole main_arg1) (.here (Memref.whole cc0_scratch13)) (.dma inW) hsrc hdst hsem) k) Q) := by
  have H := Transfers.wp_dmaLocal (defs := defs₀ (F := F)) EC 𝒱₀ (c : Thread nD τ) none (src := Memref.whole main_arg1) (via := .same)
    (dst := Memref.whole cc0_scratch13) (sm := .dma inW) (hsrc := hsrc) (hdst := hdst) (hsem := hsem) (k := k) (Q := Q) (q := fullShare)
    (fs := ws m c) (Sd := Finset.univ) (fd := f) () amtW rfl (by decide) (Finset.subset_univ _)
  rw [View.set_whole, show ((Memref.whole cc0_scratch13).view.write (Elt F) f
    ((ReadAs.same : ReadAs (Elt F) _ _ _ _).apply ((Memref.whole main_arg1).view.read (Elt F) (ws m c))) Finset.univ) = ws m c from
      View.write_whole_univ _ _ _] at H
  exact H

/-- A local copy may be waited for whatever is owed. -/
theorem mayWait_local (c : Dev nD) (n : ℕ) (sm : SemLoc sig) (h : nameOf sm = none) :
    levAts L lv ⊢ (MayWait (c : Thread nD τ) sm () (owed c n) : sProp 𝕄) := by
  refine mayWait_owed c n sm fun x _ => ?_
  rw [h]
  show 0 < _
  rcases x with ⟨b, h, s⟩ | d
  · show 0 < 2 + h.val; omega
  · exact (by decide : 0 < 20)

/-- The wait for a local copy, while talking. -/
theorem wait_here (c : Dev nD) (ns nr : ℕ) {sem : DmaSem sig} (hn : nameOf (.dma sem) = none) {N : ℕ} {D : sProp 𝕄}
    {sp sp' : Space} {s s' : Shape} {e e' : EltTy} {src : Memref sig .tc sp' s' e'} {dst : Memref sig .tc sp s e} {hsrc hdst}
    (hN : dst.view.dmaCredit = N)
    {α : Type} {Q : α → sProp 𝕄} {k : PUnit → Prog (TpuEff nD τ sig (Elt F) Λ₀ .tc) α} :
    iprop(Transfers.Flight EC (c : Thread nD τ) (.dma sem) () N D ∗ St m κ c ns nr)
      ⊢ iprop((iprop(D ∗ semVal ((c : Thread nD τ), .dma sem) 0 ∗ St m κ c ns nr)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  unfold St
  iintro ⟨HF, ⟨#HR, #HL, ⟨%W, HO⟩, Hs, Hr⟩⟩ Hk
  iapply (Transfers.wp_waitLocalO (defs := defs₀ (F := F)) EC 𝒱₀ (c : Thread nD τ) none () hN (D := D) (O := owed c ns) (W := W)) $$ [HF HO]
  · isplitl [HF]; · iexact HF
    isplitl [HO]; · iexact HO
    iapply (mayWait_local c ns (.dma sem) hn) $$ HL
  iintro ⟨HD, Hv, HO⟩
  iapply Hk
  isplitl [HD]; · iexact HD
  isplitl [Hv]; · iexact Hv
  isplitr; · iexact HR
  isplitr; · iexact HL
  isplitl [HO]; · iexists _; iexact HO
  isplitl [Hs]; · iexact Hs
  iexact Hr

/-! ## The rows -/

/-- Loading the first half of the rows. -/
theorem load_lo (c : Dev nD) {inb} {hl : (Memref.whole cc0_scratch12).view.LoadsAt (Rect.unit (s := S256x4096) ![0, 0] S128x4096.size inb).toLoadRect}
    {α : Type} {Q : α → sProp 𝕄} {k : Vec F S128x4096 .f32 → Prog (TpuEff nD τ sig (Elt F) Λ₀ .tc) α} :
    xb c (xs m c)
      ⊢ iprop((xb c (xs m c) -∗ wp frame (wpE (defs₀ (F := F)) 𝒱₀ (c : Thread nD τ) none) Set.univ (k (lo m c)) Q)
        -∗ wp frame (wpE (defs₀ (F := F)) 𝒱₀ (c : Thread nD τ) none) Set.univ
          (.op (.load (Memref.whole cc0_scratch12) (Rect.unit (s := S256x4096) ![0, 0] S128x4096.size inb).toLoadRect hl) k) Q) := by
  have H := wp_load (defs := defs₀ (F := F)) 𝒱₀ (c : Thread nD τ) none Set.univ (m := Memref.whole cc0_scratch12) (hl := hl) (k := k) (Q := Q) (Γ := .empty)
      (S := Finset.univ) (q := fullShare) (f := xs m c) (Finset.subset_univ _)
  have e : (Memref.whole cc0_scratch12).view.readAt (Elt F) (Rect.unit (s := S256x4096) ![0, 0] S128x4096.size inb).toLoadRect (xs m c) = lo m c := by
    funext j
    refine congrArg (xs m c) (funext fun a => ?_)
    match a with
    | ⟨0, _⟩ => exact Fin.ext (show 0 + 1 * (j 0).val = (j 0).val by omega)
    | ⟨1, _⟩ => exact Fin.ext (show 0 + 1 * (j 1).val = (j 1).val by omega)
  rw [e] at H
  exact H

/-- Loading the second half of the rows. -/
theorem load_hi (c : Dev nD) {inb} {hl : (Memref.whole cc0_scratch12).view.LoadsAt (Rect.unit (s := S256x4096) ![128, 0] S128x4096.size inb).toLoadRect}
    {α : Type} {Q : α → sProp 𝕄} {k : Vec F S128x4096 .f32 → Prog (TpuEff nD τ sig (Elt F) Λ₀ .tc) α} :
    xb c (xs m c)
      ⊢ iprop((xb c (xs m c) -∗ wp frame (wpE (defs₀ (F := F)) 𝒱₀ (c : Thread nD τ) none) Set.univ (k (hi m c)) Q)
        -∗ wp frame (wpE (defs₀ (F := F)) 𝒱₀ (c : Thread nD τ) none) Set.univ
          (.op (.load (Memref.whole cc0_scratch12) (Rect.unit (s := S256x4096) ![128, 0] S128x4096.size inb).toLoadRect hl) k) Q) := by
  have H := wp_load (defs := defs₀ (F := F)) 𝒱₀ (c : Thread nD τ) none Set.univ (m := Memref.whole cc0_scratch12) (hl := hl) (k := k) (Q := Q) (Γ := .empty)
      (S := Finset.univ) (q := fullShare) (f := xs m c) (Finset.subset_univ _)
  have e : (Memref.whole cc0_scratch12).view.readAt (Elt F) (Rect.unit (s := S256x4096) ![128, 0] S128x4096.size inb).toLoadRect (xs m c) = hi m c := by
    funext j
    refine congrArg (xs m c) (funext fun a => ?_)
    match a with
    | ⟨0, _⟩ => exact Fin.ext (show 128 + 1 * (j 0).val = 128 + (j 0).val by omega)
    | ⟨1, _⟩ => exact Fin.ext (show 0 + 1 * (j 1).val = (j 1).val by omega)
  rw [e] at H
  exact H

/-! ## The weights -/

set_option backward.proofsInPublic true in
/-- A quarter of the weights. -/
def wq4 (c : Dev nD) (n : Fin 4) : Vec F S1024x512 .f32 := fun j =>
  ws m c (ix2 ⟨1024 * n.val + (j 0).val, by have h2 := idx2_lt0 j; omega⟩ ⟨(j 1).val, idx2_lt1 j⟩)

/-- The first `n` quarters of the weights are converted. -/
def wDone (c : Dev nD) (n : ℕ) (f : Vec F S4096x512 .bf16) : Prop := ∀ i : S4096x512.Idx, (i 0).val / 1024 < n → f i = wbf m c i

theorem wDone_all (c : Dev nD) (f) (h : wDone m c 4 f) : f = wbf m c :=
  funext fun i => h i (by have := idx2_lt0 i; omega)

/-- Loading a quarter of the weights. -/
theorem load_quarter (c : Dev nD) (n : Fin 4) {off : Fin 2 → ℕ} {inb : ∀ a, off a + S1024x512.size a ≤ S4096x512.size a} (ho : off = ![1024 * n.val, 0])
    {hl : (Memref.whole cc0_scratch13).view.LoadsAt (Rect.unit (s := S4096x512) off S1024x512.size inb).toLoadRect}
    {α : Type} {Q : α → sProp 𝕄} {k : Vec F S1024x512 .f32 → Prog (TpuEff nD τ sig (Elt F) Λ₀ .tc) α} :
    ys c (ws m c)
      ⊢ iprop((ys c (ws m c) -∗ wp frame (wpE (defs₀ (F := F)) 𝒱₀ (c : Thread nD τ) none) Set.univ (k (wq4 m c n)) Q)
        -∗ wp frame (wpE (defs₀ (F := F)) 𝒱₀ (c : Thread nD τ) none) Set.univ
          (.op (.load (Memref.whole cc0_scratch13) (Rect.unit (s := S4096x512) off S1024x512.size inb).toLoadRect hl) k) Q) := by
  have H := wp_load (defs := defs₀ (F := F)) 𝒱₀ (c : Thread nD τ) none Set.univ (m := Memref.whole cc0_scratch13) (hl := hl) (k := k) (Q := Q) (Γ := .empty)
      (S := Finset.univ) (q := fullShare) (f := ws m c) (Finset.subset_univ _)
  have e : (Memref.whole cc0_scratch13).view.readAt (Elt F) (Rect.unit (s := S4096x512) off S1024x512.size inb).toLoadRect (ws m c) = wq4 m c n := by
    subst ho
    funext j
    refine congrArg (ws m c) (funext fun a => ?_)
    match a with
    | ⟨0, _⟩ => exact Fin.ext (show 1024 * n.val + 1 * (j 0).val = 1024 * n.val + (j 0).val by omega)
    | ⟨1, _⟩ => exact Fin.ext (show 0 + 1 * (j 1).val = (j 1).val by omega)
  rw [e] at H
  exact H

/-- Loading anything from the converted weights. -/
theorem load_w_any (c : Dev nD) (f : Vec F S4096x512 .bf16) {r : LoadRect S4096x512}
    {hl : (Memref.whole cc0_scratch9).view.LoadsAt r}
    {α : Type} {Q : α → sProp 𝕄} {k : (r.shape.Idx → Elt F .bf16) → Prog (TpuEff nD τ sig (Elt F) Λ₀ .tc) α} :
    wq c f
      ⊢ iprop((∀ v, wq c f -∗ wp frame (wpE (defs₀ (F := F)) 𝒱₀ (c : Thread nD τ) none) Set.univ (k v) Q)
        -∗ wp frame (wpE (defs₀ (F := F)) 𝒱₀ (c : Thread nD τ) none) Set.univ (.op (.load (Memref.whole cc0_scratch9) r hl) k) Q) := by
  have H := wp_load (defs := defs₀ (F := F)) 𝒱₀ (c : Thread nD τ) none Set.univ (m := Memref.whole cc0_scratch9) (hl := hl) (k := k) (Q := Q) (Γ := .empty)
      (S := Finset.univ) (q := fullShare) (f := f) (Finset.subset_univ _)
  exact H.trans (wand_mono_left (forall_elim _))

/-- Storing a converted quarter. -/
theorem store_quarter (c : Dev nD) (n : Fin 4) {off : Fin 2 → ℕ} {inb : ∀ a, off a + S1024x512.size a ≤ S4096x512.size a} (ho : off = ![1024 * n.val, 0])
    (f : Vec F S4096x512 .bf16) {w : Vec F S1024x512 .bf16} (hw : w = k0_pay11 (wq4 m c n)) (hf : wDone m c n.val f)
    {hx : ((Memref.whole cc0_scratch9).access (Rect.unit (s := S4096x512) off S1024x512.size inb)).Stores Finset.univ} {hm}
    {α : Type} {Q : α → sProp 𝕄} {k : PUnit → Prog (TpuEff nD τ sig (Elt F) Λ₀ .tc) α} :
    wq c f
      ⊢ iprop((∀ f', ⌜wDone m c (n.val + 1) f'⌝ -∗ wq c f'
            -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch9) (Rect.unit (s := S4096x512) off S1024x512.size inb) w Finset.univ hx hm) k) Q) := by
  have H := wp_store (defs := defs₀ (F := F)) 𝒱₀ (c : Thread nD τ) none Set.univ (m := Memref.whole cc0_scratch9) (w := w) (hx := hx) (hm := hm)
    (k := k) (Q := Q) (Γ := .empty) (S := Finset.univ) (f := f) (Finset.subset_univ _)
  subst ho
  set r := Rect.unit (s := S4096x512) ![1024 * n.val, 0] S1024x512.size inb with hr
  have hS : ((Memref.whole cc0_scratch9).access r).setOn Finset.univ = r.set := View.set_slice_whole _ _
  refine H.trans (wand_mono_left ((forall_elim (((Memref.whole cc0_scratch9).access r).write (Elt F) f w Finset.univ)).trans (fact_wand ?_)))
  intro i hi
  by_cases hmem : i ∈ r.set
  · rw [← hS] at hmem
    obtain ⟨j, -, rfl⟩ := Finset.mem_map.mp hmem
    rw [View.write_emb_of_mem _ _ (Finset.mem_univ _), hw]
    have h0 := idx2_lt0 j
    have h1 := idx2_lt1 j
    have e0 : ((r.emb j) 0).val = 1024 * n.val + (j 0).val := by show 1024 * n.val + 1 * (j 0).val = _; omega
    have e1 : ((r.emb j) 1).val = (j 1).val := by show 0 + 1 * (j 1).val = _; omega
    have ed : ((r.emb j) 0).val / 1024 = n.val := by rw [e0]; omega
    have em : ((r.emb j) 0).val % 1024 = (j 0).val := by rw [e0]; omega
    show k0_pay11 (wq4 m c n) j = wbf m c (r.emb j)
    unfold wbf
    have ew : wq4 m c n = fun j' : S1024x512.Idx => ws m c (ix2 ⟨1024 * (((r.emb j) 0).val / 1024) + (j' 0).val, by
        rw [ed]; have h2 := idx2_lt0 j'; omega⟩ ⟨(j' 1).val, idx2_lt1 j'⟩) := by
      funext j'
      unfold wq4
      refine congrArg (ws m c) (funext fun a => ?_)
      match a with
      | ⟨0, _⟩ => exact Fin.ext (by show 1024 * n.val + (j' 0).val = 1024 * (((r.emb j) 0).val / 1024) + (j' 0).val; rw [ed])
      | ⟨1, _⟩ => rfl
    rw [ew]
    refine congrArg _ (funext fun a => ?_)
    match a with
    | ⟨0, _⟩ => exact Fin.ext em.symm
    | ⟨1, _⟩ => exact Fin.ext e1.symm
  · rw [View.write_of_not_mem _ _ _ (by rw [hS]; exact hmem)]
    refine hf i ?_
    by_contra hlt
    refine hmem ?_
    rw [hr, Rect.mem_set_unit]
    intro a
    have h0 := idx2_lt0 i
    have h1 := idx2_lt1 i
    match a with
    | ⟨0, _⟩ => exact ⟨by show 1024 * n.val ≤ (i 0).val; omega, by show (i 0).val < 1024 * n.val + 1024; omega⟩
    | ⟨1, _⟩ => exact ⟨Nat.zero_le _, by show (i 1).val < 0 + 512; omega⟩

end Cert.Ring

end
-- ==== Proof.Ring.Start.lean ====
/-
  The opening of the body: the copies of the operands, the barrier with both neighbours, the first half of the rows.
-/
module

public import proofs.«01_k».proof.Proof.Ring.Whole
public import proofs.«01_k».proof.Proof.Ring.Fetch
public import proofs.«01_k».proof.Proof.Ring.Bufs

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (m : (ℓ : Loc nD τ sig) → Buf (Elt F) ℓ) (κ : Dev nD × K → ℕ)

/-- A transfer's tokens and position, without the leave to write. -/
def sentT (c : Dev nD) (x : X) : sProp 𝕄 :=
  iprop((dutyTok ER (sndC c x) 0 false ∗ dutyTok ER (rcvC (tgt x c) x) 0 false) ∗ atPos ER (sndC c x) 0 ∅ 0)

/-- What the device needs of the barrier. -/
def barT (c : Dev nD) : sProp 𝕄 :=
  iprop(dutyTok ER (barC (sh 15 c)) 0 true ∗ dutyTok ER (barC (sh 1 c)) 0 false ∗ atPos ER (barC c) 0 ∅ 0 ∗ cred (tallyAt (barC c) () 2))

/-- Before the first word to anybody. -/
def Open (c : Dev nD) : sProp 𝕄 :=
  iprop(recs m κ ∗ levAts L lv ∗ (∃ W, owes (c : Thread nD τ) (O₀ c) W) ∗ barT (F := F) c
    ∗ bigSep Finset.univ (sentT (F := F) c) ∗ bigSep Finset.univ (gotB (F := F) c))

/-- The neighbours' leaves are the leaves to write what all ring transfers write. -/
theorem perms (c : Dev nD) : iprop(barPay (F := F) c false ∗ barPay (F := F) c true) ⊢ bigSep Finset.univ (perm (F := F) c) := by
  have e1 : barPay (F := F) c false = bigSep Finset.univ fun hs : Fin 15 × Fin 4 => perm (F := F) c (.inl (true, hs.1, hs.2)) := rfl
  have e2 : barPay (F := F) c true = bigSep Finset.univ fun hs : Fin 15 × Fin 4 => perm (F := F) c (.inl (false, hs.1, hs.2)) := rfl
  have e3 : (bigSep Finset.univ fun d : Fin 15 => perm (F := F) c (.inr d)) = (iprop(emp) : sProp 𝕄) := bigSep_emp_const _
  have e : bigSep Finset.univ (perm (F := F) c) = iprop((barPay (F := F) c true ∗ barPay (F := F) c false) ∗ emp) := by
    rw [bigSep_univ_sum, e3, bigSep_univ_prod, show (Finset.univ : Finset Bool) = {false, true} from by decide,
      bigSep_insert (by decide), bigSep_singleton, e1, e2]
    rfl
  rw [e]
  iintro ⟨H1, H2⟩
  isplitl
  · isplitl [H2]; · iexact H2
    iexact H1
  · iempintro

theorem sentB_intro (c : Dev nD) (x : X) : iprop(sentT (F := F) c x ∗ perm (F := F) c x) ⊢ sentB (F := F) c x := by
  unfold sentT sentB
  iintro ⟨⟨H1, H2⟩, H3⟩
  isplitl [H1]; · iexact H1
  isplitl [H2]; · iexact H2
  iexact H3

theorem sent_start (c : Dev nD) :
    iprop(bigSep Finset.univ (sentT (F := F) c) ∗ barPay (F := F) c false ∗ barPay (F := F) c true) ⊢ cursor rank (sentA (F := F) c) (sentB (F := F) c) 0 := by
  have e : iprop(bigSep Finset.univ (sentT (F := F) c) ∗ bigSep Finset.univ (perm (F := F) c)) ⊢ bigSep Finset.univ (sentB (F := F) c) := by
    rw [← bigSep_sep']
    exact bigSep_mono fun x _ => sentB_intro c x
  rw [cursor_start (fun _ => Nat.zero_le _)]
  iintro ⟨H, HP⟩
  iapply e
  isplitl [H]; · iexact H
  iapply (perms c) $$ HP

theorem barPay_right (c : Dev nD) : barPay (F := F) (sh 1 c) false = leaveRows (F := F) true c := by
  show leaveRows (F := F) true (sh 15 (sh 1 c)) = _
  rw [sh_sh, sh_sixteen (by omega) c]
theorem barPay_left (c : Dev nD) : barPay (F := F) (sh 15 c) true = leaveRows (F := F) false c := by
  show leaveRows (F := F) false (sh 1 (sh 15 c)) = _
  rw [sh_sh, sh_sixteen (by omega) c]

theorem mayWait_bar (c : Dev nD) : levAts L lv ⊢ (MayWait (c : Thread nD τ) (.reg barS) () (owed c 0) : sProp 𝕄) := by
  refine mayWait_owed c 0 (.reg barS) fun x _ => ?_
  rw [show nameOf (.reg barS) = some none from nameOf_bar]
  show 1 < _
  rcases x with ⟨b, h, s⟩ | d
  · show 1 < 2 + h.val; omega
  · exact (by decide : 1 < 20)

/-- The signal to the previous device, -/
theorem signal_left (c : Dev nD) {n : ℕ} {hn : n < nD} (hdev : n = (c.val + 15) % 16) {W : Waits sig Unit} {w : ℕ} (hw : w = 1)
    {α : Type} {Q : α → sProp 𝕄} {k : PUnit → Prog (TpuEff nD τ sig (Elt F) Λ₀ .tc) α} :
    iprop(recs m κ ∗ owes (c : Thread nD τ) (O₀ c) W ∗ dutyTok ER (barC (sh 15 c)) 0 true ∗ leaveRows (F := F) false c)
      ⊢ iprop((owes (c : Thread nD τ) (owed c 0 + tallyAt (barC (sh 1 c)) () 1) W
            -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal ((⟨n, hn⟩ : Dev nD) : Thread nD τ) barS w) k) Q) := by
  subst hw
  rw [show (⟨n, hn⟩ : Dev nD) = sh 15 c from dev_prev hdev, ← barPay_left]
  iintro ⟨#HR, HO, Ht, Hp⟩ Hk
  ihave #⟨HI, Hr⟩ := (recs_at m κ (sh 15 c) none) $$ HR
  iapply (Rounds.wp_signal 𝒱₀ ER (Rd m) (c : Thread nD τ) none (dst := ((sh 15 c : Dev nD) : Thread nD τ)) (κ := κ (sh 15 c, none))
      (d := true) (by rw [show (Rd m).duties (((sh 15 c : Dev nD) : Thread nD τ), SemLoc.reg barS) 0 = Finset.univ from duties_bar m (sh 15 c)]; exact Finset.mem_univ _)
      (amount_bar m (sh 15 c) 0 true) () (owed c 0 + tallyAt (barC (sh 1 c)) () 1) rfl) $$ [HO Ht Hp]
  · isplitr; · iexact HI
    isplitl [HO]; · iexact HO
    isplitl [Ht]; · iexact Ht
    isplitl [Hp]
    · iapply (Entails.of_eq (payload_bar m (sh 15 c) 0 true).symm) $$ Hp
    · iexact Hr
  iexact Hk

/-- and the one to the next. -/
theorem signal_right (c : Dev nD) {n : ℕ} {hn : n < nD} (hdev : n = (c.val + 1) % 16) {W : Waits sig Unit} {w : ℕ} (hw : w = 1)
    {α : Type} {Q : α → sProp 𝕄} {k : PUnit → Prog (TpuEff nD τ sig (Elt F) Λ₀ .tc) α} :
    iprop(recs m κ ∗ owes (c : Thread nD τ) (owed c 0 + tallyAt (barC (sh 1 c)) () 1) W ∗ dutyTok ER (barC (sh 1 c)) 0 false ∗ leaveRows (F := F) true c)
      ⊢ iprop((owes (c : Thread nD τ) (owed c 0) W
            -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal ((⟨n, hn⟩ : Dev nD) : Thread nD τ) barS w) k) Q) := by
  subst hw
  rw [show (⟨n, hn⟩ : Dev nD) = sh 1 c from dev_next hdev, ← barPay_right]
  iintro ⟨#HR, HO, Ht, Hp⟩ Hk
  ihave #⟨HI, Hr⟩ := (recs_at m κ (sh 1 c) none) $$ HR
  iapply (Rounds.wp_signal 𝒱₀ ER (Rd m) (c : Thread nD τ) none (dst := ((sh 1 c : Dev nD) : Thread nD τ)) (κ := κ (sh 1 c, none))
      (d := false) (by rw [show (Rd m).duties (((sh 1 c : Dev nD) : Thread nD τ), SemLoc.reg barS) 0 = Finset.univ from duties_bar m (sh 1 c)]; exact Finset.mem_univ _)
      (amount_bar m (sh 1 c) 0 false) () (owed c 0) rfl) $$ [HO Ht Hp]
  · isplitr; · iexact HI
    isplitl [HO]; · iexact HO
    isplitl [Ht]; · iexact Ht
    isplitl [Hp]
    · iapply (Entails.of_eq (payload_bar m (sh 1 c) 0 false).symm) $$ Hp
    · iexact Hr
  iexact Hk

/-- The wait for both neighbours' signals. -/
theorem wait_bar (c : Dev nD) {W : Waits sig Unit} {w : ℕ} (hw : w = 2)
    {α : Type} {Q : α → sProp 𝕄} {k : PUnit → Prog (TpuEff nD τ sig (Elt F) Λ₀ .tc) α} :
    iprop(recs m κ ∗ levAts L lv ∗ owes (c : Thread nD τ) (owed c 0) W ∗ atPos ER (barC c) 0 ∅ 0 ∗ cred (tallyAt (barC c) () 2))
      ⊢ iprop((((∃ W, owes (c : Thread nD τ) (owed c 0) W) ∗ semVal (barC c) 0 ∗ barPay (F := F) c false ∗ barPay (F := F) c true)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS w) k) Q) := by
  subst hw
  have hrest : bigSep ((Rd m).duties (barC c) 0 \ ∅) (fun d => (Rd m).payload (barC c) 0 d)
      = iprop(barPay (F := F) c false ∗ barPay (F := F) c true) := by
    rw [duties_bar, Finset.sdiff_empty, show (Finset.univ : Finset Bool) = {false, true} from by decide,
      bigSep_insert (by decide), bigSep_singleton, payload_bar, payload_bar]
    rfl
  iintro ⟨#HR, #HL, HO, Hat, Hc⟩ Hk
  ihave #⟨HI, -⟩ := (recs_at m κ c none) $$ HR
  iapply (Rounds.wp_wait_rest_token 𝒱₀ ER (Rd m) (c : Thread nD τ) none (κ := κ (c, none))
    (wpE_semWait_eq 𝒱₀ (c : Thread nD τ) none Set.univ) (Set.mem_univ _) () (O := owed c 0) (W := W) (R := 0) (m := 0) (T := ∅)
    (show 0 + 2 = (Rd m).expect (barC c) 0 by rw [expect_bar])) $$ [Hc Hat HO]
  · isplitr; · iexact HI
    isplitl [Hc]; · iexact Hc
    isplitl [HO]; · iexact HO
    isplitr; · iapply (mayWait_bar c) $$ HL
    iexact Hat
  iintro ⟨HO, Hat, -, Hpay⟩
  imod (cell_close ER (Rd m) (Set.mem_univ (κ (c, none))) (fun h => h) (R := 0 + 1) (duties_later m _)) $$ [Hat] with Hz
  · isplitr; · iexact HI
    iexact Hat
  ihave Hpay := (Entails.of_eq hrest) $$ Hpay
  iapply Hk
  isplitl [HO]; · iexists _; iexact HO
  isplitl [Hz]; · iexact Hz
  iexact Hpay

end Cert.Ring

end
-- ==== Proof.Ring.Start7.lean ====
/-
  The first part of the body.
-/
module

public import proofs.«01_k».proof.Proof.Ring.Start

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-- The buffers a device starts with, their contents unknown. -/
def Bare (c : Dev nD) : sProp 𝕄 :=
  iprop(argX m c ∗ (∃ f, xb (F := F) c f) ∗ semVal ((c : Thread nD τ), .dma inX) 0
    ∗ argW m c ∗ (∃ f, ys (F := F) c f) ∗ semVal ((c : Thread nD τ), .dma inW) 0
    ∗ (∃ f, rows (F := F) false c Finset.univ fullShare f) ∗ (∃ f, rows (F := F) true c Finset.univ fullShare f))

/-- After the first part: the rows are there, the neighbours ready, the weights under way. -/
def Opened (c : Dev nD) : sProp 𝕄 :=
  iprop(St m κ c 0 0 ∗ semVal (barC c) 0 ∗ (argX m c ∗ xb c (xs m c) ∗ semVal ((c : Thread nD τ), .dma inX) 0) ∗ flW m c
    ∗ rows false c (slset 0) fullShare (RB m c false) ∗ ∃ f, rows (F := F) true c (slset 0) fullShare f)

theorem start7 (c : Dev nD) :
    iprop(Open m κ c ∗ Bare m c)
      ⊢ wp frame (wpE (defs₀ (F := F)) 𝒱₀ (c : Thread nD τ) none) Set.univ (onBufs (k0_part7 (F := F)))
        (fun r => iprop(⌜r.1 = c ∧ r.2.2.2.2 = k0_pay9 (hi m c)⌝ ∗ Opened m κ c)) := by
  unfold onBufs
  simp only [k0_part7_eq_skeleton]
  unfold k0_part7_skel
  simp only [semSignalWord, semWaitWord, Prog.lift, Prog.bind_op, Prog.bind_ret, Prog.pure_eq_ret, wp_deviceId]
  unfold Open Bare barT
  iintro ⟨⟨#HR, #HL, ⟨%W, HO⟩, ⟨HtL, HtR, Hat, Hcr⟩, HT, HG⟩, HX, ⟨%fx, Hx⟩, HvX, HW, ⟨%fy, Hy⟩, HvW, ⟨%f0, H0⟩, ⟨%f1, H1⟩⟩
  iapply (fetch_x m c fx) $$ [HX Hx HvX]
  · isplitl [HX]; · iexact HX
    isplitl [Hx]; · iexact Hx
    iexact HvX
  iintro HFx
  iapply (fetch_w m c fy) $$ [HW Hy HvW]
  · isplitl [HW]; · iexact HW
    isplitl [Hy]; · iexact Hy
    iexact HvW
  iintro HFw
  ihave ⟨Hs0, Hl0⟩ := (rows_lend c false f0) $$ H0
  ihave ⟨Hs1, Hl1⟩ := (rows_lend c true f1) $$ H1
  iapply (signal_left m κ c (show k0_dev1 c = (c.val + 15) % 16 by revert c; decide) (by decide)) $$ [HO HtL Hl0]
  · isplitr; · iexact HR
    isplitl [HO]; · iexact HO
    isplitl [HtL]; · iexact HtL
    iexact Hl0
  iintro HO
  iapply (signal_right m κ c (show k0_dev2 c = (c.val + 1) % 16 by revert c; decide) (by decide)) $$ [HO HtR Hl1]
  · isplitr; · iexact HR
    isplitl [HO]; · iexact HO
    isplitl [HtR]; · iexact HtR
    iexact Hl1
  iintro HO
  iapply (wait_bar m κ c (by decide)) $$ [HO Hat Hcr]
  · isplitr; · iexact HR
    isplitr; · iexact HL
    isplitl [HO]; · iexact HO
    isplitl [Hat]; · iexact Hat
    iexact Hcr
  iintro ⟨HO, HvB, HP⟩
  ihave HT := (sent_start c) $$ [HT HP]
  · isplitl [HT]; · iexact HT
    iexact HP
  ihave HG := (show bigSep Finset.univ (gotB (F := F) c) ⊢ cursor rank (gotA (F := F) c) (gotB (F := F) c) 0 from
    Entails.of_eq (cursor_start (fun _ => Nat.zero_le _)).symm) $$ HG
  ihave HS := (show iprop(recs m κ ∗ levAts L lv ∗ (∃ W, owes (c : Thread nD τ) (owed c 0) W)
    ∗ cursor rank (sentA (F := F) c) (sentB (F := F) c) 0 ∗ cursor rank (gotA (F := F) c) (gotB (F := F) c) 0) ⊢ St m κ c 0 0 from .rfl) $$ [HO HT HG]
  · isplitr; · iexact HR
    isplitr; · iexact HL
    isplitl [HO]; · iexact HO
    isplitl [HT]; · iexact HT
    iexact HG
  unfold flX
  iapply (wait_here m κ c 0 0 (N := amtX) (show nameOf (.dma inX) = none by decide) rfl) $$ [HFx HS]
  · isplitl [HFx]; · iexact HFx
    iexact HS
  iintro ⟨⟨Hx, HX⟩, Hv, HS⟩
  iapply (load_lo m c) $$ Hx
  iintro Hx
  iapply (load_slot_any c false rfl f0) $$ Hs0
  iintro %v Hs0
  iapply (store_slot m c false rfl f0 rfl) $$ Hs0
  iintro Hs0
  iapply (load_hi m c) $$ Hx
  iintro Hx
  simp only [wp_ret]
  imodintro
  isplitr; · ipureintro; constructor <;> first | rfl | trivial
  unfold Opened
  isplitl [HS]; · iexact HS
  isplitl [HvB]; · iexact HvB
  isplitl [HX Hx Hv]
  · isplitl [HX]; · iexact HX
    isplitl [Hx]; · iexact Hx
    iexact Hv
  isplitl [HFw]; · iexact HFw
  isplitl [Hs0]; · iexact Hs0
  iexists f1
  iexact Hs1

end Cert.Ring

end
-- ==== Proof.Ring.First.lean ====
/-
  The first hop: every device sends its own rows both ways round, a piece at a time.
-/
module

public import proofs.«01_k».proof.Proof.Ring.Hop
public import proofs.«01_k».proof.Proof.Ring.Fetch

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-- Of the first hop's eight pieces, those not yet sent. -/
def heads (c : Dev nD) (k : ℕ) : sProp 𝕄 :=
  cursor prk (fun _ => iprop(emp)) (fun x => iprop(rows x.1 c (pset 0 x.2.val) fullShare.left (RB m c x.1)
    ∗ along (F := F) (tgt (.inl (x.1, 0, x.2)) c) (x.1, 0, x.2))) k

/-- The leaves go with the last piece of the second ring. -/
theorem along_last (c : Dev nD) (h : Fin 15) : along (F := F) c (true, h, 3) = leavePeaks (F := F) (sh (h.val + 1) c) h.val := by
  unfold along
  exact if_pos (by decide)

/-- Everything that goes along with the first hop. -/
theorem heads_along (c : Dev nD) :
    leavePeaks (F := F) c 0 ⊢ bigSep Finset.univ fun x : Bool × Fin 4 => along (F := F) (tgt (.inl (x.1, 0, x.2)) c) (x.1, 0, x.2) := by
  rw [bigSep_univ_at _ ((true, 3) : Bool × Fin 4)]
  have e : along (F := F) (tgt (.inl (true, 0, 3)) c) (true, 0, 3) = leavePeaks (F := F) c 0 := by
    refine (along_last (sh 15 c) 0).trans ?_
    show leavePeaks (F := F) (sh (0 + 1) (sh 15 c)) 0 = _
    rw [sh_sh, sh_sixteen (by omega) c]
  have e' : bigSep (Finset.univ.erase ((true, 3) : Bool × Fin 4)) (fun x => along (F := F) (tgt (.inl (x.1, 0, x.2)) c) (x.1, 0, x.2))
      = (iprop(emp) : sProp 𝕄) := by
    refine (bigSep_congr fun x hx => ?_).trans (bigSep_emp_const _)
    refine if_neg fun h => Finset.ne_of_mem_erase hx (Prod.ext h.1 (Fin.ext h.2))
  iintro H
  isplitl [H]
  · iapply (Entails.of_eq e.symm) $$ H
  · iapply (Entails.of_eq e'.symm)
    iempintro

theorem heads_start (c : Dev nD) :
    iprop(rows false c (slset 0) fullShare.left (RB m c false) ∗ rows true c (slset 0) fullShare.left (RB m c true) ∗ leavePeaks (F := F) c 0)
      ⊢ heads m c 0 := by
  unfold heads
  rw [cursor_start (fun _ => Nat.zero_le _), bigSep_sep', bigSep_univ_prod (fun x : Bool × Fin 4 => rows x.1 c (pset 0 x.2.val) fullShare.left (RB m c x.1)),
    show (Finset.univ : Finset Bool) = {false, true} from by decide, bigSep_insert (by decide), bigSep_singleton, slot_pieces, slot_pieces]
  iintro ⟨H0, H1, HL⟩
  isplitl [H0 H1]
  · iapply (show (iprop((bigSep Finset.univ fun s : Fin 4 => rows false c (pset 0 s.val) fullShare.left (RB m c false))
        ∗ (bigSep Finset.univ fun s : Fin 4 => rows true c (pset 0 s.val) fullShare.left (RB m c true))) : sProp 𝕄) ⊢ _ from .rfl)
    isplitl [H0]; · iexact H0
    iexact H1
  · iapply (heads_along c) $$ HL

/-- One piece of the first hop is sent. -/
theorem first_beat (c : Dev nD) (b : Bool) (s : Fin 4) {k : ℕ} (hk : k = prk (b, s))
    {offs offd : Fin 3 → ℕ} {inbs inbd} (hs : offs = ![0, 32 * s.val, 0]) (hd : offd = ![1, 32 * s.val, 0]) {n : ℕ} {hn : n < nD}
    (hdev : n = (c.val + (if b then 15 else 1)) % 16) {off5 off6 : Fin 2 → ℕ} {inb5 inb6}
    (h5 : off5 = ![0, s.val]) (h6 : off6 = ![1, s.val])
    {hsc : (pcM (rM b) offd inbd : Memref sig (Dev.tc (⟨n, hn⟩ : Dev nD) : Thread nD τ).2.kind .vmem S32x4096 .bf16).view.ref.isScScratch = false}
    {hsrc : (pcM (rM b) offs inbs).view.WordExact} {hdst : (pcM (rM b) offd inbd).view.WordExact}
    {hsem : DmaTarget.Typed .vmem (.dma (semAt (rA b) off6 inb6))
      (.remote (Dev.tc (⟨n, hn⟩ : Dev nD) : Thread nD τ) (pcM (rM b) offd inbd) (.dma (semAt (sA b) off5 inb5)) hsc)}
    {α : Type} {Q : α → sProp 𝕄} {J : PUnit → Prog (TpuEff nD τ sig (Elt F) Λ₀ .tc) α} :
    iprop(St m κ c k 0 ∗ heads m c k)
      ⊢ iprop(((St m κ c (k + 1) 0 ∗ heads m c (k + 1)) -∗ wp frame (wpE (defs₀ (F := F)) 𝒱₀ (c : Thread nD τ) none) Set.univ (J ⟨⟩) Q)
          -∗ wp frame (wpE (defs₀ (F := F)) 𝒱₀ (c : Thread nD τ) none) Set.univ
              (.op (.enqueueDma (pcM (rM b) offs inbs) (.remote (Dev.tc (⟨n, hn⟩ : Dev nD) : Thread nD τ) (pcM (rM b) offd inbd)
                (.dma (semAt (sA b) off5 inb5)) hsc) (.dma (semAt (rA b) off6 inb6)) hsrc hdst hsem) J) Q) := by
  unfold heads
  iintro ⟨HS, Hk⟩ HK
  ihave ⟨⟨Hp, Hf⟩, Hclose⟩ := (cursor_take prk_inj (b, s) hk.symm) $$ Hk
  have hrank : rank (.inl (b, 0, s)) = k := by rw [hk]; unfold rank prk; cases b <;> simp
  have hD : (⟨n, hn⟩ : Dev nD) = tgt (.inl (b, 0, s)) c := by
    cases b
    · exact dev_next hdev
    · exact dev_prev hdev
  iapply (step_send m κ c b 0 s (ns := k) (nr := 0) hrank (inbs := inbs) (inbd := inbd) hs hd hD
    (snd_at b 0 s h5) (rcv_at b 0 s h6) (k := J) (Q := Q)) $$ [HS Hp Hf]
  · isplitl [HS]; · iexact HS
    isplitl [Hp]; · iexact Hp
    iexact Hf
  iintro HS
  iapply HK
  isplitl [HS]; · iexact HS
  iapply Hclose
  iempintro

end Cert.Ring

end
-- ==== Proof.Ring.FirstParts.lean ====
/-
  The parts of the body up to the loop over the hops: the first hop's transfers and the conversion of the weights.
-/
module

public import proofs.«01_k».proof.Proof.Ring.First
public import proofs.«01_k».proof.Proof.Ring.Bufs

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-- The second half goes into its buffer and the first two pieces go out. -/
theorem start8 (c : Dev nD) (v4 v7 : BitVec 32) (f : Vec F S16x128x4096 .bf16) :
    iprop(St m κ c 0 0 ∗ rows true c (slset 0) fullShare f ∗ rows false c (slset 0) fullShare (RB m c false) ∗ leavePeaks (F := F) c 0)
      ⊢ wp frame (wpE (defs₀ (F := F)) 𝒱₀ (c : Thread nD τ) none) Set.univ (onBufs (k0_part8 (F := F)) c v4 v7 (k0_pay9 (hi m c)))
        (fun _ => iprop(St m κ c 2 0 ∗ heads m c 2 ∗ rows false c (slset 0) fullShare.right (RB m c false)
          ∗ rows true c (slset 0) fullShare.right (RB m c true))) := by
  unfold onBufs
  simp only [k0_part8_eq_skeleton]
  unfold k0_part8_skel
  simp only [Prog.lift, Prog.bind_op, Prog.bind_ret, Prog.pure_eq_ret]
  iintro ⟨HS, Hb, Ha, HL⟩
  iapply (load_slot_any c true rfl f) $$ Hb
  iintro %v Hb
  iapply (store_slot m c true rfl f rfl) $$ Hb
  iintro Hb
  ihave ⟨Hal, Har⟩ := ((pointsTo_halves c false (slset 0) (RB m c false)).1) $$ Ha
  ihave ⟨Hbl, Hbr⟩ := ((pointsTo_halves c true (slset 0) (RB m c true)).1) $$ Hb
  ihave HH := (heads_start m c) $$ [Hal Hbl HL]
  · isplitl [Hal]; · iexact Hal
    isplitl [Hbl]; · iexact Hbl
    iexact HL
  iapply (first_beat m κ c false 0 (k := 0) rfl rfl rfl (show k0_dev3 c = (c.val + 1) % 16 by revert c; decide) rfl rfl) $$ [HS HH]
  · isplitl [HS]; · iexact HS
    iexact HH
  iintro ⟨HS, HH⟩
  iapply (first_beat m κ c true 0 (k := 1) rfl rfl rfl (show k0_dev4 c = (c.val + 15) % 16 by revert c; decide) rfl rfl) $$ [HS HH]
  · isplitl [HS]; · iexact HS
    iexact HH
  iintro ⟨HS, HH⟩
  simp only [wp_ret]
  imodintro
  isplitl [HS]; · iexact HS
  isplitl [HH]; · iexact HH
  isplitl [Har]; · iexact Har
  iexact Hbr

/-- Two more pieces. -/
theorem start9 (c : Dev nD) (v4 v7 v : BitVec 32) :
    iprop(St m κ c 2 0 ∗ heads m c 2)
      ⊢ wp frame (wpE (defs₀ (F := F)) 𝒱₀ (c : Thread nD τ) none) Set.univ (onBufs (k0_part9 (F := F)) c v4 v7 v)
        (fun _ => iprop(St m κ c 4 0 ∗ heads m c 4)) := by
  unfold onBufs
  simp only [k0_part9_eq_skeleton]
  unfold k0_part9_skel
  simp only [Prog.lift, Prog.bind_op, Prog.bind_ret, Prog.pure_eq_ret]
  iintro ⟨HS, HH⟩
  iapply (first_beat m κ c false 1 (k := 2) rfl rfl rfl (show k0_dev5 c = (c.val + 1) % 16 by revert c; decide) rfl rfl) $$ [HS HH]
  · isplitl [HS]; · iexact HS
    iexact HH
  iintro ⟨HS, HH⟩
  iapply (first_beat m κ c true 1 (k := 3) rfl rfl rfl (show k0_dev6 c = (c.val + 15) % 16 by revert c; decide) rfl rfl) $$ [HS HH]
  · isplitl [HS]; · iexact HS
    iexact HH
  iintro ⟨HS, HH⟩
  simp only [wp_ret]
  imodintro
  isplitl [HS]; · iexact HS
  iexact HH

/-- Three more. -/
theorem start10 (c : Dev nD) (v4 v7 : BitVec 32) :
    iprop(St m κ c 4 0 ∗ heads m c 4)
      ⊢ wp frame (wpE (defs₀ (F := F)) 𝒱₀ (c : Thread nD τ) none) Set.univ (onBufs (k0_part10 (F := F)) c v4 v7)
        (fun _ => iprop(St m κ c 7 0 ∗ heads m c 7)) := by
  unfold onBufs
  simp only [k0_part10_eq_skeleton]
  unfold k0_part10_skel
  simp only [Prog.lift, Prog.bind_op, Prog.bind_ret, Prog.pure_eq_ret]
  iintro ⟨HS, HH⟩
  iapply (first_beat m κ c false 2 (k := 4) rfl rfl rfl (show k0_dev7 c = (c.val + 1) % 16 by revert c; decide) rfl rfl) $$ [HS HH]
  · isplitl [HS]; · iexact HS
    iexact HH
  iintro ⟨HS, HH⟩
  iapply (first_beat m κ c true 2 (k := 5) rfl rfl rfl (show k0_dev8 c = (c.val + 15) % 16 by revert c; decide) rfl rfl) $$ [HS HH]
  · isplitl [HS]; · iexact HS
    iexact HH
  iintro ⟨HS, HH⟩
  iapply (first_beat m κ c false 3 (k := 6) rfl rfl rfl (show k0_dev9 c = (c.val + 1) % 16 by revert c; decide) rfl rfl) $$ [HS HH]
  · isplitl [HS]; · iexact HS
    iexact HH
  iintro ⟨HS, HH⟩
  simp only [wp_ret]
  imodintro
  isplitl [HS]; · iexact HS
  iexact HH

/-- The first slots hold the device's own rows. -/
theorem half_own (c : Dev nD) (b : Bool) : half m b (orig b 0 c) = half m b c :=
  congrArg (half m b) (by cases b <;> [exact sh_sixteen (by omega) c; exact sh_zero c])

/-- The last piece goes out, the weights are there and are converted. -/
theorem start11 (c : Dev nD) (f : Vec F S4096x512 .bf16) :
    iprop(St m κ c 7 0 ∗ heads m c 7 ∗ flW m c ∗ wq c f ∗ rows false c (slset 0) fullShare.right (RB m c false))
      ⊢ wp frame (wpE (defs₀ (F := F)) 𝒱₀ (c : Thread nD τ) none) Set.univ (onBufs (k0_part11 (F := F)) c)
        (fun r => iprop(⌜r = k0_pay15 (loB m c)⌝ ∗ St m κ c 8 0 ∗ ys c (ws m c) ∗ argW m c ∗ semVal ((c : Thread nD τ), .dma inW) 0 ∗ wq c (wbf m c)
          ∗ rows false c (slset 0) fullShare.right (RB m c false))) := by
  unfold onBufs
  simp only [k0_part11_eq_skeleton]
  unfold k0_part11_skel
  simp only [Prog.lift, Prog.bind_op, Prog.bind_ret, Prog.pure_eq_ret]
  iintro ⟨HS, HH, HF, Hw, Ha⟩
  iapply (first_beat m κ c true 3 (k := 7) rfl rfl rfl (show k0_dev10 c = (c.val + 15) % 16 by revert c; decide) rfl rfl) $$ [HS HH]
  · isplitl [HS]; · iexact HS
    iexact HH
  iintro ⟨HS, -⟩
  unfold flW
  iapply (wait_here m κ c 8 0 (N := amtW) (show nameOf (.dma inW) = none by decide) rfl) $$ [HF HS]
  · isplitl [HF]; · iexact HF
    iexact HS
  iintro ⟨⟨Hy, HW⟩, Hv, HS⟩
  iapply (load_quarter m c 0 rfl) $$ Hy
  iintro Hy
  iapply (load_w_any c _) $$ Hw
  iintro %v1 Hw
  iapply (store_quarter m c 0 rfl _ rfl (fun _ h => absurd h (Nat.not_lt_zero _))) $$ Hw
  iintro %f1 %h1 Hw
  iapply (load_quarter m c 1 rfl) $$ Hy
  iintro Hy
  iapply (load_w_any c _) $$ Hw
  iintro %v2 Hw
  iapply (store_quarter m c 1 rfl _ rfl h1) $$ Hw
  iintro %f2 %h2 Hw
  iapply (load_quarter m c 2 rfl) $$ Hy
  iintro Hy
  iapply (load_w_any c _) $$ Hw
  iintro %v3 Hw
  iapply (store_quarter m c 2 rfl _ rfl h2) $$ Hw
  iintro %f3 %h3 Hw
  iapply (load_quarter m c 3 rfl) $$ Hy
  iintro Hy
  iapply (load_w_any c _) $$ Hw
  iintro %v4 Hw
  iapply (store_quarter m c 3 rfl _ rfl h3) $$ Hw
  iintro %f4 %h4 Hw
  obtain rfl := wDone_all m c f4 h4
  iapply (load_slot m c false 0 rfl fullShare.right) $$ Ha
  iintro Ha
  simp only [wp_ret]
  imodintro
  isplitr
  · ipureintro
    exact congrArg k0_pay15 (half_own m c false)
  isplitl [HS]; · iexact HS
  isplitl [Hy]; · iexact Hy
  isplitl [HW]; · iexact HW
  isplitl [Hv]; · iexact Hv
  isplitl [Hw]; · iexact Hw
  iexact Ha

end Cert.Ring

end
-- ==== Proof.Ring.HopParts.lean ====
/-
  The four parts of a hop of the rings.
-/
module

public import proofs.«01_k».proof.Proof.Ring.Hop

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-! ## Where the parts of a hop point -/

theorem trips1 : k0_t1_loop.trips = 15 := by decide

/-- The hop as a number below fifteen. -/
def hopNo (t : Fin k0_t1_loop.trips) : Fin 15 := ⟨t.val, trips1 ▸ t.isLt⟩

/-- The first two beats. -/
theorem hop1 (c : Dev nD) (t : Fin k0_t1_loop.trips) (v4 v7 : BitVec 32) :
    iprop(St m κ c (nsAt t.val 0) (8 * t.val + 0) ∗ kept m c t.val 0)
      ⊢ wp frame (wpE (defs₀ (F := F)) 𝒱₀ (c : Thread nD τ) none) Set.univ (onBufs (k0_part1 (F := F)) c v4 v7 1#32 1#32 t)
        (fun _ => iprop(St m κ c (nsAt t.val 2) (8 * t.val + 2) ∗ kept m c t.val 2)) := by
  unfold onBufs
  simp only [k0_part1_eq_skeleton]
  unfold k0_part1_skel
  simp only [Prog.lift, Prog.bind_op, Prog.bind_ret, Prog.pure_eq_ret]
  iintro ⟨HS, HK⟩
  iapply (hop_beat m κ c false (hopNo t) 0 (k := 0) rfl (show k0_off3 t = ![t.val + 1, 0] by revert t; decide)
    (show k0_cond1 t = 1#1 ↔ t.val < 14 by revert t; decide)
    (show k0_off8 t = ![t.val + 1, 0, 0] by revert t; decide) (show k0_off7 t = ![t.val + 2, 0, 0] by revert t; decide)
    (show k0_dev11 c = (c.val + 1) % 16 by revert c; decide)
    (show k0_off5 t = ![t.val + 1, 0] by revert t; decide) (show k0_off6 t = ![t.val + 2, 0] by revert t; decide)) $$ [HS HK]
  · isplitl [HS]; · iexact HS
    iexact HK
  iintro ⟨HS, HK⟩
  iapply (hop_beat m κ c true (hopNo t) 0 (k := 1) rfl (show k0_off3 t = ![t.val + 1, 0] by revert t; decide)
    (show k0_cond2 t = 1#1 ↔ t.val < 14 by revert t; decide)
    (show k0_off12 t = ![t.val + 1, 0, 0] by revert t; decide) (show k0_off11 t = ![t.val + 2, 0, 0] by revert t; decide)
    (show k0_dev12 c = (c.val + 15) % 16 by revert c; decide)
    (show k0_off9 t = ![t.val + 1, 0] by revert t; decide) (show k0_off10 t = ![t.val + 2, 0] by revert t; decide)) $$ [HS HK]
  · isplitl [HS]; · iexact HS
    iexact HK
  iintro ⟨HS, HK⟩
  simp only [wp_ret]
  imodintro
  isplitl [HS]; · iexact HS
  iexact HK

/-- Three more. -/
theorem hop2 (c : Dev nD) (t : Fin k0_t1_loop.trips) (v4 v7 v : BitVec 32) :
    iprop(St m κ c (nsAt t.val 2) (8 * t.val + 2) ∗ kept m c t.val 2)
      ⊢ wp frame (wpE (defs₀ (F := F)) 𝒱₀ (c : Thread nD τ) none) Set.univ (onBufs (k0_part2 (F := F)) c v4 v7 t v)
        (fun _ => iprop(St m κ c (nsAt t.val 5) (8 * t.val + 5) ∗ kept m c t.val 5)) := by
  unfold onBufs
  simp only [k0_part2_eq_skeleton]
  unfold k0_part2_skel
  simp only [Prog.lift, Prog.bind_op, Prog.bind_ret, Prog.pure_eq_ret]
  iintro ⟨HS, HK⟩
  iapply (hop_beat m κ c false (hopNo t) 1 (k := 2) rfl (show k0_off13 t = ![t.val + 1, 1] by revert t; decide)
    (show k0_cond3 t = 1#1 ↔ t.val < 14 by revert t; decide)
    (show k0_off18 t = ![t.val + 1, 32, 0] by revert t; decide) (show k0_off17 t = ![t.val + 2, 32, 0] by revert t; decide)
    (show k0_dev13 c = (c.val + 1) % 16 by revert c; decide)
    (show k0_off15 t = ![t.val + 1, 1] by revert t; decide) (show k0_off16 t = ![t.val + 2, 1] by revert t; decide)) $$ [HS HK]
  · isplitl [HS]; · iexact HS
    iexact HK
  iintro ⟨HS, HK⟩
  iapply (hop_beat m κ c true (hopNo t) 1 (k := 3) rfl (show k0_off13 t = ![t.val + 1, 1] by revert t; decide)
    (show k0_cond4 t = 1#1 ↔ t.val < 14 by revert t; decide)
    (show k0_off22 t = ![t.val + 1, 32, 0] by revert t; decide) (show k0_off21 t = ![t.val + 2, 32, 0] by revert t; decide)
    (show k0_dev14 c = (c.val + 15) % 16 by revert c; decide)
    (show k0_off19 t = ![t.val + 1, 1] by revert t; decide) (show k0_off20 t = ![t.val + 2, 1] by revert t; decide)) $$ [HS HK]
  · isplitl [HS]; · iexact HS
    iexact HK
  iintro ⟨HS, HK⟩
  iapply (hop_beat m κ c false (hopNo t) 2 (k := 4) rfl (show k0_off23 t = ![t.val + 1, 2] by revert t; decide)
    (show k0_cond5 t = 1#1 ↔ t.val < 14 by revert t; decide)
    (show k0_off28 t = ![t.val + 1, 64, 0] by revert t; decide) (show k0_off27 t = ![t.val + 2, 64, 0] by revert t; decide)
    (show k0_dev15 c = (c.val + 1) % 16 by revert c; decide)
    (show k0_off25 t = ![t.val + 1, 2] by revert t; decide) (show k0_off26 t = ![t.val + 2, 2] by revert t; decide)) $$ [HS HK]
  · isplitl [HS]; · iexact HS
    iexact HK
  iintro ⟨HS, HK⟩
  simp only [wp_ret]
  imodintro
  isplitl [HS]; · iexact HS
  iexact HK

/-- Two more, and the landing of the last piece. -/
theorem hop3 (c : Dev nD) (t : Fin k0_t1_loop.trips) (v4 v7 v v' : BitVec 32) :
    iprop(St m κ c (nsAt t.val 5) (8 * t.val + 5) ∗ kept m c t.val 5)
      ⊢ wp frame (wpE (defs₀ (F := F)) 𝒱₀ (c : Thread nD τ) none) Set.univ (onBufs (k0_part3 (F := F)) c v4 v7 t v v')
        (fun _ => iprop(St m κ c (nsAt t.val 7) (8 * t.val + 8) ∗ rows true c (pset (t.val + 1) 3) fullShare (RB m c true)
          ∗ extra (F := F) c true (hopNo t) 3 ∗ fwdAlong (F := F) c true (hopNo t) 3 ∗ kept m c t.val 7)) := by
  unfold onBufs
  simp only [k0_part3_eq_skeleton]
  unfold k0_part3_skel
  simp only [Prog.lift, Prog.bind_op, Prog.bind_ret, Prog.pure_eq_ret]
  iintro ⟨HS, HK⟩
  iapply (hop_beat m κ c true (hopNo t) 2 (k := 5) rfl (show k0_off23 t = ![t.val + 1, 2] by revert t; decide)
    (show k0_cond6 t = 1#1 ↔ t.val < 14 by revert t; decide)
    (show k0_off32 t = ![t.val + 1, 64, 0] by revert t; decide) (show k0_off31 t = ![t.val + 2, 64, 0] by revert t; decide)
    (show k0_dev16 c = (c.val + 15) % 16 by revert c; decide)
    (show k0_off29 t = ![t.val + 1, 2] by revert t; decide) (show k0_off30 t = ![t.val + 2, 2] by revert t; decide)) $$ [HS HK]
  · isplitl [HS]; · iexact HS
    iexact HK
  iintro ⟨HS, HK⟩
  iapply (hop_beat m κ c false (hopNo t) 3 (k := 6) rfl (show k0_off33 t = ![t.val + 1, 3] by revert t; decide)
    (show k0_cond7 t = 1#1 ↔ t.val < 14 by revert t; decide)
    (show k0_off38 t = ![t.val + 1, 96, 0] by revert t; decide) (show k0_off37 t = ![t.val + 2, 96, 0] by revert t; decide)
    (show k0_dev17 c = (c.val + 1) % 16 by revert c; decide)
    (show k0_off35 t = ![t.val + 1, 3] by revert t; decide) (show k0_off36 t = ![t.val + 2, 3] by revert t; decide)) $$ [HS HK]
  · isplitl [HS]; · iexact HS
    iexact HK
  iintro ⟨HS, HK⟩
  iapply (hop_recv m κ c true (hopNo t) 3 (k := 7) rfl (show k0_off33 t = ![t.val + 1, 3] by revert t; decide)) $$ [HS]
  · iexact HS
  iintro ⟨HS, Hp, He, Hf⟩
  simp only [wp_ret]
  imodintro
  isplitl [HS]; · iexact HS
  isplitl [Hp]; · iexact Hp
  isplitl [He]; · iexact He
  isplitl [Hf]; · iexact Hf
  iexact HK

theorem extra_last (c : Dev nD) (t : Fin 15) : extra (F := F) c true t 3 = peakAny (F := F) (sh (t.val + 1) c) (t.val + 1) :=
  if_pos ⟨rfl, rfl⟩

theorem at43 : ∀ t : Fin k0_t1_loop.trips, k0_off43 t = ![t.val + 1, 0, 0] := by decide
theorem at44 : ∀ (c : Dev nD) (t : Fin k0_t1_loop.trips),
    k0_off44 c t = ![256 * (orig false (t.val + 1) c).val + (if false = true then 128 else 0), 0] := by decide
theorem at45 : ∀ (c : Dev nD) (t : Fin k0_t1_loop.trips),
    k0_off45 c t = ![256 * (orig true (t.val + 1) c).val + (if true = true then 128 else 0), 0] := by decide

/-- The last piece goes on, and the two slots' products are made. -/
theorem hop4 (c : Dev nD) (t : Fin k0_t1_loop.trips) (v2 v7 v v' : BitVec 32) (f : Vec F S4096x512 .f32)
    (hf : yDone m c false (t.val + 1) f) (hf' : yDone m c true (t.val + 1) f) :
    iprop(St m κ c (nsAt t.val 7) (8 * t.val + 8) ∗ rows true c (pset (t.val + 1) 3) fullShare (RB m c true)
          ∗ fwdAlong (F := F) c true (hopNo t) 3 ∗ kept m c t.val 7 ∗ wq c (wbf m c) ∗ ys c f)
      ⊢ wp frame (wpE (defs₀ (F := F)) 𝒱₀ (c : Thread nD τ) none) Set.univ (onBufs (k0_part4 (F := F)) c v2 v7 t v v')
        (fun r => iprop(⌜r = ⟨k0_pay6 (loB m (orig false (t.val + 1) c)) (wbf m c), k0_pay7 (hiB m (orig true (t.val + 1) c)) (wbf m c)⟩⌝
          ∗ St m κ c (nsAt t.val 8) (8 * t.val + 8) ∗ rows false c (slset (t.val + 1)) (keepSh t.val) (RB m c false)
          ∗ rows true c (slset (t.val + 1)) (keepSh t.val) (RB m c true) ∗ wq c (wbf m c)
          ∗ ∃ f', ⌜yDone m c false (t.val + 2) f' ∧ yDone m c true (t.val + 2) f'⌝ ∗ ys c f')) := by
  unfold onBufs
  simp only [k0_part4_eq_skeleton]
  unfold k0_part4_skel
  simp only [Prog.lift, Prog.bind_op, Prog.bind_ret, Prog.pure_eq_ret]
  iintro ⟨HS, Hp, Hf, HK, Hw, Hy⟩
  iapply (hop_pass m κ c true (hopNo t) 3 (k := 7) rfl (show k0_cond8 t = 1#1 ↔ t.val < 14 by clear hf hf'; revert t; decide)
    (show k0_off42 t = ![t.val + 1, 96, 0] by clear hf hf'; revert t; decide) (show k0_off41 t = ![t.val + 2, 96, 0] by clear hf hf'; revert t; decide)
    (show k0_dev18 c = (c.val + 15) % 16 by clear hf hf'; revert c; decide)
    (show k0_off39 t = ![t.val + 1, 3] by clear hf hf'; revert t; decide) (show k0_off40 t = ![t.val + 2, 3] by clear hf hf'; revert t; decide)) $$ [HS Hp Hf HK]
  · isplitl [HS]; · iexact HS
    isplitl [Hp]; · iexact Hp
    isplitl [Hf]; · iexact Hf
    iexact HK
  iintro ⟨HS, HK⟩
  ihave ⟨Ha, Hb⟩ := (show kept m c (hopNo t).val (7 + 1) ⊢ _ from Entails.of_eq (kept_all m c t.val)) $$ HK
  iapply (load_slot m c false (t.val + 1) (at43 t) (keepSh t.val)) $$ Ha
  iintro Ha
  iapply (load_w c (wbf m c)) $$ Hw
  iintro Hw
  iapply (load_y_any c f) $$ Hy
  iintro %v1 Hy
  iapply (store_y m c false (t.val + 1) (at44 c t) f (w := k0_pay3 (half m false (orig false (t.val + 1) c)) (wbf m c)) rfl) $$ Hy
  iintro %f1 %h1 Hy
  iapply (load_slot m c true (t.val + 1) (at43 t) (keepSh t.val)) $$ Hb
  iintro Hb
  iapply (load_w c (wbf m c)) $$ Hw
  iintro Hw
  iapply (load_y_any c f1) $$ Hy
  iintro %v3 Hy
  iapply (store_y m c true (t.val + 1) (at45 c t) f1 (w := k0_pay5 (half m true (orig true (t.val + 1) c)) (wbf m c)) rfl) $$ Hy
  iintro %f2 %h2 Hy
  simp only [wp_ret]
  imodintro
  isplitr; · ipureintro; rfl
  isplitl [HS]; · iexact HS
  isplitl [Ha]; · iexact Ha
  isplitl [Hb]; · iexact Hb
  isplitl [Hw]; · iexact Hw
  iexists f2
  isplitr
  · ipureintro
    exact ⟨h2.2 _ (h1.1 hf), h2.1 (h1.2 _ hf')⟩
  iexact Hy

end Cert.Ring

end
-- ==== Proof.Ring.HopLoop.lean ====
/-
  The loop over the fifteen hops.
-/
module

public import proofs.«01_k».proof.Proof.Ring.HopParts

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-- The slots of the hops below `n`, kept by the device. -/
def slotsKept (c : Dev nD) (b : Bool) (n : ℕ) : sProp 𝕄 :=
  cursor (fun i : Fin 15 => i.val) (fun i => rows b c (slset (i.val + 1)) (keepSh i.val) (RB m c b)) (fun _ => iprop(emp)) n

/-- The leaves to write peaks that `n` hops have brought. -/
def peakLeaves (c : Dev nD) (n : ℕ) : sProp 𝕄 :=
  cursor (fun i : Fin 15 => i.val) (fun i => peakAny (F := F) (sh (i.val + 1) c) (i.val + 1)) (fun _ => iprop(emp)) n

/-- Between hops. -/
def hopInv (c : Dev nD) (n : ℕ) (a : F .f32) : sProp 𝕄 :=
  iprop(⌜a = accs m c n⌝ ∗ St m κ c (min (8 * (n + 1)) 120) (8 * n) ∗ slotsKept m c false n ∗ slotsKept m c true n ∗ peakLeaves (F := F) c n
    ∗ wq c (wbf m c) ∗ ∃ f, ⌜yDone m c false (n + 1) f ∧ yDone m c true (n + 1) f⌝ ∗ ys c f)

theorem ns_start (t : Fin 15) : nsAt t.val 0 = min (8 * (t.val + 1)) 120 := by
  unfold nsAt; have := t.isLt; split <;> omega
theorem ns_end (t : Fin 15) : nsAt t.val 8 = min (8 * (t.val + 1 + 1)) 120 := by
  unfold nsAt; have := t.isLt; split <;> omega

/-- No piece of a hop is through at its start. -/
theorem kept_none (c : Dev nD) (t : ℕ) : (iprop(emp) : sProp 𝕄) ⊢ kept m c t 0 := by
  unfold kept
  rw [cursor_start (fun _ => Nat.zero_le _)]
  exact Entails.of_eq (bigSep_emp_const _).symm

theorem val15_inj : Function.Injective (fun i : Fin 15 => i.val) := Fin.val_injective

/-- One hop. -/
theorem hop_step (c : Dev nD) (v2 v4 v7 : BitVec 32) (v132 : FVec F S128x4096 .bf16) (t : Fin k0_t1_loop.trips) (a : F .f32) :
    hopInv m κ c t.val a
      ⊢ wp frame (wpE (defs₀ (F := F)) 𝒱₀ (c : Thread nD τ) none) Set.univ (onBufs (k0_t1_body (F := F)) c v2 v4 v7 v132 t a)
        (hopInv m κ c (t.val + 1)) := by
  have hs := ns_start (hopNo t)
  have he := ns_end (hopNo t)
  unfold hopInv
  iintro ⟨%ha, HS, Hk0, Hk1, HP, Hw, ⟨%f, %hf, Hy⟩⟩
  ihave HS := (show St m κ c (min (8 * (t.val + 1)) 120) (8 * t.val) ⊢ St m κ c (nsAt t.val 0) (8 * t.val + 0) from
    Entails.of_eq (by rw [show nsAt t.val 0 = min (8 * (t.val + 1)) 120 from hs]; rfl)) $$ HS
  unfold onBufs k0_t1_body
  simp only [wp_bind, Prog.pure_eq_ret]
  iapply (use_part (hop1 m κ c t v4 v7)) $$ [HS]
  · isplitl [HS]; · iexact HS
    iapply (kept_none m c t.val)
    iempintro
  iintro %r1 ⟨HS, HK⟩
  iapply (use_part (hop2 m κ c t v4 v7 r1)) $$ [HS HK]
  · isplitl [HS]; · iexact HS
    iexact HK
  iintro %r2 ⟨HS, HK⟩
  iapply (use_part (hop3 m κ c t v4 v7 r1 r2)) $$ [HS HK]
  · isplitl [HS]; · iexact HS
    iexact HK
  iintro %r3 ⟨HS, Hp, He, Hf, HK⟩
  iapply (use_part (hop4 m κ c t v2 v7 r1 r3 f hf.1 hf.2)) $$ [HS Hp Hf HK Hw Hy]
  · isplitl [HS]; · iexact HS
    isplitl [Hp]; · iexact Hp
    isplitl [Hf]; · iexact Hf
    isplitl [HK]; · iexact HK
    isplitl [Hw]; · iexact Hw
    iexact Hy
  iintro %r4 ⟨%h4, HS, Ha, Hb, Hw, ⟨%f', %hf', Hy⟩⟩
  subst h4
  simp only [wp_ret]
  imodintro
  unfold slotsKept peakLeaves
  ihave ⟨-, Hc0⟩ := (cursor_take (n := t.val) val15_inj (hopNo t) rfl) $$ Hk0
  ihave ⟨-, Hc1⟩ := (cursor_take (n := t.val) val15_inj (hopNo t) rfl) $$ Hk1
  ihave ⟨-, Hcp⟩ := (cursor_take (n := t.val) val15_inj (hopNo t) rfl) $$ HP
  ihave He := (Entails.of_eq (extra_last (F := F) c (hopNo t))) $$ He
  ihave HS := (show St m κ c (nsAt t.val 8) (8 * t.val + 8) ⊢ St m κ c (min (8 * (t.val + 1 + 1)) 120) (8 * (t.val + 1)) from
    Entails.of_eq (by rw [show nsAt t.val 8 = min (8 * (t.val + 1 + 1)) 120 from he]; rfl)) $$ HS
  isplitr
  · ipureintro
    rw [ha]
    rfl
  isplitl [HS]; · iexact HS
  isplitl [Hc0 Ha]; · iapply Hc0; iexact Ha
  isplitl [Hc1 Hb]; · iapply Hc1; iexact Hb
  isplitl [Hcp He]; · iapply Hcp; iexact He
  isplitl [Hw]; · iexact Hw
  iexists f'
  isplitr; · ipureintro; exact hf'
  iexact Hy

end Cert.Ring

end
-- ==== Proof.Ring.Turn.lean ====
/-
  The device's own products, the loop over the hops, and the device's peak.
-/
module

public import proofs.«01_k».proof.Proof.Ring.FirstParts
public import proofs.«01_k».proof.Proof.Ring.HopLoop

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-! ## The peak table -/

/-- The first slot of the peak table is the device's own peak. -/
theorem read_peak (c : Dev nD) {off : Fin 3 → ℕ} {inb : ∀ a, off a + S1x8x128.size a ≤ S16x8x128.size a} (ho : off = ![0, 0, 0])
    (j : S1x8x128.Idx) : AB m c ((Rect.unit (s := S16x8x128) off S1x8x128.size inb).emb j) = peak m c j := by
  subst ho
  have h0 : (j 0).val = 0 := by have : (j 0).val < 1 := (j 0).isLt; omega
  have e : (((Rect.unit (s := S16x8x128) ![0, 0, 0] S1x8x128.size inb).emb j) 0).val = 0 := by
    show 0 + 1 * (j 0).val = 0
    omega
  unfold AB
  rw [e, show sh (16 - 0) c = c from sh_sixteen (by omega) c]
  refine congrArg (peak m c) ?_
  funext a
  match a with
  | ⟨0, _⟩ => exact Fin.ext h0.symm
  | ⟨1, _⟩ => exact Fin.ext (show 0 + 1 * (j 1).val = (j 1).val by omega)
  | ⟨2, _⟩ => exact Fin.ext (show 0 + 1 * (j 2).val = (j 2).val by omega)

/-- Loading the first slot before anything is known of it. -/
theorem load_peak_any (c : Dev nD) {off : Fin 3 → ℕ} {inb} (ho : off = ![0, 0, 0]) (f : Vec F S16x8x128 .f32)
    {hl : pM.view.LoadsAt (Rect.unit (s := S16x8x128) off S1x8x128.size inb).toLoadRect}
    {α : Type} {Q : α → sProp 𝕄} {k : Vec F S1x8x128 .f32 → Prog (TpuEff nD τ sig (Elt F) Λ₀ .tc) α} :
    peaks c (apset 0) fullShare f
      ⊢ iprop((∀ v, peaks c (apset 0) fullShare f -∗ wp frame (wpE (defs₀ (F := F)) 𝒱₀ (c : Thread nD τ) none) Set.univ (k v) Q)
        -∗ wp frame (wpE (defs₀ (F := F)) 𝒱₀ (c : Thread nD τ) none) Set.univ
            (.op (.load pM (Rect.unit (s := S16x8x128) off S1x8x128.size inb).toLoadRect hl) k) Q) := by
  have hs := rect_peak ho (inb := inb)
  have H := wp_load (defs := defs₀ (F := F)) 𝒱₀ (c : Thread nD τ) none Set.univ (m := pM) (hl := hl) (k := k) (Q := Q) (Γ := .empty)
    (S := apset 0) (q := fullShare) (f := f)
    (by rw [← hs]; intro i hi; obtain ⟨j, hj, rfl⟩ := Finset.mem_map.mp hi; exact hj)
  exact H.trans (wand_mono_left (forall_elim _))

/-- Storing the device's peak. -/
theorem store_peak (c : Dev nD) {off : Fin 3 → ℕ} {inb} (ho : off = ![0, 0, 0]) (f : Vec F S16x8x128 .f32)
    {w : Vec F S1x8x128 .f32} (hw : w = peak m c)
    {hx : (pM.access (Rect.unit (s := S16x8x128) off S1x8x128.size inb)).Stores Finset.univ} {hm}
    {α : Type} {Q : α → sProp 𝕄} {k : PUnit → Prog (TpuEff nD τ sig (Elt F) Λ₀ .tc) α} :
    peaks c (apset 0) fullShare f
      ⊢ iprop((peaks c (apset 0) fullShare (AB m c) -∗ wp frame (wpE (defs₀ (F := F)) 𝒱₀ (c : Thread nD τ) none) Set.univ (k ⟨⟩) Q)
        -∗ wp frame (wpE (defs₀ (F := F)) 𝒱₀ (c : Thread nD τ) none) Set.univ
            (.op (.store pM (Rect.unit (s := S16x8x128) off S1x8x128.size inb) w Finset.univ hx hm) k) Q) := by
  have e := read_peak m c ho (inb := inb)
  rw [← hw] at e
  have hs := rect_peak ho (inb := inb)
  have hS : (pM.access (Rect.unit (s := S16x8x128) off S1x8x128.size inb)).setOn Finset.univ = apset 0 := by
    rw [← hs]; exact View.set_slice_whole _ _
  have H := wp_store (defs := defs₀ (F := F)) 𝒱₀ (c : Thread nD τ) none Set.univ (m := pM) (w := w) (hx := hx) (hm := hm) (k := k) (Q := Q) (Γ := .empty)
    (S := apset 0) (f := f) (subset_of_eq hS)
  refine H.trans (wand_mono_left (wand_mono_left (Entails.of_eq ?_)))
  refine pointsTo_congr fun i hi => ?_
  rw [← hS] at hi
  obtain ⟨j, -, rfl⟩ := Finset.mem_map.mp hi
  rw [View.write_emb_of_mem _ _ (Finset.mem_univ _)]
  exact (e j).symm

/-! ## The loop -/

theorem at1 : ∀ c : Dev nD, k0_off1 c = ![256 * (orig false 0 c).val + (if false = true then 128 else 0), 0] := by decide
theorem at2 : ∀ c : Dev nD, k0_off2 c = ![256 * (orig true 0 c).val + (if true = true then 128 else 0), 0] := by decide

/-- What the loop over the hops leaves. -/
def hopsDone (c : Dev nD) : sProp 𝕄 :=
  iprop(St m κ c 120 120 ∗ slotsKept m c false 15 ∗ slotsKept m c true 15 ∗ peakLeaves (F := F) c 15
    ∗ wq c (wbf m c) ∗ ys c (YB m c))

theorem hopInv_end (c : Dev nD) (a : F .f32) : hopInv m κ c 15 a ⊢ iprop(⌜a = accs m c 15⌝ ∗ hopsDone m κ c) := by
  unfold hopInv hopsDone
  iintro ⟨%ha, HS, H0, H1, HP, Hw, ⟨%f, %hf, Hy⟩⟩
  obtain rfl := yDone_all m c f (fun b => by cases b <;> [exact hf.1; exact hf.2])
  isplitr; · ipureintro; exact ha
  isplitl [HS]; · iexact HS
  isplitl [H0]; · iexact H0
  isplitl [H1]; · iexact H1
  isplitl [HP]; · iexact HP
  isplitl [Hw]; · iexact Hw
  iexact Hy

theorem none_kept (c : Dev nD) (b : Bool) : (iprop(emp) : sProp 𝕄) ⊢ slotsKept m c b 0 := by
  unfold slotsKept
  rw [cursor_start (fun _ => Nat.zero_le _)]
  exact Entails.of_eq (bigSep_emp_const _).symm
theorem no_leaves (c : Dev nD) : (iprop(emp) : sProp 𝕄) ⊢ peakLeaves (F := F) c 0 := by
  unfold peakLeaves
  rw [cursor_start (fun _ => Nat.zero_le _)]
  exact Entails.of_eq (bigSep_emp_const _).symm

/-- The device's own products, the hops, and the device's peak. -/
theorem start12 (c : Dev nD) (v2 v4 v7 : BitVec 32) (f : Vec F S16x8x128 .f32) :
    iprop(St m κ c 8 0 ∗ ys c (ws m c) ∗ wq c (wbf m c) ∗ rows true c (slset 0) fullShare.right (RB m c true) ∗ peaks c (apset 0) fullShare f)
      ⊢ wp frame (wpE (defs₀ (F := F)) 𝒱₀ (c : Thread nD τ) none) Set.univ (onBufs (k0_part12 (F := F)) c v2 v4 v7 (k0_pay15 (loB m c)))
        (fun _ => iprop(hopsDone m κ c ∗ rows true c (slset 0) fullShare.right (RB m c true) ∗ peaks c (apset 0) fullShare (AB m c))) := by
  unfold onBufs
  simp only [k0_part12_eq_skeleton]
  unfold k0_part12_skel
  simp only [Prog.lift, Prog.bind_op, Prog.bind_ret, Prog.pure_eq_ret]
  iintro ⟨HS, Hy, Hw, Hb, Hp⟩
  iapply (load_w c (wbf m c)) $$ Hw
  iintro Hw
  iapply (load_y_any c _) $$ Hy
  iintro %u1 Hy
  iapply (store_y m c false 0 (at1 c) _ (show _ = k0_pay3 (loB m (orig false 0 c)) (wbf m c) by
    rw [show orig false 0 c = c from sh_sixteen (by omega) c]; rfl)) $$ Hy
  iintro %y1 %h1 Hy
  iapply (load_slot m c true 0 rfl fullShare.right) $$ Hb
  iintro Hb
  iapply (load_w c (wbf m c)) $$ Hw
  iintro Hw
  iapply (load_y_any c _) $$ Hy
  iintro %u2 Hy
  iapply (store_y m c true 0 (at2 c) _ (show _ = k0_pay5 (hiB m (orig true 0 c)) (wbf m c) from rfl)) $$ Hy
  iintro %y2 %h2 Hy
  iapply (Scf.wp_for_bind frame (wpE (defs₀ (F := F)) 𝒱₀ (c : Thread nD τ) none) Set.univ _ _ _ _ _ _ (hopInv m κ c)
    (fun t a => hop_step m κ c v2 v4 v7 (k0_pay15 (loB m c)) t a)) $$ [HS Hw Hy]
  · unfold hopInv
    isplitr
    · ipureintro
      show k0_pay20 (k0_pay15 (loB m c)) (wbf m c) (half m true (orig true 0 c)) (wbf m c) = accs m c 0
      rw [half_own]; rfl
    isplitl [HS]; · iexact HS
    isplitr; · iapply (none_kept m c false); iempintro
    isplitr; · iapply (none_kept m c true); iempintro
    isplitr; · iapply (no_leaves c); iempintro
    isplitl [Hw]; · iexact Hw
    iexists y2
    isplitr
    · ipureintro
      exact ⟨h2.2 1 (h1.1 (yDone_zero m c false _)), h2.1 (yDone_zero m c true _)⟩
    iexact Hy
  iintro %a HI
  ihave ⟨%ha, HD⟩ := (show hopInv m κ c k0_t1_loop.trips a ⊢ _ from (Entails.of_eq (by rw [trips1])).trans (hopInv_end m κ c a)) $$ HI
  iapply (load_peak_any c rfl f) $$ Hp
  iintro %u3 Hp
  iapply (store_peak m c rfl f (show k0_pay22 a = peak m c by rw [ha]; rfl)) $$ Hp
  iintro Hp
  simp only [wp_ret]
  imodintro
  isplitl [HD]; · iexact HD
  isplitl [Hb]; · iexact Hb
  iexact Hp

end Cert.Ring

end
-- ==== Proof.Ring.Peaks.lean ====
/-
  The exchange of the peaks: the device's peak goes to every other device, and everybody's peak arrives.
-/
module

public import proofs.«01_k».proof.Proof.Ring.Turn

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-- For the peaks not yet sent: a reader's share of the device's own slot, and the leave to write the other's. -/
def peaksTo (c : Dev nD) (n : ℕ) : sProp 𝕄 :=
  cursor (fun i : Fin 15 => i.val) (fun _ => iprop(emp)) (fun d => iprop(peaks c (apset 0) (Transfers.shareTokN fullShare d.val) (AB m c)
    ∗ peakAny (F := F) (sh (d.val + 1) c) (d.val + 1))) n

/-- The peaks that have arrived. -/
def peaksIn (c : Dev nD) (n : ℕ) : sProp 𝕄 :=
  cursor (fun i : Fin 15 => i.val) (fun d => peaks c (apset (d.val + 1)) fullShare (AB m c)) (fun _ => iprop(emp)) n

theorem peaksTo_start (c : Dev nD) : iprop(peaks c (apset 0) fullShare (AB m c) ∗ peakLeaves (F := F) c 15)
    ⊢ iprop(peaks c (apset 0) (Transfers.shareDrop fullShare 15) (AB m c) ∗ peaksTo m c 0) := by
  unfold peaksTo peakLeaves
  rw [cursor_end (fun i : Fin 15 => i.isLt), cursor_start (fun _ => Nat.zero_le _), bigSep_sep']
  iintro ⟨Hp, HL⟩
  ihave ⟨Hd, Ht⟩ := (show peaks c (apset 0) fullShare (AB m c) ⊢ iprop(peaks c (apset 0) (Transfers.shareDrop fullShare 15) (AB m c)
      ∗ bigSep Finset.univ fun d : Fin 15 => peaks c (apset 0) (Transfers.shareTokN fullShare d.val) (AB m c)) from
    (Transfers.pointsTo_toks fullShare 15).1) $$ Hp
  isplitl [Hd]; · iexact Hd
  isplitl [Ht]; · iexact Ht
  iexact HL

theorem peaksIn_none (c : Dev nD) : (iprop(emp) : sProp 𝕄) ⊢ peaksIn m c 0 := by
  unfold peaksIn
  rw [cursor_start (fun _ => Nat.zero_le _)]
  exact Entails.of_eq (bigSep_emp_const _).symm

/-- A peak goes out. -/
theorem peak_beat (c : Dev nD) (d : Fin 15) {k : ℕ} (hk : k = d.val) {offs offd : Fin 3 → ℕ} {inbs inbd}
    (hs : offs = ![0, 0, 0]) (hd : offd = ![d.val + 1, 0, 0]) {n : ℕ} {hn : n < nD} (hdev : n = (c.val + (d.val + 1)) % 16)
    {offt offr : Fin 1 → ℕ} {inbt inbr} (ht : offt = ![d.val + 1]) (hr : offr = ![d.val + 1])
    {hsc : (pkM pM offd inbd : Memref sig (Dev.tc (⟨n, hn⟩ : Dev nD) : Thread nD τ).2.kind .vmem S8x128 .f32).view.ref.isScScratch = false}
    {hsrc : (pkM pM offs inbs).view.WordExact} {hdst : (pkM pM offd inbd).view.WordExact}
    {hsem : DmaTarget.Typed .vmem (.dma (semAt1 cc0_scratch8 offr inbr)) (.remote (Dev.tc (⟨n, hn⟩ : Dev nD) : Thread nD τ) (pkM pM offd inbd)
      (.dma (semAt1 cc0_scratch7 offt inbt)) hsc)}
    {α : Type} {Q : α → sProp 𝕄} {J : PUnit → Prog (TpuEff nD τ sig (Elt F) Λ₀ .tc) α} :
    iprop(St m κ c (120 + k) 120 ∗ peaksTo m c k)
      ⊢ iprop(((St m κ c (120 + (k + 1)) 120 ∗ peaksTo m c (k + 1))
            -∗ wp frame (wpE (defs₀ (F := F)) 𝒱₀ (c : Thread nD τ) none) Set.univ (J ⟨⟩) Q)
          -∗ wp frame (wpE (defs₀ (F := F)) 𝒱₀ (c : Thread nD τ) none) Set.univ
              (.op (.enqueueDma (pkM pM offs inbs) (.remote (Dev.tc (⟨n, hn⟩ : Dev nD) : Thread nD τ) (pkM pM offd inbd)
                (.dma (semAt1 cc0_scratch7 offt inbt)) hsc) (.dma (semAt1 cc0_scratch8 offr inbr)) hsrc hdst hsem) J) Q) := by
  subst hk
  unfold peaksTo
  iintro ⟨HS, Hk⟩ HK
  ihave ⟨⟨Hp, Hl⟩, Hclose⟩ := (cursor_take (n := d.val) val15_inj d rfl) $$ Hk
  have hD : (⟨n, hn⟩ : Dev nD) = sh (d.val + 1) c := Fin.ext (hdev.trans (sh_val _ _).symm)
  iapply (step_peak m κ c d (ns := 120 + d.val) (nr := 120) rfl (inbs := inbs) (inbd := inbd) hs hd hD
    (psnd_at d ht) (prcv_at d hr) (k := J) (Q := Q)) $$ [HS Hp Hl]
  · isplitl [HS]; · iexact HS
    isplitl [Hp]; · iexact Hp
    iexact Hl
  iintro HS
  iapply HK
  isplitl [HS]; · iexact HS
  iapply Hclose
  iempintro

/-- A peak comes in. -/
theorem land_beat (c : Dev nD) (d : Fin 15) {k : ℕ} (hk : k = d.val) {offr : Fin 1 → ℕ} {inbr} (hr : offr = ![d.val + 1])
    {offs offd : Fin 3 → ℕ} {inbs inbd} {hsrc : (pkM pM offs inbs).view.WordExact} {hdst : (pkM pM offd inbd).view.WordExact}
    {α : Type} {Q : α → sProp 𝕄} {J : PUnit → Prog (TpuEff nD τ sig (Elt F) Λ₀ .tc) α} :
    iprop(St m κ c 135 (120 + k) ∗ peaksIn m c k)
      ⊢ iprop(((St m κ c 135 (120 + (k + 1)) ∗ peaksIn m c (k + 1))
            -∗ wp frame (wpE (defs₀ (F := F)) 𝒱₀ (c : Thread nD τ) none) Set.univ (J ⟨⟩) Q)
          -∗ wp frame (wpE (defs₀ (F := F)) 𝒱₀ (c : Thread nD τ) none) Set.univ
              (.op (.waitDma2 (semAt1 cc0_scratch8 offr inbr) (pkM pM offs inbs) (pkM pM offd inbd) hsrc hdst) J) Q) := by
  subst hk
  unfold peaksIn
  iintro ⟨HS, Hk⟩ HK
  ihave ⟨-, Hclose⟩ := (cursor_take (n := d.val) val15_inj d rfl) $$ Hk
  iapply (step_precv m κ c d (nr := 120 + d.val) rfl (prcv_at d hr) (amt_peak d offd inbd) (k := J) (Q := Q)) $$ HS
  iintro ⟨HS, Hp⟩
  iapply HK
  isplitl [HS]; · iexact HS
  iapply Hclose
  iexact Hp

/-- A ring transfer has been read out. -/
theorem ring_back (c : Dev nD) (b : Bool) (h : Fin 15) (s : Fin 4) {k : ℕ} (hk : k = 8 * h.val + prk (b, s))
    {off : Fin 2 → ℕ} {inb} (ho : off = ![h.val, s.val]) {offs offd : Fin 3 → ℕ} {inbs inbd}
    {hsrc : (pcM (rM b) offs inbs).view.WordExact} {hdst : (pcM (rM b) offd inbd).view.WordExact}
    {α : Type} {Q : α → sProp 𝕄} {J : PUnit → Prog (TpuEff nD τ sig (Elt F) Λ₀ .tc) α} :
    Dr m κ c k ⊢ iprop((Dr m κ c (k + 1) -∗ wp frame (wpE (defs₀ (F := F)) 𝒱₀ (c : Thread nD τ) none) Set.univ (J ⟨⟩) Q)
      -∗ wp frame (wpE (defs₀ (F := F)) 𝒱₀ (c : Thread nD τ) none) Set.univ
        (.op (.waitDma2 (semAt (sA b) off inb) (pcM (rM b) offs inbs) (pcM (rM b) offd inbd) hsrc hdst) J) Q) :=
  step_back m κ c (.inl (b, h, s)) (by rw [hk]; unfold rank prk; cases b <;> simp <;> omega) (snd_at b h s ho) (amt_ring b h s offd inbd)

/-- A peak has been read out. -/
theorem peak_back (c : Dev nD) (d : Fin 15) {k : ℕ} (hk : k = d.val) {off : Fin 1 → ℕ} {inb} (ho : off = ![d.val + 1])
    {offs offd : Fin 3 → ℕ} {inbs inbd} {hsrc : (pkM pM offs inbs).view.WordExact} {hdst : (pkM pM offd inbd).view.WordExact}
    {α : Type} {Q : α → sProp 𝕄} {J : PUnit → Prog (TpuEff nD τ sig (Elt F) Λ₀ .tc) α} :
    Dr m κ c (120 + k) ⊢ iprop((Dr m κ c (120 + (k + 1)) -∗ wp frame (wpE (defs₀ (F := F)) 𝒱₀ (c : Thread nD τ) none) Set.univ (J ⟨⟩) Q)
      -∗ wp frame (wpE (defs₀ (F := F)) 𝒱₀ (c : Thread nD τ) none) Set.univ
        (.op (.waitDma2 (semAt1 cc0_scratch7 off inb) (pkM pM offs inbs) (pkM pM offd inbd) hsrc hdst) J) Q) :=
  step_back m κ c (.inr d) (by rw [hk]; rfl) (psnd_at d ho) (amt_peak d offd inbd)

end Cert.Ring

end
-- ==== Proof.Ring.PeakParts.lean ====
/-
  The parts of the body that exchange the peaks.
-/
module

public import proofs.«01_k».proof.Proof.Ring.Peaks

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-- `n` peaks have gone out. -/
def outPeaks (c : Dev nD) (n : ℕ) : sProp 𝕄 := iprop(St m κ c (120 + n) 120 ∗ peaksTo m c n)

/-- `n` peaks have come in. -/
def inPeaks (c : Dev nD) (n : ℕ) : sProp 𝕄 := iprop(St m κ c 135 (120 + n) ∗ peaksIn m c n)

theorem out_in (c : Dev nD) : outPeaks m κ c 15 ⊢ inPeaks m κ c 0 := by
  unfold outPeaks inPeaks
  iintro ⟨HS, -⟩
  isplitl [HS]; · iexact HS
  iapply (peaksIn_none m c)
  iempintro

theorem peak13 (c : Dev nD) (v2 v : BitVec 32) :
    outPeaks m κ c 0 ⊢ wp frame (wpE (defs₀ (F := F)) 𝒱₀ (c : Thread nD τ) none) Set.univ (onBufs (k0_part13 (F := F)) c v2 v)
      (fun _ => outPeaks m κ c 2) := by
  unfold onBufs
  simp only [k0_part13_eq_skeleton]
  unfold k0_part13_skel outPeaks
  simp only [Prog.lift, Prog.bind_op, Prog.bind_ret, Prog.pure_eq_ret]
  iintro H
  iapply (peak_beat m κ c 0 (k := 0) rfl (by rfl) (by rfl) (by revert c; decide) (by rfl) (by rfl)) $$ H
  iintro H
  iapply (peak_beat m κ c 1 (k := 1) rfl (by rfl) (by rfl) (by revert c; decide) (by rfl) (by rfl)) $$ H
  iintro H
  simp only [wp_ret]
  imodintro
  iexact H

theorem peak14 (c : Dev nD) (v2 v v' : BitVec 32) :
    outPeaks m κ c 2 ⊢ wp frame (wpE (defs₀ (F := F)) 𝒱₀ (c : Thread nD τ) none) Set.univ (onBufs (k0_part14 (F := F)) c v2 v v')
      (fun _ => outPeaks m κ c 4) := by
  unfold onBufs
  simp only [k0_part14_eq_skeleton]
  unfold k0_part14_skel outPeaks
  simp only [Prog.lift, Prog.bind_op, Prog.bind_ret, Prog.pure_eq_ret]
  iintro H
  iapply (peak_beat m κ c 2 (k := 2) rfl (by rfl) (by rfl) (by revert c; decide) (by rfl) (by rfl)) $$ H
  iintro H
  iapply (peak_beat m κ c 3 (k := 3) rfl (by rfl) (by rfl) (by revert c; decide) (by rfl) (by rfl)) $$ H
  iintro H
  simp only [wp_ret]
  imodintro
  iexact H

theorem peak15 (c : Dev nD) (v2 : BitVec 32) :
    outPeaks m κ c 4 ⊢ wp frame (wpE (defs₀ (F := F)) 𝒱₀ (c : Thread nD τ) none) Set.univ (onBufs (k0_part15 (F := F)) c v2)
      (fun _ => outPeaks m κ c 7) := by
  unfold onBufs
  simp only [k0_part15_eq_skeleton]
  unfold k0_part15_skel outPeaks
  simp only [Prog.lift, Prog.bind_op, Prog.bind_ret, Prog.pure_eq_ret]
  iintro H
  iapply (peak_beat m κ c 4 (k := 4) rfl (by rfl) (by rfl) (by revert c; decide) (by rfl) (by rfl)) $$ H
  iintro H
  iapply (peak_beat m κ c 5 (k := 5) rfl (by rfl) (by rfl) (by revert c; decide) (by rfl) (by rfl)) $$ H
  iintro H
  iapply (peak_beat m κ c 6 (k := 6) rfl (by rfl) (by rfl) (by revert c; decide) (by rfl) (by rfl)) $$ H
  iintro H
  simp only [wp_ret]
  imodintro
  iexact H

theorem peak16 (c : Dev nD) (v2 v : BitVec 32) :
    outPeaks m κ c 7 ⊢ wp frame (wpE (defs₀ (F := F)) 𝒱₀ (c : Thread nD τ) none) Set.univ (onBufs (k0_part16 (F := F)) c v2 v)
      (fun _ => outPeaks m κ c 9) := by
  unfold onBufs
  simp only [k0_part16_eq_skeleton]
  unfold k0_part16_skel outPeaks
  simp only [Prog.lift, Prog.bind_op, Prog.bind_ret, Prog.pure_eq_ret]
  iintro H
  iapply (peak_beat m κ c 7 (k := 7) rfl (by rfl) (by rfl) (by revert c; decide) (by rfl) (by rfl)) $$ H
  iintro H
  iapply (peak_beat m κ c 8 (k := 8) rfl (by rfl) (by rfl) (by revert c; decide) (by rfl) (by rfl)) $$ H
  iintro H
  simp only [wp_ret]
  imodintro
  iexact H

theorem peak17 (c : Dev nD) (v2 : BitVec 32) :
    outPeaks m κ c 9 ⊢ wp frame (wpE (defs₀ (F := F)) 𝒱₀ (c : Thread nD τ) none) Set.univ (onBufs (k0_part17 (F := F)) c v2)
      (fun _ => outPeaks m κ c 12) := by
  unfold onBufs
  simp only [k0_part17_eq_skeleton]
  unfold k0_part17_skel outPeaks
  simp only [Prog.lift, Prog.bind_op, Prog.bind_ret, Prog.pure_eq_ret]
  iintro H
  iapply (peak_beat m κ c 9 (k := 9) rfl (by rfl) (by rfl) (by revert c; decide) (by rfl) (by rfl)) $$ H
  iintro H
  iapply (peak_beat m κ c 10 (k := 10) rfl (by rfl) (by rfl) (by revert c; decide) (by rfl) (by rfl)) $$ H
  iintro H
  iapply (peak_beat m κ c 11 (k := 11) rfl (by rfl) (by rfl) (by revert c; decide) (by rfl) (by rfl)) $$ H
  iintro H
  simp only [wp_ret]
  imodintro
  iexact H

theorem peak18 (c : Dev nD) (v2 v : BitVec 32) :
    outPeaks m κ c 12 ⊢ wp frame (wpE (defs₀ (F := F)) 𝒱₀ (c : Thread nD τ) none) Set.univ (onBufs (k0_part18 (F := F)) c v2 v)
      (fun _ => outPeaks m κ c 14) := by
  unfold onBufs
  simp only [k0_part18_eq_skeleton]
  unfold k0_part18_skel outPeaks
  simp only [Prog.lift, Prog.bind_op, Prog.bind_ret, Prog.pure_eq_ret]
  iintro H
  iapply (peak_beat m κ c 12 (k := 12) rfl (by rfl) (by rfl) (by revert c; decide) (by rfl) (by rfl)) $$ H
  iintro H
  iapply (peak_beat m κ c 13 (k := 13) rfl (by rfl) (by rfl) (by revert c; decide) (by rfl) (by rfl)) $$ H
  iintro H
  simp only [wp_ret]
  imodintro
  iexact H

theorem peak19 (c : Dev nD) (u1 u2 u3 u4 u5 : BitVec 32) :
    outPeaks m κ c 14 ⊢ wp frame (wpE (defs₀ (F := F)) 𝒱₀ (c : Thread nD τ) none) Set.univ (onBufs (k0_part19 (F := F)) c u1 u2 u3 u4 u5)
      (fun _ => inPeaks m κ c 2) := by
  unfold onBufs
  simp only [k0_part19_eq_skeleton]
  unfold k0_part19_skel outPeaks
  simp only [Prog.lift, Prog.bind_op, Prog.bind_ret, Prog.pure_eq_ret]
  iintro H
  iapply (peak_beat m κ c 14 (k := 14) rfl (by rfl) (by rfl) (by revert c; decide) (by rfl) (by rfl)) $$ H
  iintro H
  ihave H := (show iprop(St m κ c (120 + (14 + 1)) 120 ∗ peaksTo m c (14 + 1)) ⊢ inPeaks m κ c 0 from out_in m κ c) $$ H
  unfold inPeaks
  iapply (land_beat m κ c 0 (k := 0) rfl (by rfl)) $$ H
  iintro H
  iapply (land_beat m κ c 1 (k := 1) rfl (by rfl)) $$ H
  iintro H
  simp only [wp_ret]
  imodintro
  iexact H

theorem peak20 (c : Dev nD) (u1 u2 u3 : BitVec 32) :
    inPeaks m κ c 2 ⊢ wp frame (wpE (defs₀ (F := F)) 𝒱₀ (c : Thread nD τ) none) Set.univ (onBufs (k0_part20 (F := F)) u1 u2 u3)
      (fun _ => inPeaks m κ c 5) := by
  unfold onBufs
  simp only [k0_part20_eq_skeleton]
  unfold k0_part20_skel inPeaks
  simp only [Prog.lift, Prog.bind_op, Prog.bind_ret, Prog.pure_eq_ret]
  iintro H
  iapply (land_beat m κ c 2 (k := 2) rfl (by rfl)) $$ H
  iintro H
  iapply (land_beat m κ c 3 (k := 3) rfl (by rfl)) $$ H
  iintro H
  iapply (land_beat m κ c 4 (k := 4) rfl (by rfl)) $$ H
  iintro H
  simp only [wp_ret]
  imodintro
  iexact H

theorem peak21 (c : Dev nD) (u1 u2 u3 : BitVec 32) :
    inPeaks m κ c 5 ⊢ wp frame (wpE (defs₀ (F := F)) 𝒱₀ (c : Thread nD τ) none) Set.univ (onBufs (k0_part21 (F := F)) u1 u2 u3)
      (fun _ => inPeaks m κ c 8) := by
  unfold onBufs
  simp only [k0_part21_eq_skeleton]
  unfold k0_part21_skel inPeaks
  simp only [Prog.lift, Prog.bind_op, Prog.bind_ret, Prog.pure_eq_ret]
  iintro H
  iapply (land_beat m κ c 5 (k := 5) rfl (by rfl)) $$ H
  iintro H
  iapply (land_beat m κ c 6 (k := 6) rfl (by rfl)) $$ H
  iintro H
  iapply (land_beat m κ c 7 (k := 7) rfl (by rfl)) $$ H
  iintro H
  simp only [wp_ret]
  imodintro
  iexact H

theorem peak22 (c : Dev nD) (u1 u2 u3 : BitVec 32) :
    inPeaks m κ c 8 ⊢ wp frame (wpE (defs₀ (F := F)) 𝒱₀ (c : Thread nD τ) none) Set.univ (onBufs (k0_part22 (F := F)) u1 u2 u3)
      (fun _ => inPeaks m κ c 11) := by
  unfold onBufs
  simp only [k0_part22_eq_skeleton]
  unfold k0_part22_skel inPeaks
  simp only [Prog.lift, Prog.bind_op, Prog.bind_ret, Prog.pure_eq_ret]
  iintro H
  iapply (land_beat m κ c 8 (k := 8) rfl (by rfl)) $$ H
  iintro H
  iapply (land_beat m κ c 9 (k := 9) rfl (by rfl)) $$ H
  iintro H
  iapply (land_beat m κ c 10 (k := 10) rfl (by rfl)) $$ H
  iintro H
  simp only [wp_ret]
  imodintro
  iexact H

theorem peak23 (c : Dev nD) (u1 u2 u3 : BitVec 32) :
    inPeaks m κ c 11 ⊢ wp frame (wpE (defs₀ (F := F)) 𝒱₀ (c : Thread nD τ) none) Set.univ (onBufs (k0_part23 (F := F)) u1 u2 u3)
      (fun _ => inPeaks m κ c 15) := by
  unfold onBufs
  simp only [k0_part23_eq_skeleton]
  unfold k0_part23_skel inPeaks
  simp only [Prog.lift, Prog.bind_op, Prog.bind_ret, Prog.pure_eq_ret]
  iintro H
  iapply (land_beat m κ c 11 (k := 11) rfl (by rfl)) $$ H
  iintro H
  iapply (land_beat m κ c 12 (k := 12) rfl (by rfl)) $$ H
  iintro H
  iapply (land_beat m κ c 13 (k := 13) rfl (by rfl)) $$ H
  iintro H
  iapply (land_beat m κ c 14 (k := 14) rfl (by rfl)) $$ H
  iintro H
  simp only [wp_ret]
  imodintro
  iexact H

end Cert.Ring

end
-- ==== Proof.Ring.Drain.lean ====
/-
  The drain: the device waits until each of its transfers has been read out, and gets back the halves it had lent.
-/
module

public import proofs.«01_k».proof.Proof.Ring.PeakParts

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

theorem trips2 : k0_t2_loop.trips = 15 := by decide

/-- The number of the hop that trip `t` drains. -/
def drainNo (t : Fin k0_t2_loop.trips) : Fin 15 := ⟨t.val, lt_of_lt_of_eq t.isLt trips2⟩

theorem drain_offs : ∀ t : Fin k0_t2_loop.trips, k0_off46 t = ![(drainNo t).val, (0 : Fin 4).val] ∧ k0_off47 t = ![(drainNo t).val, (1 : Fin 4).val]
    ∧ k0_off48 t = ![(drainNo t).val, (2 : Fin 4).val] ∧ k0_off49 t = ![(drainNo t).val, (3 : Fin 4).val] := by
  decide

theorem drain5 (c : Dev nD) (u1 u2 : BitVec 32) (t : Fin k0_t2_loop.trips) :
    Dr m κ c (8 * t.val) ⊢ wp frame (wpE (defs₀ (F := F)) 𝒱₀ (c : Thread nD τ) none) Set.univ (onBufs (k0_part5 (F := F)) u1 u2 t)
      (fun _ => Dr m κ c (8 * t.val + 3)) := by
  unfold onBufs
  simp only [k0_part5_eq_skeleton]
  unfold k0_part5_skel
  simp only [Prog.lift, Prog.bind_op, Prog.bind_ret, Prog.pure_eq_ret]
  iintro H
  iapply (ring_back m κ c false (drainNo t) 0 (k := 8 * t.val) rfl (drain_offs t).1) $$ H
  iintro H
  iapply (ring_back m κ c true (drainNo t) 0 (k := 8 * t.val + 1) rfl (drain_offs t).1) $$ H
  iintro H
  iapply (ring_back m κ c false (drainNo t) 1 (k := 8 * t.val + 2) rfl (drain_offs t).2.1) $$ H
  iintro H
  simp only [wp_ret]
  imodintro
  iexact H

theorem drain6 (c : Dev nD) (t : Fin k0_t2_loop.trips) :
    Dr m κ c (8 * t.val + 3) ⊢ wp frame (wpE (defs₀ (F := F)) 𝒱₀ (c : Thread nD τ) none) Set.univ (onBufs (k0_part6 (F := F)) t)
      (fun _ => Dr m κ c (8 * t.val + 7)) := by
  unfold onBufs
  simp only [k0_part6_eq_skeleton]
  unfold k0_part6_skel
  simp only [Prog.lift, Prog.bind_op, Prog.bind_ret, Prog.pure_eq_ret]
  iintro H
  iapply (ring_back m κ c true (drainNo t) 1 (k := 8 * t.val + 3) rfl (drain_offs t).2.1) $$ H
  iintro H
  iapply (ring_back m κ c false (drainNo t) 2 (k := 8 * t.val + 4) rfl (drain_offs t).2.2.1) $$ H
  iintro H
  iapply (ring_back m κ c true (drainNo t) 2 (k := 8 * t.val + 5) rfl (drain_offs t).2.2.1) $$ H
  iintro H
  iapply (ring_back m κ c false (drainNo t) 3 (k := 8 * t.val + 6) rfl (drain_offs t).2.2.2) $$ H
  iintro H
  simp only [wp_ret]
  imodintro
  iexact H

/-- A trip of the drain. -/
theorem drain_step (c : Dev nD) (u : BitVec 32) (t : Fin k0_t2_loop.trips) (a : Unit) :
    Dr m κ c (8 * t.val) ⊢ wp frame (wpE (defs₀ (F := F)) 𝒱₀ (c : Thread nD τ) none) Set.univ (onBufs (k0_t2_body (F := F)) u t a)
      (fun _ => Dr m κ c (8 * (t.val + 1))) := by
  unfold onBufs k0_t2_body
  simp only [Prog.lift, Prog.bind_op, wp_bind, Prog.bind_ret, Prog.pure_eq_ret]
  iintro H
  iapply (use_part (drain5 m κ c u 1#32 t)) $$ H
  iintro %r5 H
  iapply (use_part (drain6 m κ c t)) $$ H
  iintro %r6 H
  iapply (ring_back m κ c true (drainNo t) 3 (k := 8 * t.val + 7) rfl (drain_offs t).2.2.2) $$ H
  iintro H
  simp only [wp_ret]
  imodintro
  iexact H

theorem drain24 (c : Dev nD) (u : BitVec 32) :
    Dr m κ c 0 ⊢ wp frame (wpE (defs₀ (F := F)) 𝒱₀ (c : Thread nD τ) none) Set.univ (onBufs (k0_part24 (F := F)) u)
      (fun _ => Dr m κ c (120 + 3)) := by
  unfold onBufs
  simp only [k0_part24_eq_skeleton]
  unfold k0_part24_skel
  simp only [Prog.lift, Prog.bind_op, Prog.bind_ret, Prog.pure_eq_ret]
  iintro H
  iapply (Scf.wp_for_bind frame (wpE (defs₀ (F := F)) 𝒱₀ (c : Thread nD τ) none) Set.univ _ _ _ _ _ _ (fun t _ => Dr m κ c (8 * t))
    (fun t a => drain_step m κ c u t a)) $$ H
  iintro %a H
  ihave H := (show Dr m κ c (8 * k0_t2_loop.trips) ⊢ Dr m κ c (120 + 0) from Entails.of_eq (by rw [trips2])) $$ H
  iapply (peak_back m κ c 0 (k := 0) rfl (by rfl)) $$ H
  iintro H
  iapply (peak_back m κ c 1 (k := 1) rfl (by rfl)) $$ H
  iintro H
  iapply (peak_back m κ c 2 (k := 2) rfl (by rfl)) $$ H
  iintro H
  simp only [wp_ret]
  imodintro
  iexact H

theorem drain25 (c : Dev nD) :
    Dr m κ c (120 + 3) ⊢ wp frame (wpE (defs₀ (F := F)) 𝒱₀ (c : Thread nD τ) none) Set.univ (onBufs (k0_part25 (F := F)))
      (fun _ => Dr m κ c (120 + 7)) := by
  unfold onBufs
  simp only [k0_part25_eq_skeleton]
  unfold k0_part25_skel
  simp only [Prog.lift, Prog.bind_op, Prog.bind_ret, Prog.pure_eq_ret]
  iintro H
  iapply (peak_back m κ c 3 (k := 3) rfl (by rfl)) $$ H
  iintro H
  iapply (peak_back m κ c 4 (k := 4) rfl (by rfl)) $$ H
  iintro H
  iapply (peak_back m κ c 5 (k := 5) rfl (by rfl)) $$ H
  iintro H
  iapply (peak_back m κ c 6 (k := 6) rfl (by rfl)) $$ H
  iintro H
  simp only [wp_ret]
  imodintro
  iexact H

theorem drain26 (c : Dev nD) :
    Dr m κ c (120 + 7) ⊢ wp frame (wpE (defs₀ (F := F)) 𝒱₀ (c : Thread nD τ) none) Set.univ (onBufs (k0_part26 (F := F)))
      (fun _ => Dr m κ c (120 + 10)) := by
  unfold onBufs
  simp only [k0_part26_eq_skeleton]
  unfold k0_part26_skel
  simp only [Prog.lift, Prog.bind_op, Prog.bind_ret, Prog.pure_eq_ret]
  iintro H
  iapply (peak_back m κ c 7 (k := 7) rfl (by rfl)) $$ H
  iintro H
  iapply (peak_back m κ c 8 (k := 8) rfl (by rfl)) $$ H
  iintro H
  iapply (peak_back m κ c 9 (k := 9) rfl (by rfl)) $$ H
  iintro H
  simp only [wp_ret]
  imodintro
  iexact H

theorem drain27 (c : Dev nD) :
    Dr m κ c (120 + 10) ⊢ wp frame (wpE (defs₀ (F := F)) 𝒱₀ (c : Thread nD τ) none) Set.univ (onBufs (k0_part27 (F := F)))
      (fun _ => Dr m κ c (120 + 14)) := by
  unfold onBufs
  simp only [k0_part27_eq_skeleton]
  unfold k0_part27_skel
  simp only [Prog.lift, Prog.bind_op, Prog.bind_ret, Prog.pure_eq_ret]
  iintro H
  iapply (peak_back m κ c 10 (k := 10) rfl (by rfl)) $$ H
  iintro H
  iapply (peak_back m κ c 11 (k := 11) rfl (by rfl)) $$ H
  iintro H
  iapply (peak_back m κ c 12 (k := 12) rfl (by rfl)) $$ H
  iintro H
  iapply (peak_back m κ c 13 (k := 13) rfl (by rfl)) $$ H
  iintro H
  simp only [wp_ret]
  imodintro
  iexact H

end Cert.Ring

end
-- ==== Proof.Ring.Back.lean ====
/-
  After the drain: the buffers of the ring are whole again and all counters at zero.
-/
module

public import proofs.«01_k».proof.Proof.Ring.Drain
public import proofs.«01_k».proof.Proof.Ring.Whole

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

theorem sum_first (Φ : ℕ → sProp 𝕄) :
    (bigSep Finset.univ fun i : Fin 15 => Φ i.val) = iprop(Φ 0 ∗ bigSep Finset.univ fun i : Fin 14 => Φ (i.val + 1)) := by
  rw [show (Finset.univ : Finset (Fin 15)) = insert 0 (Finset.univ.map (Fin.succEmb 14)) from by decide, bigSep_insert (by decide), bigSep_map]
  rfl

theorem sum_last (Φ : ℕ → sProp 𝕄) :
    (bigSep Finset.univ fun i : Fin 15 => Φ i.val) = iprop(Φ 14 ∗ bigSep Finset.univ fun i : Fin 14 => Φ i.val) := by
  rw [show (Finset.univ : Finset (Fin 15)) = insert 14 (Finset.univ.map Fin.castSuccEmb) from by decide, bigSep_insert (by decide), bigSep_map]
  rfl

/-- The halves lent and the halves kept make the whole row buffer. -/
theorem rows_home (c : Dev nD) (b : Bool) : iprop(rows b c (slset 0) fullShare.right (RB m c b) ∗ slotsKept m c b 15
      ∗ bigSep Finset.univ fun hs : Fin 15 × Fin 4 => rows b c (pset hs.1.val hs.2.val) fullShare.left (RB m c b))
    ⊢ rows b c Finset.univ fullShare (RB m c b) := by
  have eL : (bigSep Finset.univ fun hs : Fin 15 × Fin 4 => rows b c (pset hs.1.val hs.2.val) fullShare.left (RB m c b))
      = iprop(rows b c (slset 0) fullShare.left (RB m c b) ∗ bigSep Finset.univ fun i : Fin 14 => rows b c (slset (i.val + 1)) fullShare.left (RB m c b)) := by
    rw [bigSep_univ_prod, ← sum_first fun i => rows b c (slset i) fullShare.left (RB m c b)]
    exact bigSep_congr fun h _ => (slot_pieces c b h.val _ _).symm
  have eK : slotsKept m c b 15 = iprop(rows b c (slset 15) fullShare (RB m c b)
      ∗ bigSep Finset.univ fun i : Fin 14 => rows b c (slset (i.val + 1)) fullShare.right (RB m c b)) := by
    unfold slotsKept
    rw [cursor_end (fun i : Fin 15 => i.isLt), sum_last fun i => rows b c (slset (i + 1)) (keepSh i) (RB m c b)]
    refine congrArg₂ _ rfl (bigSep_congr fun i _ => ?_)
    rw [show keepSh i.val = fullShare.right from if_neg (by omega)]
  have eF : (bigSep Finset.univ fun h : Fin 15 => rows b c (slset (h.val + 1)) fullShare (RB m c b))
      = iprop(rows b c (slset 15) fullShare (RB m c b) ∗ bigSep Finset.univ fun i : Fin 14 => rows b c (slset (i.val + 1)) fullShare (RB m c b)) :=
    sum_last fun i => rows b c (slset (i + 1)) fullShare (RB m c b)
  have eH : (bigSep Finset.univ fun i : Fin 14 => rows b c (slset (i.val + 1)) fullShare (RB m c b))
      = iprop((bigSep Finset.univ fun i : Fin 14 => rows b c (slset (i.val + 1)) fullShare.left (RB m c b))
        ∗ bigSep Finset.univ fun i : Fin 14 => rows b c (slset (i.val + 1)) fullShare.right (RB m c b)) := by
    rw [← bigSep_sep']
    exact bigSep_congr fun i _ => equiv_iff.mp ⟨(pointsTo_halves c b _ _).1, (pointsTo_halves c b _ _).2⟩
  rw [eL, eK, ← rows_back, eF, eH]
  iintro ⟨H0, ⟨H15, HR⟩, HL0, HL⟩
  isplitl [H0 HL0]
  · iapply ((pointsTo_halves c b (slset 0) (RB m c b)).2)
    isplitl [HL0]; · iexact HL0
    iexact H0
  isplitl [H15]; · iexact H15
  isplitl [HL]; · iexact HL
  iexact HR

/-- The peak table whole again. -/
theorem peaks_home (c : Dev nD) : iprop(peaks c (apset 0) (Transfers.shareDrop fullShare 15) (AB m c) ∗ peaksIn m c 15
      ∗ bigSep Finset.univ fun d : Fin 15 => peaks c (apset 0) (Transfers.shareTokN fullShare d.val) (AB m c))
    ⊢ peaks c Finset.univ fullShare (AB m c) := by
  rw [peaks_whole]
  unfold peaksIn
  rw [cursor_end (fun i : Fin 15 => i.isLt)]
  iintro ⟨Hd, Hin, Ht⟩
  isplitl [Hd Ht]
  · iapply (show iprop(peaks c (apset 0) (Transfers.shareDrop fullShare 15) (AB m c)
      ∗ bigSep Finset.univ fun d : Fin 15 => peaks c (apset 0) (Transfers.shareTokN fullShare d.val) (AB m c)) ⊢ peaks c (apset 0) fullShare (AB m c) from
      (Transfers.pointsTo_toks fullShare 15).2)
    isplitl [Hd]; · iexact Hd
    iexact Ht
  iexact Hin

/-- What the device holds of the ring in the end. -/
def Home (c : Dev nD) : sProp 𝕄 :=
  iprop((∃ W, owes (c : Thread nD τ) 0 W) ∗ (bigSep Finset.univ fun x : X => (semVal (sndC c x) 0 : sProp 𝕄))
    ∗ (bigSep Finset.univ fun x : X => (semVal (rcvC c x) 0 : sProp 𝕄))
    ∗ peaks c Finset.univ fullShare (AB m c) ∗ rows false c Finset.univ fullShare (RB m c false) ∗ rows true c Finset.univ fullShare (RB m c true))

theorem lent_all (c : Dev nD) : bigSep Finset.univ (lent m c)
    = iprop(((bigSep Finset.univ fun hs : Fin 15 × Fin 4 => rows false c (pset hs.1.val hs.2.val) fullShare.left (RB m c false))
        ∗ bigSep Finset.univ fun hs : Fin 15 × Fin 4 => rows true c (pset hs.1.val hs.2.val) fullShare.left (RB m c true))
      ∗ bigSep Finset.univ fun d : Fin 15 => peaks c (apset 0) (Transfers.shareTokN fullShare d.val) (AB m c)) := by
  rw [show (bigSep Finset.univ (lent m c)) = _ from bigSep_univ_sum _]
  refine congrArg₂ _ ?_ rfl
  rw [bigSep_univ_prod, show (Finset.univ : Finset Bool) = {false, true} from by decide, bigSep_insert (by decide), bigSep_singleton]
  rfl

/-- Everything is back. -/
theorem come_home (c : Dev nD) : iprop(Dr m κ c 135 ∗ peaks c (apset 0) (Transfers.shareDrop fullShare 15) (AB m c) ∗ peaksIn m c 15
      ∗ (rows false c (slset 0) fullShare.right (RB m c false) ∗ slotsKept m c false 15)
      ∗ (rows true c (slset 0) fullShare.right (RB m c true) ∗ slotsKept m c true 15))
    ⊢ Home m c := by
  unfold Dr Home
  rw [cursor_end (fun x => rank_lt x)]
  have e : bigSep Finset.univ (backA m c) = iprop((bigSep Finset.univ fun x : X => (semVal (sndC c x) 0 : sProp 𝕄)) ∗ bigSep Finset.univ (lent m c)) :=
    bigSep_sep' _ _ _
  rw [e, lent_all]
  iintro ⟨⟨-, HO, ⟨Hs, ⟨Hl0, Hl1⟩, Hl⟩, Hg⟩, Hd, Hin, ⟨Hr0, Hk0⟩, Hr1, Hk1⟩
  isplitl [HO]; · iexact HO
  isplitl [Hs]; · iexact Hs
  isplitl [Hg]; · iexact Hg
  isplitl [Hd Hin Hl]
  · iapply (peaks_home m c)
    isplitl [Hd]; · iexact Hd
    isplitl [Hin]; · iexact Hin
    iexact Hl
  isplitl [Hr0 Hk0 Hl0]
  · iapply (rows_home m c false)
    isplitl [Hr0]; · iexact Hr0
    isplitl [Hk0]; · iexact Hk0
    iexact Hl0
  · iapply (rows_home m c true)
    isplitl [Hr1]; · iexact Hr1
    isplitl [Hk1]; · iexact Hk1
    iexact Hl1

end Cert.Ring

end
-- ==== Proof.Ring.Out.lean ====
/-
  The result: block after block quantised and copied out, then the copies waited for.
-/
module

public import proofs.«01_k».proof.Proof.Ring.Back
public import proofs.«01_k».proof.Proof.Ring.Fetch

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The blocks -/

/-- The `n`-th 256 rows of the result. -/
def blk (n : ℕ) : Finset S4096x512.Idx := Finset.univ.filter fun i => (i 0).val / 256 = n

theorem mem_blk {n : ℕ} {i : S4096x512.Idx} : i ∈ blk n ↔ (i 0).val / 256 = n := by
  unfold blk; rw [Finset.mem_filter]; exact and_iff_right (Finset.mem_univ _)

theorem rect_blk {n : ℕ} {off : Fin 2 → ℕ} {inb : ∀ a, off a + S256x512.size a ≤ S4096x512.size a} (ho : off = ![256 * n, 0]) :
    (Rect.unit (s := S4096x512) off S256x512.size inb).set = blk n := by
  subst ho
  ext i
  rw [Rect.mem_set_unit, mem_blk]
  have h1 := idx2_lt1 i
  constructor
  · intro h
    have h0 : 256 * n ≤ (i 0).val ∧ (i 0).val < 256 * n + 256 := h 0
    omega
  · intro h a
    match a with
    | ⟨0, _⟩ => exact ⟨by show 256 * n ≤ (i 0).val; omega, by show (i 0).val < 256 * n + 256; omega⟩
    | ⟨1, _⟩ => exact ⟨Nat.zero_le _, by show (i 1).val < 0 + 512; omega⟩

set_option backward.proofsInPublic true in
/-- The semaphore of the `n`-th copy out. -/
def outS (n : Fin 16) : DmaSem sig :=
  semAt1 cc0_scratch11 ![n.val] (fun a => match a with | ⟨0, _⟩ => (by show n.val + 1 ≤ 16; omega))

theorem outS_at (n : Fin 16) {off : Fin 1 → ℕ} {inb} (ho : off = ![n.val]) : semAt1 cc0_scratch11 off inb = outS n := by
  subst ho; rfl

/-- A block of the staging buffer, -/
abbrev obM (off : Fin 2 → ℕ) (inb : ∀ a, off a + S256x512.size a ≤ S4096x512.size a) : Memref sig .tc .vmem S256x512 .bf16 :=
  (Memref.whole cc0_scratch10).slice (Rect.unit (s := S4096x512) off S256x512.size inb) (fun _ => rfl)
/-- and of the result. -/
abbrev rsM (off : Fin 2 → ℕ) (inb : ∀ a, off a + S256x512.size a ≤ S4096x512.size a) : Memref sig .tc .hbm S256x512 .bf16 :=
  (Memref.whole main_v1).slice (Rect.unit (s := S4096x512) off S256x512.size inb) (fun _ => rfl)

/-- What a copy out counts. -/
def amtO : ℕ := (rsM ![0, 0] (by decide)).view.dmaCredit

theorem amtO_at (off inb) : (rsM off inb).view.dmaCredit = amtO := rfl
theorem amtO_pos : 0 < amtO := by decide

/-- A block of the staging buffer held, -/
def oB (c : Dev nD) (n : ℕ) (f : Vec F S4096x512 .bf16) : sProp 𝕄 := ((c : Thread nD τ).loc cc0_scratch10) ↦[blk n]{fullShare} f
/-- a block of the result held, -/
def rB (c : Dev nD) (n : ℕ) (f : Vec F S4096x512 .bf16) : sProp 𝕄 := ((c : Thread nD τ).loc main_v1) ↦[blk n]{fullShare} f
/-- a block on its way out. -/
def flO (c : Dev nD) (n : Fin 16) : sProp 𝕄 :=
  Transfers.Flight EC (c : Thread nD τ) (.dma (outS n)) () amtO iprop(rB c n.val (OB m c) ∗ oB c n.val (OB m c))
/-- A block before, -/
def ready (c : Dev nD) (n : Fin 16) : sProp 𝕄 :=
  iprop((∃ f, oB (F := F) c n.val f) ∗ (∃ f, rB (F := F) c n.val f) ∗ semVal ((c : Thread nD τ), .dma (outS n)) 0)
/-- and after. -/
def placed (c : Dev nD) (n : Fin 16) : sProp 𝕄 :=
  iprop(rB c n.val (OB m c) ∗ oB c n.val (OB m c) ∗ semVal ((c : Thread nD τ), .dma (outS n)) 0)

set_option backward.proofsInPublic true in
/-- The products of a block. -/
def yblk (c : Dev nD) (n : Fin 16) : Vec F S256x512 .f32 := fun j =>
  YB m c (ix2 ⟨256 * n.val + (j 0).val, by have h2 := idx2_lt0 j; omega⟩ ⟨(j 1).val, idx2_lt1 j⟩)

/-- The result on a block. -/
theorem OB_blk (c : Dev nD) (n : Fin 16) (i : S4096x512.Idx) (j : S256x512.Idx) (h0 : (i 0).val = 256 * n.val + (j 0).val)
    (h1 : (i 1).val = (j 1).val) : k0_pay1 (AB m c) (yblk m c n) j = OB m c i := by
  have hj := idx2_lt0 j
  have ed : (i 0).val / 256 = n.val := by omega
  have em : (i 0).val % 256 = (j 0).val := by omega
  unfold OB
  have ew : yblk m c n = fun j' : S256x512.Idx => YB m c (ix2 ⟨256 * ((i 0).val / 256) + (j' 0).val, by
      rw [ed]; have h2 := idx2_lt0 j'; omega⟩ ⟨(j' 1).val, idx2_lt1 j'⟩) := by
    funext j'
    unfold yblk
    refine congrArg (YB m c) (funext fun a => ?_)
    match a with
    | ⟨0, _⟩ => exact Fin.ext (by show 256 * n.val + (j' 0).val = 256 * ((i 0).val / 256) + (j' 0).val; rw [ed])
    | ⟨1, _⟩ => rfl
  rw [ew]
  refine congrArg _ (funext fun a => ?_)
  match a with
  | ⟨0, _⟩ => exact Fin.ext em.symm
  | ⟨1, _⟩ => exact Fin.ext h1.symm

/-! ## The operations -/

theorem load_yblk (c : Dev nD) (n : Fin 16) {off : Fin 2 → ℕ} {inb : ∀ a, off a + S256x512.size a ≤ S4096x512.size a} (ho : off = ![256 * n.val, 0])
    {hl : (Memref.whole cc0_scratch13).view.LoadsAt (Rect.unit (s := S4096x512) off S256x512.size inb).toLoadRect}
    {α : Type} {Q : α → sProp 𝕄} {k : Vec F S256x512 .f32 → Prog (TpuEff nD τ sig (Elt F) Λ₀ .tc) α} :
    ys c (YB m c)
      ⊢ iprop((ys c (YB m c) -∗ wp frame (wpE (defs₀ (F := F)) 𝒱₀ (c : Thread nD τ) none) Set.univ (k (yblk m c n)) Q)
        -∗ wp frame (wpE (defs₀ (F := F)) 𝒱₀ (c : Thread nD τ) none) Set.univ
          (.op (.load (Memref.whole cc0_scratch13) (Rect.unit (s := S4096x512) off S256x512.size inb).toLoadRect hl) k) Q) := by
  have H := wp_load (defs := defs₀ (F := F)) 𝒱₀ (c : Thread nD τ) none Set.univ (m := Memref.whole cc0_scratch13) (hl := hl) (k := k) (Q := Q) (Γ := .empty)
      (S := Finset.univ) (q := fullShare) (f := YB m c) (Finset.subset_univ _)
  have e : (Memref.whole cc0_scratch13).view.readAt (Elt F) (Rect.unit (s := S4096x512) off S256x512.size inb).toLoadRect (YB m c) = yblk m c n := by
    subst ho
    funext j
    refine congrArg (YB m c) (funext fun a => ?_)
    match a with
    | ⟨0, _⟩ => exact Fin.ext (show 256 * n.val + 1 * (j 0).val = 256 * n.val + (j 0).val by omega)
    | ⟨1, _⟩ => exact Fin.ext (show 0 + 1 * (j 1).val = (j 1).val by omega)
  rw [e] at H
  exact H

theorem load_ob (c : Dev nD) (n : Fin 16) {off : Fin 2 → ℕ} {inb : ∀ a, off a + S256x512.size a ≤ S4096x512.size a} (ho : off = ![256 * n.val, 0])
    (f : Vec F S4096x512 .bf16)
    {hl : (Memref.whole cc0_scratch10).view.LoadsAt (Rect.unit (s := S4096x512) off S256x512.size inb).toLoadRect}
    {α : Type} {Q : α → sProp 𝕄} {k : Vec F S256x512 .bf16 → Prog (TpuEff nD τ sig (Elt F) Λ₀ .tc) α} :
    oB c n.val f
      ⊢ iprop((∀ v, oB c n.val f -∗ wp frame (wpE (defs₀ (F := F)) 𝒱₀ (c : Thread nD τ) none) Set.univ (k v) Q)
        -∗ wp frame (wpE (defs₀ (F := F)) 𝒱₀ (c : Thread nD τ) none) Set.univ
          (.op (.load (Memref.whole cc0_scratch10) (Rect.unit (s := S4096x512) off S256x512.size inb).toLoadRect hl) k) Q) := by
  have hs := rect_blk ho (inb := inb)
  have H := wp_load (defs := defs₀ (F := F)) 𝒱₀ (c : Thread nD τ) none Set.univ (m := Memref.whole cc0_scratch10) (hl := hl) (k := k) (Q := Q) (Γ := .empty)
      (S := blk n.val) (q := fullShare) (f := f)
      (by rw [← hs]; intro i hi; obtain ⟨j, hj, rfl⟩ := Finset.mem_map.mp hi; exact hj)
  exact H.trans (wand_mono_left (forall_elim _))

theorem store_ob (c : Dev nD) (n : Fin 16) {off : Fin 2 → ℕ} {inb : ∀ a, off a + S256x512.size a ≤ S4096x512.size a} (ho : off = ![256 * n.val, 0])
    (f : Vec F S4096x512 .bf16) {w : Vec F S256x512 .bf16} (hw : w = k0_pay1 (AB m c) (yblk m c n))
    {hx : ((Memref.whole cc0_scratch10).access (Rect.unit (s := S4096x512) off S256x512.size inb)).Stores Finset.univ} {hm}
    {α : Type} {Q : α → sProp 𝕄} {k : PUnit → Prog (TpuEff nD τ sig (Elt F) Λ₀ .tc) α} :
    oB c n.val f
      ⊢ iprop((oB c n.val (OB m c) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch10) (Rect.unit (s := S4096x512) off S256x512.size inb) w Finset.univ hx hm) k) Q) := by
  have hs := rect_blk ho (inb := inb)
  have hS : ((Memref.whole cc0_scratch10).access (Rect.unit (s := S4096x512) off S256x512.size inb)).setOn Finset.univ = blk n.val := by
    rw [← hs]; exact View.set_slice_whole _ _
  have H := wp_store (defs := defs₀ (F := F)) 𝒱₀ (c : Thread nD τ) none Set.univ (m := Memref.whole cc0_scratch10) (w := w) (hx := hx) (hm := hm) (k := k) (Q := Q) (Γ := .empty)
    (S := blk n.val) (f := f) (subset_of_eq hS)
  refine H.trans (wand_mono_left (wand_mono_left (Entails.of_eq ?_)))
  refine pointsTo_congr fun i hi => ?_
  rw [← hS] at hi
  obtain ⟨j, -, rfl⟩ := Finset.mem_map.mp hi
  rw [View.write_emb_of_mem _ _ (Finset.mem_univ _), hw]
  subst ho
  exact OB_blk m c n _ j (by show 256 * n.val + 1 * (j 0).val = _; omega) (by show 0 + 1 * (j 1).val = _; omega)

theorem obM_set {n : ℕ} {off inb} (ho : off = ![256 * n, 0]) : (obM off inb).view.set = blk n :=
  (View.set_slice_whole _ _).trans (rect_blk ho)
theorem rsM_set {n : ℕ} {off inb} (ho : off = ![256 * n, 0]) : (rsM off inb).view.set = blk n :=
  (View.set_slice_whole _ _).trans (rect_blk ho)

theorem copy_out (c : Dev nD) (n : Fin 16) {off : Fin 2 → ℕ} {inb : ∀ a, off a + S256x512.size a ≤ S4096x512.size a} (ho : off = ![256 * n.val, 0])
    (f : Vec F S4096x512 .bf16) {sem : DmaSem sig} (hs : sem = outS n) {hsrc hdst hsem}
    {α : Type} {Q : α → sProp 𝕄} {k : PUnit → Prog (TpuEff nD τ sig (Elt F) Λ₀ .tc) α} :
    iprop(oB c n.val (OB m c) ∗ rB c n.val f ∗ semVal ((c : Thread nD τ), .dma (outS n)) 0)
      ⊢ iprop((flO m c n -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (obM off inb) (.here (rsM off inb)) (.dma sem) hsrc hdst hsem) k) Q) := by
  subst hs
  have H := Transfers.wp_dmaLocal (defs := defs₀ (F := F)) EC 𝒱₀ (c : Thread nD τ) none (src := obM off inb) (via := .same)
    (dst := rsM off inb) (sm := .dma (outS n)) (hsrc := hsrc) (hdst := hdst) (hsem := hsem) (k := k) (Q := Q) (q := fullShare)
    (fs := OB m c) (Sd := blk n.val) (fd := f) () amtO (amtO_at off inb) amtO_pos (subset_of_eq (rsM_set ho))
  rw [obM_set ho] at H
  have e : ((rsM off inb).view.loc (c : Thread nD τ) ↦[blk n.val]{fullShare}
      ((rsM off inb).view.write (Elt F) f ((ReadAs.same : ReadAs (Elt F) _ _ _ _).apply ((obM off inb).view.read (Elt F) (OB m c))) Finset.univ))
      = (rB c n.val (OB m c) : sProp 𝕄) := by
    refine pointsTo_congr fun i hi => ?_
    rw [← rsM_set ho (inb := inb)] at hi
    obtain ⟨j, -, rfl⟩ := Finset.mem_map.mp hi
    rw [View.write_emb_of_mem _ _ (Finset.mem_univ _)]
    rfl
  rw [e] at H
  exact H

/-! ## The loops -/

theorem trips3 : k0_t3_loop.trips = 16 := by decide
theorem trips4 : k0_t4_loop.trips = 16 := by decide
def outNo (t : Fin k0_t3_loop.trips) : Fin 16 := ⟨t.val, lt_of_lt_of_eq t.isLt trips3⟩
def inNo (t : Fin k0_t4_loop.trips) : Fin 16 := ⟨t.val, lt_of_lt_of_eq t.isLt trips4⟩

theorem out_offs : ∀ t : Fin k0_t3_loop.trips, k0_off50 t = ![256 * (outNo t).val, 0] ∧ k0_off51 t = ![(outNo t).val] ∧ k0_off52 t = ![256 * (outNo t).val, 0] := by
  decide
theorem in_offs : ∀ t : Fin k0_t4_loop.trips, k0_off53 t = ![(inNo t).val] := by decide

theorem val16_inj : Function.Injective (fun i : Fin 16 => i.val) := Fin.val_injective

def outInv (c : Dev nD) (n : ℕ) : sProp 𝕄 :=
  iprop(ys c (YB m c) ∗ cursor (fun i : Fin 16 => i.val) (flO m c) (ready (F := F) c) n)

theorem out_step (c : Dev nD) (t : Fin k0_t3_loop.trips) (a : Unit) :
    outInv m c t.val ⊢ wp frame (wpE (defs₀ (F := F)) 𝒱₀ (c : Thread nD τ) none) Set.univ (onBufs (k0_t3_body (F := F)) (AB m c) t a)
      (fun _ => outInv m c (t.val + 1)) := by
  unfold onBufs k0_t3_body outInv
  simp only [Prog.lift, Prog.bind_op, Prog.bind_ret, Prog.pure_eq_ret]
  iintro ⟨Hy, HC⟩
  ihave ⟨HR, Hclose⟩ := (cursor_take (n := t.val) val16_inj (outNo t) rfl) $$ HC
  unfold ready
  icases HR with ⟨⟨%f, Ho⟩, ⟨%g, Hr⟩, Hv⟩
  iapply (load_yblk m c (outNo t) (out_offs t).1) $$ Hy
  iintro Hy
  iapply (load_ob c (outNo t) (out_offs t).1 f) $$ Ho
  iintro %v Ho
  iapply (store_ob m c (outNo t) (out_offs t).1 f rfl) $$ Ho
  iintro Ho
  iapply (copy_out m c (outNo t) (out_offs t).2.2 g (outS_at (outNo t) (out_offs t).2.1)) $$ [Ho Hr Hv]
  · isplitl [Ho]; · iexact Ho
    isplitl [Hr]; · iexact Hr
    iexact Hv
  iintro HF
  simp only [wp_ret]
  imodintro
  isplitl [Hy]; · iexact Hy
  iapply Hclose
  iexact HF

def inInv (c : Dev nD) (n : ℕ) : sProp 𝕄 :=
  iprop((∃ W, owes (c : Thread nD τ) 0 W) ∗ cursor (fun i : Fin 16 => i.val) (placed m c) (flO m c) n)

theorem in_step (c : Dev nD) (t : Fin k0_t4_loop.trips) (a : Unit) :
    inInv m c t.val ⊢ wp frame (wpE (defs₀ (F := F)) 𝒱₀ (c : Thread nD τ) none) Set.univ (onBufs (k0_t4_body (F := F)) t a)
      (fun _ => inInv m c (t.val + 1)) := by
  unfold onBufs k0_t4_body inInv
  simp only [Prog.lift, Prog.bind_op, Prog.bind_ret, Prog.pure_eq_ret]
  have hs : semAt1 cc0_scratch11 (k0_off53 t) (k0_off53_inb t) = outS (inNo t) := outS_at (inNo t) (in_offs t)
  iintro ⟨⟨%W, HO⟩, HC⟩
  ihave ⟨HF, Hclose⟩ := (cursor_take (n := t.val) val16_inj (inNo t) rfl) $$ HC
  ihave HF := (show flO m c (inNo t) ⊢ Transfers.Flight EC (c : Thread nD τ) (.dma (semAt1 cc0_scratch11 (k0_off53 t) (k0_off53_inb t))) () amtO
      iprop(rB c (inNo t).val (OB m c) ∗ oB c (inNo t).val (OB m c)) from Entails.of_eq (by rw [hs]; rfl)) $$ HF
  iapply (Transfers.wp_waitLocalO (defs := defs₀ (F := F)) EC 𝒱₀ (c : Thread nD τ) none () (amtO_at _ _) (O := 0) (W := W)) $$ [HF HO]
  · isplitl [HF]; · iexact HF
    isplitl [HO]; · iexact HO
    rw [MayWait_zero]; iempintro
  iintro ⟨⟨Hr, Ho⟩, Hv, HO⟩
  ihave Hv := (show semVal ((c : Thread nD τ), .dma (semAt1 cc0_scratch11 (k0_off53 t) (k0_off53_inb t))) 0
    ⊢ (semVal ((c : Thread nD τ), .dma (outS (inNo t))) 0 : sProp 𝕄) from Entails.of_eq (by rw [hs])) $$ Hv
  simp only [wp_ret]
  imodintro
  isplitl [HO]; · iexists _; iexact HO
  iapply Hclose
  unfold placed
  isplitl [Hr]; · iexact Hr
  isplitl [Ho]; · iexact Ho
  iexact Hv

theorem blk_disj : ∀ k ∈ (Finset.univ : Finset (Fin 16)), ∀ k' ∈ (Finset.univ : Finset (Fin 16)), k ≠ k' → Disjoint (blk k.val) (blk k'.val) := by
  intro k _ k' _ hne
  refine Finset.disjoint_left.mpr fun i hi hi' => ?_
  rw [mem_blk] at hi hi'
  exact hne (Fin.ext (hi.symm.trans hi'))

theorem blk_all : (Finset.univ : Finset S4096x512.Idx) = Finset.univ.biUnion fun k : Fin 16 => blk k.val := by
  ext i
  have h0 := idx2_lt0 i
  simp only [Finset.mem_univ, true_iff, Finset.mem_biUnion, true_and, mem_blk]
  exact ⟨⟨(i 0).val / 256, by omega⟩, rfl⟩

theorem split_blocks (l : Loc nD τ sig) (g : Buf (Elt F) l) (A : Finset (Idx l)) (B : Fin 16 → Finset (Idx l)) (h : A = Finset.univ.biUnion B)
    (hd : ∀ k ∈ (Finset.univ : Finset (Fin 16)), ∀ k' ∈ (Finset.univ : Finset (Fin 16)), k ≠ k' → Disjoint (B k) (B k')) :
    (l ↦[A]{fullShare} g : sProp 𝕄) = bigSep Finset.univ fun k : Fin 16 => (l ↦[B k]{fullShare} g : sProp 𝕄) := by
  rw [h]; exact pointsTo_biUnion _ _ hd

/-- The staging buffer is its blocks, -/
theorem ob_whole (c : Dev nD) (f : Vec F S4096x512 .bf16) :
    (((c : Thread nD τ).loc cc0_scratch10) ↦{fullShare} f : sProp 𝕄) = bigSep Finset.univ fun k : Fin 16 => oB c k.val f := by
  exact split_blocks ((c : Thread nD τ).loc cc0_scratch10) f _ (fun k => blk k.val) blk_all blk_disj

/-- and so is the result. -/
theorem rs_whole (c : Dev nD) (f : Vec F S4096x512 .bf16) :
    (((c : Thread nD τ).loc main_v1) ↦{fullShare} f : sProp 𝕄) = bigSep Finset.univ fun k : Fin 16 => rB c k.val f := by
  exact split_blocks ((c : Thread nD τ).loc main_v1) f _ (fun k => blk k.val) blk_all blk_disj

/-- All is ready for the loop. -/
theorem out_ready (c : Dev nD) (f g : Vec F S4096x512 .bf16) :
    iprop((((c : Thread nD τ).loc cc0_scratch10) ↦{fullShare} f) ∗ (((c : Thread nD τ).loc main_v1) ↦{fullShare} g)
        ∗ bigSep Finset.univ fun n : Fin 16 => (semVal ((c : Thread nD τ), .dma (outS n)) 0 : sProp 𝕄))
      ⊢ cursor (fun i : Fin 16 => i.val) (flO m c) (ready (F := F) c) 0 := by
  rw [cursor_start (fun _ => Nat.zero_le _), ob_whole, rs_whole]
  unfold ready
  rw [bigSep_sep', bigSep_sep']
  iintro ⟨Ho, Hr, Hv⟩
  isplitl [Ho]
  · iapply (show (bigSep Finset.univ fun k : Fin 16 => oB c k.val f : sProp 𝕄) ⊢ bigSep Finset.univ fun k : Fin 16 => iprop(∃ f, oB (F := F) c k.val f) from
      bigSep_mono fun k _ => exists_intro (Φ := fun f => oB c k.val f) f) $$ Ho
  isplitl [Hr]
  · iapply (show (bigSep Finset.univ fun k : Fin 16 => rB c k.val g : sProp 𝕄) ⊢ bigSep Finset.univ fun k : Fin 16 => iprop(∃ f, rB (F := F) c k.val f) from
      bigSep_mono fun k _ => exists_intro (Φ := fun f => rB c k.val f) g) $$ Hr
  iexact Hv

/-- All is placed. -/
theorem out_placed (c : Dev nD) : cursor (fun i : Fin 16 => i.val) (placed m c) (flO m c) 16
    ⊢ iprop((((c : Thread nD τ).loc main_v1) ↦{fullShare} OB m c) ∗ (((c : Thread nD τ).loc cc0_scratch10) ↦{fullShare} OB m c)
        ∗ bigSep Finset.univ fun n : Fin 16 => (semVal ((c : Thread nD τ), .dma (outS n)) 0 : sProp 𝕄)) := by
  rw [cursor_end (fun i : Fin 16 => i.isLt), ob_whole, rs_whole]
  unfold placed
  rw [bigSep_sep', bigSep_sep']

theorem out_turn (c : Dev nD) : cursor (fun i : Fin 16 => i.val) (flO m c) (ready (F := F) c) 16
    ⊢ cursor (fun i : Fin 16 => i.val) (placed m c) (flO m c) 0 := by
  rw [cursor_end (fun i : Fin 16 => i.isLt), cursor_start (fun _ => Nat.zero_le _)]

end Cert.Ring

end
-- ==== Proof.Ring.Body.lean ====
/-
  The body, from the launch's state to the end.
-/
module

public import proofs.«01_k».proof.Proof.Ring.Start7
public import proofs.«01_k».proof.Proof.Ring.Out

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (κ : Dev nD × K → ℕ)

/-- Loading the whole peak table. -/
theorem load_peaks (c : Dev nD) (f : Vec F S16x8x128 .f32) {off : Fin 3 → ℕ} {inb : ∀ a, off a + S16x8x128.size a ≤ S16x8x128.size a}
    {hl : pM.view.LoadsAt (Rect.unit (s := S16x8x128) off S16x8x128.size inb).toLoadRect}
    {α : Type} {Q : α → sProp 𝕄} {k : Vec F S16x8x128 .f32 → Prog (TpuEff nD τ sig (Elt F) Λ₀ .tc) α} :
    peaks c Finset.univ fullShare f
      ⊢ iprop((peaks c Finset.univ fullShare f -∗ wp frame (wpE (defs₀ (F := F)) 𝒱₀ (c : Thread nD τ) none) Set.univ (k f) Q)
        -∗ wp frame (wpE (defs₀ (F := F)) 𝒱₀ (c : Thread nD τ) none) Set.univ
          (.op (.load pM (Rect.unit (s := S16x8x128) off S16x8x128.size inb).toLoadRect hl) k) Q) := by
  have H := wp_load (defs := defs₀ (F := F)) 𝒱₀ (c : Thread nD τ) none Set.univ (m := pM) (hl := hl) (k := k) (Q := Q) (Γ := .empty)
      (S := Finset.univ) (q := fullShare) (f := f) (Finset.subset_univ _)
  have e : pM.view.readAt (Elt F) (Rect.unit (s := S16x8x128) off S16x8x128.size inb).toLoadRect f = f := by
    funext j
    refine congrArg f (funext fun a => Fin.ext ?_)
    have := inb a
    show off a + 1 * (j a).val = (j a).val
    omega
  rw [e] at H
  exact H

/-- What the body asks beside the talk. -/
def Rest (c : Dev nD) : sProp 𝕄 :=
  iprop((∃ f, wq (F := F) c f) ∗ (∃ f, peaks (F := F) c Finset.univ fullShare f) ∗ (∃ f, ((c : Thread nD τ).loc cc0_scratch10) ↦{fullShare} (f : Vec F S4096x512 .bf16))
    ∗ (∃ g, ((c : Thread nD τ).loc main_v1) ↦{fullShare} (g : Vec F S4096x512 .bf16))
    ∗ bigSep Finset.univ fun n : Fin 16 => (semVal ((c : Thread nD τ), .dma (outS n)) 0 : sProp 𝕄))

/-- What the body leaves. -/
def Ended (c : Dev nD) : sProp 𝕄 :=
  iprop((∃ W, owes (c : Thread nD τ) 0 W) ∗ semVal (barC c) 0
    ∗ (argX m c ∗ argW m c ∗ ((c : Thread nD τ).loc main_v1) ↦{fullShare} OB m c)
    ∗ ((bigSep Finset.univ fun x : X => (semVal (sndC c x) 0 : sProp 𝕄)) ∗ (bigSep Finset.univ fun x : X => (semVal (rcvC c x) 0 : sProp 𝕄))
      ∗ (bigSep Finset.univ fun n : Fin 16 => (semVal ((c : Thread nD τ), .dma (outS n)) 0 : sProp 𝕄))
      ∗ semVal ((c : Thread nD τ), .dma inX) 0 ∗ semVal ((c : Thread nD τ), .dma inW) 0)
    ∗ (∃ f, rows (F := F) false c Finset.univ fullShare f) ∗ (∃ f, rows (F := F) true c Finset.univ fullShare f)
    ∗ (∃ f, peaks (F := F) c Finset.univ fullShare f) ∗ (∃ f, wq (F := F) c f)
    ∗ (∃ f, ((c : Thread nD τ).loc cc0_scratch10) ↦{fullShare} (f : Vec F S4096x512 .bf16)) ∗ (∃ f, xb (F := F) c f) ∗ (∃ f, ys (F := F) c f))

set_option maxHeartbeats 1600000 in
/-- The body. -/
theorem body (c : Dev nD) : iprop(Open m κ c ∗ Bare m c ∗ Rest (F := F) c)
    ⊢ wp frame (wpE (defs₀ (F := F)) 𝒱₀ (c : Thread nD τ) none) Set.univ (onBufs (cc0_body (F := F))) (fun _ => Ended m c) := by
  unfold onBufs
  simp only [cc0_body_eq_skeleton]
  unfold cc0_body_skel
  simp only [Prog.lift, Prog.bind_op, wp_bind, Prog.bind_ret, Prog.pure_eq_ret]
  unfold Rest
  iintro ⟨HO, HB, ⟨%fw, Hw⟩, ⟨%fp, Hp⟩, ⟨%fo, Hob⟩, ⟨%g, Hrs⟩, Hout⟩
  iapply (use_part (start7 m κ c)) $$ [HO HB]
  · isplitl [HO]; · iexact HO
    iexact HB
  iintro %r ⟨%hr, HO⟩
  obtain ⟨d0, v2, v4, v7, v25⟩ := r
  obtain ⟨h1, h2⟩ := hr
  replace h1 : d0 = c := h1
  replace h2 : v25 = k0_pay9 (hi m c) := h2
  subst h1
  subst h2
  unfold Opened
  icases HO with ⟨HS, Hbar, ⟨HaX, HxB, HvX⟩, HfW, Hr0, ⟨%ft, Hr1⟩⟩
  ihave ⟨Hp, HL⟩ := (peaks_lend d0 fp) $$ Hp
  iapply (use_part (start8 m κ d0 v4 v7 ft)) $$ [HS Hr0 Hr1 HL]
  · isplitl [HS]; · iexact HS
    isplitl [Hr1]; · iexact Hr1
    isplitl [Hr0]; · iexact Hr0
    iexact HL
  iintro %r8 ⟨HS, HH, Hr0, Hr1⟩
  iapply (use_part (start9 m κ d0 v4 v7 r8)) $$ [HS HH]
  · isplitl [HS]; · iexact HS
    iexact HH
  iintro %r9 ⟨HS, HH⟩
  iapply (use_part (start10 m κ d0 v4 v7)) $$ [HS HH]
  · isplitl [HS]; · iexact HS
    iexact HH
  iintro %r10 ⟨HS, HH⟩
  iapply (use_part (start11 m κ d0 fw)) $$ [HS HH HfW Hw Hr0]
  · isplitl [HS]; · iexact HS
    isplitl [HH]; · iexact HH
    isplitl [HfW]; · iexact HfW
    isplitl [Hw]; · iexact Hw
    iexact Hr0
  iintro %r11 ⟨%h11, HS, Hy, HaW, HvW, Hw, Hr0⟩
  subst h11
  iapply (use_part (start12 m κ d0 v2 v4 v7 fp)) $$ [HS Hy Hw Hr1 Hp]
  · isplitl [HS]; · iexact HS
    isplitl [Hy]; · iexact Hy
    isplitl [Hw]; · iexact Hw
    isplitl [Hr1]; · iexact Hr1
    iexact Hp
  iintro %r12 ⟨HD, Hr1, Hp⟩
  unfold hopsDone
  icases HD with ⟨HS, Hk0, Hk1, HL, Hw, Hy⟩
  ihave ⟨Hdrop, HT⟩ := (peaksTo_start m d0) $$ [Hp HL]
  · isplitl [Hp]; · iexact Hp
    iexact HL
  ihave HP := (show iprop(St m κ d0 120 120 ∗ peaksTo m d0 0) ⊢ outPeaks m κ d0 0 from .rfl) $$ [HS HT]
  · isplitl [HS]; · iexact HS
    iexact HT
  iapply (use_part (peak13 m κ d0 v2 r12)) $$ HP
  iintro %r13 HP
  obtain ⟨a1, a2, a3, a4, a5⟩ := r13
  iapply (use_part (peak14 m κ d0 v2 a4 a5)) $$ HP
  iintro %r14 HP
  obtain ⟨b1, b2⟩ := r14
  iapply (use_part (peak15 m κ d0 v2)) $$ HP
  iintro %r15 HP
  obtain ⟨e1, e2, e3⟩ := r15
  iapply (use_part (peak16 m κ d0 v2 e3)) $$ HP
  iintro %r16 HP
  obtain ⟨p1, p2⟩ := r16
  iapply (use_part (peak17 m κ d0 v2)) $$ HP
  iintro %r17 HP
  obtain ⟨q1, q2, q3⟩ := r17
  iapply (use_part (peak18 m κ d0 v2 q3)) $$ HP
  iintro %r18 HP
  obtain ⟨s1, s2, s3, s4, s5⟩ := r18
  iapply (use_part (peak19 m κ d0 a1 a2 a3 s4 s5)) $$ HP
  iintro %r19 HP
  iapply (use_part (peak20 m κ d0 b1 b2 e1)) $$ HP
  iintro %r20 HP
  iapply (use_part (peak21 m κ d0 e2 e3 p1)) $$ HP
  iintro %r21 HP
  iapply (use_part (peak22 m κ d0 p2 q1 q2)) $$ HP
  iintro %r22 HP
  iapply (use_part (peak23 m κ d0 s1 s2 s3)) $$ HP
  iintro %r23 HP
  unfold inPeaks
  icases HP with ⟨HS, HI⟩
  ihave HR := (show St m κ d0 135 (120 + 15) ⊢ Dr m κ d0 0 from dr_start m κ d0) $$ HS
  iapply (use_part (drain24 m κ d0 r23)) $$ HR
  iintro %r24 HR
  iapply (use_part (drain25 m κ d0)) $$ HR
  iintro %r25 HR
  iapply (use_part (drain26 m κ d0)) $$ HR
  iintro %r26 HR
  iapply (use_part (drain27 m κ d0)) $$ HR
  iintro %r27 HR
  iapply (peak_back m κ d0 14 (k := 14) rfl (by rfl)) $$ HR
  iintro HR
  ihave HH := (show iprop(Dr m κ d0 (120 + (14 + 1)) ∗ peaks d0 (apset 0) (Transfers.shareDrop fullShare 15) (AB m d0) ∗ peaksIn m d0 15
      ∗ (rows false d0 (slset 0) fullShare.right (RB m d0 false) ∗ slotsKept m d0 false 15)
      ∗ (rows true d0 (slset 0) fullShare.right (RB m d0 true) ∗ slotsKept m d0 true 15)) ⊢ Home m d0 from come_home m κ d0) $$ [HR Hdrop HI Hr0 Hk0 Hr1 Hk1]
  · isplitl [HR]; · iexact HR
    isplitl [Hdrop]; · iexact Hdrop
    isplitl [HI]; · iexact HI
    isplitl [Hr0 Hk0]
    · isplitl [Hr0]; · iexact Hr0
      iexact Hk0
    isplitl [Hr1]; · iexact Hr1
    iexact Hk1
  unfold Home
  icases HH with ⟨HO, Hs, Hg, Hp, HB0, HB1⟩
  iapply (load_peaks d0 (AB m d0)) $$ Hp
  iintro Hp
  iapply (Scf.wp_for_bind frame (wpE (defs₀ (F := F)) 𝒱₀ (d0 : Thread nD τ) none) Set.univ _ _ _ _ _ _ (fun t _ => outInv m d0 t)
    (fun t a => out_step m d0 t a)) $$ [Hy Hob Hrs Hout]
  · unfold outInv
    isplitl [Hy]; · iexact Hy
    iapply (out_ready m d0 fo g)
    isplitl [Hob]; · iexact Hob
    isplitl [Hrs]; · iexact Hrs
    iexact Hout
  iintro %a3 HI
  ihave HI := (show outInv m d0 k0_t3_loop.trips ⊢ outInv m d0 16 from Entails.of_eq (by rw [trips3])) $$ HI
  unfold outInv
  icases HI with ⟨Hy, HC⟩
  ihave HC := (out_turn m d0) $$ HC
  iapply (Scf.wp_for_bind frame (wpE (defs₀ (F := F)) 𝒱₀ (d0 : Thread nD τ) none) Set.univ _ _ _ _ _ _ (fun t _ => inInv m d0 t)
    (fun t a => in_step m d0 t a)) $$ [HO HC]
  · unfold inInv
    isplitl [HO]; · iexact HO
    iexact HC
  iintro %a4 HI
  ihave HI := (show inInv m d0 k0_t4_loop.trips ⊢ inInv m d0 16 from Entails.of_eq (by rw [trips4])) $$ HI
  unfold inInv
  icases HI with ⟨HO, HC⟩
  ihave ⟨Hrs, Hob, Hout⟩ := (out_placed m d0) $$ HC
  simp only [wp_ret]
  imodintro
  unfold Ended
  isplitl [HO]; · iexact HO
  isplitl [Hbar]; · iexact Hbar
  isplitl [HaX HaW Hrs]
  · isplitl [HaX]; · iexact HaX
    isplitl [HaW]; · iexact HaW
    iexact Hrs
  isplitl [Hs Hg Hout HvX HvW]
  · isplitl [Hs]; · iexact Hs
    isplitl [Hg]; · iexact Hg
    isplitl [Hout]; · iexact Hout
    isplitl [HvX]; · iexact HvX
    iexact HvW
  isplitl [HB0]; · iexists _; iexact HB0
  isplitl [HB1]; · iexists _; iexact HB1
  isplitl [Hp]; · iexists _; iexact Hp
  isplitl [Hw]; · iexists _; iexact Hw
  isplitl [Hob]; · iexists _; iexact Hob
  isplitl [HxB]; · iexists _; iexact HxB
  iexists _; iexact Hy

end Cert.Ring

end
-- ==== Proof.Ring.Ghost.lean ====
/-
  What the devices are given at the launch: the cells they talk through are opened, all devices' at once, and the
  tokens are dealt to the devices that pay the duties.
-/
module

public import proofs.«01_k».proof.Proof.Ring.Body

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × K → ℕ)

/-! ## The semaphores of a device -/

/-- The copy semaphores a device uses: of its transfers, of its results, of its operands. -/
abbrev OS : Type := (Bool × X) ⊕ (Fin 16 ⊕ Bool)

/-- Which they are. -/
def osem : OS → SemLoc sig
  | .inl k => csem (some k)
  | .inr (.inl n) => .dma (outS n)
  | .inr (.inr b) => .dma (if b then inW else inX)

theorem dma_scoped : ∀ s : DmaSem sig, (SemLoc.dma s : SemLoc sig).isScoped .tc = true := by decide

theorem out_val : ∀ n : Fin 16, (outS n).val = 288 + n.val := by decide
theorem inX_val : (inX : DmaSem sig).val = 304 := by decide
theorem inW_val : (inW : DmaSem sig).val = 305 := by decide

theorem num_small (k : Bool × X) : ∃ s : DmaSem sig, csem (some k) = .dma s ∧ s.val < 288 := by
  rcases k with ⟨_ | _, ⟨b, h, s⟩ | d⟩
  · refine ⟨sndS _, rfl, ?_⟩
    show sndNum (.inl (b, h, s)) < 288
    simp only [sndNum]; have := h.isLt; have := s.isLt; split <;> omega
  · refine ⟨sndS _, rfl, ?_⟩
    show sndNum (.inr d) < 288
    simp only [sndNum]; have := d.isLt; omega
  · refine ⟨rcvS _, rfl, ?_⟩
    show rcvNum (.inl (b, h, s)) < 288
    simp only [rcvNum]; have := h.isLt; have := s.isLt; split <;> omega
  · refine ⟨rcvS _, rfl, ?_⟩
    show rcvNum (.inr d) < 288
    simp only [rcvNum]; have := d.isLt; omega

theorem rest_val (k : Fin 16 ⊕ Bool) : ∃ s : DmaSem sig, osem (.inr k) = .dma s ∧
    s.val = match k with | .inl n => 288 + n.val | .inr b => if b then 305 else 304 := by
  rcases k with n | _ | _
  · exact ⟨_, rfl, out_val n⟩
  · exact ⟨inX, rfl, inX_val⟩
  · exact ⟨inW, rfl, inW_val⟩

theorem osem_inj : Function.Injective osem := by
  have hv : ∀ s t : DmaSem sig, (SemLoc.dma s : SemLoc sig) = .dma t → s.val = t.val := fun s t e => by
    injection e with e; rw [e]
  rintro (k | k) (k' | k') e
  · exact congrArg _ (by injection (csem_inj e))
  · obtain ⟨s, h1, h2⟩ := num_small k
    obtain ⟨t, h3, h4⟩ := rest_val k'
    have := hv s t (h1.symm.trans (Eq.trans e h3))
    rcases k' with n | _ | _ <;> simp at h4 <;> omega
  · obtain ⟨s, h1, h2⟩ := num_small k'
    obtain ⟨t, h3, h4⟩ := rest_val k
    have := hv s t (h1.symm.trans (Eq.trans (Eq.symm e) h3))
    rcases k with n | _ | _ <;> simp at h4 <;> omega
  · obtain ⟨s, h1, h2⟩ := rest_val k
    obtain ⟨t, h3, h4⟩ := rest_val k'
    have := hv s t (h1.symm.trans (Eq.trans e h3))
    rcases k with n | _ | _ <;> rcases k' with n' | _ | _ <;> simp at h2 h4 <;> first | rfl | (exfalso; omega) | (congr 2; apply Fin.ext; omega)

theorem ownSemFacts : Pipeline.OwnSemFacts cfg0.spec osem :=
  ⟨fun k => by
    rcases k with k | n | _ | _
    · obtain ⟨s, h, -⟩ := num_small k
      rw [show osem (.inl k) = .dma s from h]; exact dma_scoped s
    all_goals exact dma_scoped _, osem_inj, fun _ w => w.elim0⟩

theorem turn3_to (A B C : sProp 𝕄) : iprop((A ∗ B) ∗ C) ⊢ iprop(C ∗ A ∗ B) := by
  iintro ⟨⟨H1, H2⟩, H3⟩
  isplitl [H3]; · iexact H3
  isplitl [H1]; · iexact H1
  iexact H2
theorem turn3_from (A B C : sProp 𝕄) : iprop(C ∗ A ∗ B) ⊢ iprop((A ∗ B) ∗ C) := by
  iintro ⟨H1, H2, H3⟩
  isplitl [H2 H3]
  · isplitl [H2]; · iexact H2
    iexact H3
  iexact H1
theorem turn3 (A B C : sProp 𝕄) : iprop((A ∗ B) ∗ C) = iprop(C ∗ A ∗ B) := equiv_iff.mp ⟨turn3_to A B C, turn3_from A B C⟩

/-- A family over the cells of a device, taken apart. -/
theorem split_K (Φ : K → sProp 𝕄) : bigSep Finset.univ Φ
    = iprop(Φ none ∗ (bigSep Finset.univ fun x : X => Φ (some (false, x))) ∗ bigSep Finset.univ fun x : X => Φ (some (true, x))) := by
  rw [bigSep_univ_equiv (Equiv.optionEquivSumPUnit.{0} (Bool × X)).symm Φ, bigSep_univ_sum, bigSep_univ_prod,
    show (Finset.univ : Finset Bool) = {false, true} from by decide, bigSep_insert (by decide), bigSep_singleton,
    show (Finset.univ : Finset PUnit.{1}) = {PUnit.unit} from by decide, bigSep_singleton]
  exact turn3 _ _ _

/-- The semaphores no transfer counts on. -/
def spare (c : Dev nD) : sProp 𝕄 :=
  iprop((bigSep Finset.univ fun n : Fin 16 => (semVal ((c : Thread nD τ), .dma (outS n)) 0 : sProp 𝕄))
    ∗ semVal ((c : Thread nD τ), .dma inX) 0 ∗ semVal ((c : Thread nD τ), .dma inW) 0)

theorem ownSems0_eq (c : Dev nD) : (Pipeline.ownSems0 (Ix := Unit) (Name := ℕ) (U := UU) (Lvl := ℕ) (Val := Elt F) (τ := τ) osem c : sProp 𝕄)
    = iprop(((bigSep Finset.univ fun x : X => (semVal (sndC c x) 0 : sProp 𝕄)) ∗ bigSep Finset.univ fun x : X => (semVal (rcvC c x) 0 : sProp 𝕄)) ∗ spare c) := by
  unfold Pipeline.ownSems0 spare
  rw [bigSep_univ_sum, bigSep_univ_prod, bigSep_univ_sum,
    show (Finset.univ : Finset Bool) = {false, true} from by decide, bigSep_insert (by decide), bigSep_singleton, bigSep_insert (by decide), bigSep_singleton]
  rfl

theorem unscopedSems0_eq (c : Dev nD) : (unscopedSems0 c : sProp 𝕄) = semVal (barC c) 0 := by
  unfold unscopedSems0; rw [bigSep_eq_bigSepL_of_eq [SemLoc.reg barS] (by decide) (by decide)]; rfl

/-! ## Cells and tokens -/

/-- All cells. -/
def ringCells : Finset (GSem nD τ sig) := Finset.univ.map ⟨_, cell_inj⟩

/-- The duties of a device's cells: two on its barrier, one on each semaphore of a transfer. -/
abbrev TK : Type := Bool ⊕ (Bool × X)

/-- Their tokens. -/
def tokOf (p : Dev nD × TK) : GSem nD τ sig × ℕ × Bool :=
  match p.2 with
  | .inl d => (barC p.1, 0, d)
  | .inr k => (cell p.1 (some k), 0, false)

theorem tokOf_inj : Function.Injective tokOf := by
  rintro ⟨c, k⟩ ⟨c', k'⟩ e
  have hc : ∀ {a b : K}, cell c a = cell c' b → c = c' ∧ a = b := fun {a b} h => by
    have := cell_inj (a₁ := (c, a)) (a₂ := (c', b)) h
    exact ⟨congrArg Prod.fst this, congrArg Prod.snd this⟩
  rcases k with d | k <;> rcases k' with d' | k'
  · obtain ⟨rfl, -⟩ := hc (a := none) (b := none) (congrArg Prod.fst e)
    have : d = d' := congrArg (fun t : GSem nD τ sig × ℕ × Bool => t.2.2) e
    rw [this]
  · exact absurd (hc (a := none) (b := some k') (congrArg Prod.fst e)).2 (by simp)
  · exact absurd (hc (a := some k) (b := none) (congrArg Prod.fst e)).2 (by simp)
  · obtain ⟨rfl, h⟩ := hc (a := some k) (b := some k') (congrArg Prod.fst e)
    injection h with h; rw [h]

/-- All tokens. -/
def ringToks : Finset (GSem nD τ sig × ℕ × Bool) := Finset.univ.map ⟨tokOf, tokOf_inj⟩

/-- What the launch begins with. -/
def u₀ : UU :=
  (initOf (Pipeline.cells cfgs cellOf_inj) (Pipeline.launchToks cfgs cellOf_inj), (initOf ringCells ringToks, 1))

/-- The tokens of a device's own cells. -/
def toks (c : Dev nD) : sProp 𝕄 :=
  iprop((dutyTok ER (barC c) 0 false ∗ dutyTok ER (barC c) 0 true)
    ∗ (bigSep Finset.univ fun x : X => (dutyTok ER (sndC c x) 0 false : sProp 𝕄))
    ∗ bigSep Finset.univ fun x : X => (dutyTok ER (rcvC c x) 0 false : sProp 𝕄))

/-- The positions at a device's own cells, and the records that the first round is reached. -/
def seats (c : Dev nD) : sProp 𝕄 :=
  iprop((bigSep Finset.univ fun k : K => (atPos ER (cell c k) 0 ∅ 0 : sProp 𝕄)) ∗ bigSep Finset.univ fun k : K => (reached ER (cell c k) 0 : sProp 𝕄))

/-- What a device gets of it. -/
def G (c : Dev nD) : sProp 𝕄 :=
  iprop((bigSep Finset.univ fun k : K => roundState ER (Rd m) (cell c k) 0) ∗ seats c ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : K => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_prod, show (Finset.univ : Finset Bool) = {false, true} from by decide,
      bigSep_insert (by decide), bigSep_singleton, bigSep_insert (by decide), bigSep_singleton]
    rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G seats; simp only [bigSep_sep']
  isplitl [Hst]; · iexact Hst
  isplitl [Hat Hr]
  · isplitl [Hat]; · iexact Hat
    iexact Hr
  iexact Htok

/-! ## Opening the cells -/

theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : K => (semVal (cell c k) 0 : sProp 𝕄)) ∗ spare c) := by
  rw [ownSems0_eq, unscopedSems0_eq, split_K]
  iintro ⟨⟨⟨H1, H2⟩, H3⟩, HB⟩
  isplitr [H3]
  · isplitl [HB]; · iexact HB
    isplitl [H1]; · iexact H1
    iexact H2
  iexact H3

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : K => iprop(∃ i : ℕ, cellInv ER (Rd m) i (cell c k))) ∗ (seats c ∗ toks c) ∗ spare c) := by
  unfold G
  iintro ⟨Hos, Hus, Hst, Hat, Htok⟩
  ihave ⟨Hv, Hsp⟩ := (sems_split c) $$ [Hos Hus]
  · isplitl [Hos]; · iexact Hos
    iexact Hus
  imod (show iprop((bigSep Finset.univ fun k : K => semVal (cell c k) 0) ∗ bigSep Finset.univ fun k : K => roundState ER (Rd m) (cell c k) 0)
      ⊢ (|={Set.univ}=> bigSep Finset.univ fun k : K => iprop(∃ i : ℕ, cellInv ER (Rd m) i (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv]; · iexact Hv
    iexact Hst
  imodintro
  isplitl [Hinv]; · iexact Hinv
  isplitr [Hsp]
  · isplitl [Hat]; · iexact Hat
    iexact Htok
  iexact Hsp

/-! ## Dealing -/

/-- What a device holds alone. -/
def mine (c : Dev nD) : sProp 𝕄 :=
  iprop((dutyTok ER (barC (sh 15 c)) 0 true ∗ dutyTok ER (barC (sh 1 c)) 0 false ∗ atPos ER (barC c) 0 ∅ 0)
    ∗ bigSep Finset.univ (sentT (F := F) c) ∗ (bigSep Finset.univ fun x : X => (atPos ER (rcvC c x) 0 ∅ 0 : sProp 𝕄)) ∗ spare c)

/-- What a device starts with. -/
def G' (c : Dev nD) : sProp 𝕄 := iprop(∃ i : Dev nD × K → ℕ, recs m i ∗ mine c)

/-- The landing tokens go to the devices whose transfers land. -/
theorem deal_rcv : (bigSep Finset.univ fun c : Dev nD => bigSep Finset.univ fun x : X => (dutyTok ER (rcvC c x) 0 false : sProp 𝕄))
    = bigSep Finset.univ fun c : Dev nD => bigSep Finset.univ fun x : X => (dutyTok ER (rcvC (tgt x c) x) 0 false : sProp 𝕄) := by
  rw [bigSep_univ_comm (fun (c : Dev nD) (x : X) => (dutyTok ER (rcvC c x) 0 false : sProp 𝕄)),
    bigSep_univ_comm (fun (c : Dev nD) (x : X) => (dutyTok ER (rcvC (tgt x c) x) 0 false : sProp 𝕄))]
  exact bigSep_congr fun x _ => bigSep_univ_equiv (shE (dist x)) (fun c : Dev nD => (dutyTok ER (rcvC c x) 0 false : sProp 𝕄))

theorem deal : (bigSep Finset.univ fun c : Dev nD => (toks c : sProp 𝕄))
    ⊢ bigSep Finset.univ fun c : Dev nD => (iprop((dutyTok ER (barC (sh 15 c)) 0 true ∗ dutyTok ER (barC (sh 1 c)) 0 false)
      ∗ (bigSep Finset.univ fun x : X => (dutyTok ER (sndC c x) 0 false : sProp 𝕄))
      ∗ bigSep Finset.univ fun x : X => (dutyTok ER (rcvC (tgt x c) x) 0 false : sProp 𝕄)) : sProp 𝕄) := by
  unfold toks
  rw [bigSep_sep', bigSep_sep', bigSep_sep', bigSep_sep', bigSep_sep', bigSep_sep', deal_rcv,
    bigSep_univ_equiv (shE 1) (fun c : Dev nD => (dutyTok ER (barC c) 0 false : sProp 𝕄)),
    bigSep_univ_equiv (shE 15) (fun c : Dev nD => (dutyTok ER (barC c) 0 true : sProp 𝕄))]
  iintro ⟨⟨H1, H2⟩, H3, H4⟩
  isplitl [H1 H2]
  · isplitl [H2]; · iexact H2
    iexact H1
  isplitl [H3]; · iexact H3
  iexact H4

theorem mine_intro (c : Dev nD) :
    iprop((bigSep Finset.univ fun k : K => (atPos ER (cell c k) 0 ∅ 0 : sProp 𝕄))
      ∗ ((dutyTok ER (barC (sh 15 c)) 0 true ∗ dutyTok ER (barC (sh 1 c)) 0 false)
        ∗ (bigSep Finset.univ fun x : X => (dutyTok ER (sndC c x) 0 false : sProp 𝕄))
        ∗ bigSep Finset.univ fun x : X => (dutyTok ER (rcvC (tgt x c) x) 0 false : sProp 𝕄)) ∗ spare c) ⊢ mine (F := F) c := by
  unfold mine sentT
  rw [split_K, bigSep_sep', bigSep_sep']
  iintro ⟨⟨HB, HS, HR⟩, ⟨⟨H1, H2⟩, H3, H4⟩, Hsp⟩
  isplitl [HB H1 H2]
  · isplitl [H1]; · iexact H1
    isplitl [H2]; · iexact H2
    iexact HB
  isplitl [H3 H4 HS]
  · isplitl [H3 H4]
    · isplitl [H3]; · iexact H3
      iexact H4
    iexact HS
  isplitl [HR]; · iexact HR
  iexact Hsp

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem known (c : Dev nD) (i : Dev nD × K → ℕ) : iprop(recs m i ∗ mine (F := F) c) ⊢ G' m c := by
  unfold G'
  exact exists_intro (Φ := fun i => iprop(recs m i ∗ mine (F := F) c)) i

theorem regroup :
    (bigSep Finset.univ fun c : Dev nD => iprop((bigSep Finset.univ fun k : K => iprop(∃ i : ℕ, cellInv ER (Rd m) i (cell c k)))
          ∗ (seats c ∗ toks c) ∗ spare c) : sProp 𝕄)
      ⊢ bigSep Finset.univ (G' m) := by
  classical
  unfold seats
  rw [bigSep_sep', bigSep_sep', bigSep_sep', bigSep_sep',
    ← bigSep_univ_prod (fun p : Dev nD × K => iprop(∃ i : ℕ, cellInv ER (Rd m) i (cell p.1 p.2))),
    ← bigSep_univ_prod (fun p : Dev nD × K => (reached ER (cell p.1 p.2) 0 : sProp 𝕄))]
  iintro ⟨HI, ⟨⟨Hat, HR⟩, Htok⟩, Hsp⟩
  ihave HK := (BI.bigSep_exists_pi Finset.univ (fun (p : Dev nD × K) (i : ℕ) => (cellInv ER (Rd m) i (cell p.1 p.2) : sProp 𝕄))) $$ HI
  icases HK with ⟨%i, HI⟩
  ihave Htk := (deal (F := F)) $$ Htok
  iapply (with_all (R := recs m i) fun c _ => known m c i)
  isplitl [HI HR]
  · unfold recs
    rw [bigSep_sep']
    isplitl [HI]; · iexact HI
    iexact HR
  · iapply (show iprop((bigSep Finset.univ fun c : Dev nD => bigSep Finset.univ fun k : K => (atPos ER (cell c k) 0 ∅ 0 : sProp 𝕄))
        ∗ (bigSep Finset.univ fun c : Dev nD => (iprop((dutyTok ER (barC (sh 15 c)) 0 true ∗ dutyTok ER (barC (sh 1 c)) 0 false)
          ∗ (bigSep Finset.univ fun x : X => (dutyTok ER (sndC c x) 0 false : sProp 𝕄))
          ∗ bigSep Finset.univ fun x : X => (dutyTok ER (rcvC (tgt x c) x) 0 false : sProp 𝕄)) : sProp 𝕄))
        ∗ bigSep Finset.univ fun c : Dev nD => (spare c : sProp 𝕄)) ⊢ bigSep Finset.univ fun c : Dev nD => mine (F := F) c from by
      rw [← bigSep_sep', ← bigSep_sep']
      exact bigSep_mono fun c _ => mine_intro c)
    isplitl [Hat]; · iexact Hat
    isplitl [Htk]; · iexact Htk
    iexact Hsp

/-- The cells of all devices are opened and their tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Ring

end
-- ==== Proof.Ring.Launch.lean ====
/-
  The launch and the whole run: from any memory every execution ends with the operands as they were, each device's
  result at its contents and every semaphore at zero.
-/
module

public import proofs.«01_k».proof.Proof.Ring.Ghost
public import Idealize.ShloMosaic.Lib.Pipeline.CollectiveSegs

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## What is owed to a device at the launch -/

theorem one_cell {c d : Dev nD} {k k' : K} : cell c k = cell d k' ↔ c = d ∧ k = k' :=
  ⟨fun h => by
    have := cell_inj (a₁ := (c, k)) (a₂ := (d, k')) h
    exact ⟨congrArg Prod.fst this, congrArg Prod.snd this⟩, fun ⟨h1, h2⟩ => by rw [h1, h2]⟩

theorem rcv_ne_bar {c d : Dev nD} {x : X} : rcvC c x ≠ barC d := fun h =>
  absurd ((one_cell (k := some (true, x)) (k' := none)).mp h).2 (by simp)
theorem bar_ne_rcv {c d : Dev nD} {x : X} : barC c ≠ rcvC d x := fun h => rcv_ne_bar h.symm
theorem rcv_eq {c d : Dev nD} {x y : X} (h : rcvC c x = rcvC d y) : c = d ∧ x = y := by
  obtain ⟨h1, h2⟩ := (one_cell (k := some (true, x)) (k' := some (true, y))).mp h
  injection h2 with h2
  exact ⟨h1, congrArg Prod.snd h2⟩
theorem bar_eq {c d : Dev nD} (h : barC c = barC d) : c = d := ((one_cell (k := none) (k' := none)).mp h).1

theorem owed_at (d : Dev nD) (g : GSem nD τ sig) :
    owed d 0 g () = ∑ x : X, if g = rcvC (tgt x d) x then amt x else 0 := by
  unfold owed
  rw [Finset.filter_true_of_mem (fun _ _ => Nat.zero_le _), Finset.sum_apply, Finsupp.finset_sum_apply]
  refine Finset.sum_congr rfl fun x _ => ?_
  rw [tallyAt_apply]
  by_cases h : g = rcvC (tgt x d) x
  · rw [if_pos ⟨h, rfl⟩, if_pos h]
  · rw [if_neg (fun h' => h h'.1), if_neg h]

theorem O₀_at (d : Dev nD) (g : GSem nD τ sig) :
    O₀ d g () = ((∑ x : X, if g = rcvC (tgt x d) x then amt x else 0) + if g = barC (sh 1 d) then 1 else 0) + if g = barC (sh 15 d) then 1 else 0 := by
  unfold O₀
  rw [Pi.add_apply, Finsupp.add_apply, Pi.add_apply, Finsupp.add_apply, owed_at, tallyAt_apply, tallyAt_apply]
  congr 1
  · congr 1
    by_cases h : g = barC (sh 1 d)
    · rw [if_pos ⟨h, rfl⟩, if_pos h]
    · rw [if_neg (fun h' => h h'.1), if_neg h]
  · by_cases h : g = barC (sh 15 d)
    · rw [if_pos ⟨h, rfl⟩, if_pos h]
    · rw [if_neg (fun h' => h h'.1), if_neg h]

theorem dist_mem (x : X) : 1 ≤ dist x ∧ dist x ≤ 15 := by
  rcases x with ⟨b, h, s⟩ | d
  · cases b <;> simp [dist]
  · simp only [dist]; have := d.isLt; omega

theorem back_iff {k : ℕ} (h1 : k ≤ 16) {c d : Dev nD} : c = sh k d ↔ d = sh (16 - k) c :=
  ⟨fun h => by rw [h, sh_sh, sh_sixteen (by omega)], fun h => by rw [h, sh_sh, sh_sixteen (by omega)]⟩

theorem O₀_rcv (d c : Dev nD) (x : X) : O₀ d (rcvC c x) () = if d = sh (16 - dist x) c then amt x else 0 := by
  have hx := dist_mem x
  rw [O₀_at, if_neg rcv_ne_bar, if_neg rcv_ne_bar, Nat.add_zero,
    Finset.sum_eq_single x (fun y _ hy => if_neg fun h => hy (rcv_eq h).2.symm) (fun h => absurd (Finset.mem_univ _) h)]
  by_cases h : d = sh (16 - dist x) c
  · rw [if_pos h, if_pos (congrArg (fun c => rcvC c x) ((back_iff (by omega)).mpr h))]
  · rw [if_neg h, if_neg fun h' => h ((back_iff (by omega)).mp (rcv_eq h').1)]

theorem O₀_bar (d c : Dev nD) : O₀ d (barC c) () = (if d = sh 15 c then 1 else 0) + if d = sh 1 c then 1 else 0 := by
  rw [O₀_at, Finset.sum_eq_zero (fun y _ => if_neg bar_ne_rcv), Nat.zero_add]
  congr 1
  · by_cases h : d = sh 15 c
    · rw [if_pos h, if_pos (congrArg barC ((back_iff (k := 1) (by omega)).mpr h))]
    · rw [if_neg h, if_neg fun h' => h ((back_iff (k := 1) (by omega)).mp (bar_eq h'))]
  · by_cases h : d = sh 1 c
    · rw [if_pos h, if_pos (congrArg barC ((back_iff (k := 15) (by omega)).mpr h))]
    · rw [if_neg h, if_neg fun h' => h ((back_iff (k := 15) (by omega)).mp (bar_eq h'))]

theorem launch_rcv (c : Dev nD) (x : X) :
    tallyOn (rcvC c x) (launchCredit (Pipeline.owing O₀) 0 (rcvC c x)) = (tallyAt (rcvC c x) () (amt x) : CellTallies nD τ sig Unit) := by
  unfold tallyAt; refine congrArg _ (Finsupp.ext fun u => ?_); cases u
  rw [Pipeline.launchCredit_owing, Finsupp.single_eq_same, Finset.sum_congr rfl fun d _ => O₀_rcv d c x,
    Finset.sum_ite_eq' Finset.univ (sh (16 - dist x) c) fun _ => amt x, if_pos (Finset.mem_univ _)]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (sh 15 c) fun _ => 1, Finset.sum_ite_eq' Finset.univ (sh 1 c) fun _ => 1, if_pos (Finset.mem_univ _), if_pos (Finset.mem_univ _)]

theorem creds_names (c : Dev nD) :
    iprop(cred (tallyOn (barC c) (launchCredit (Pipeline.owing O₀) 0 (barC c)))
      ∗ (bigSep Finset.univ fun x : X => (cred (tallyOn (sndC c x) (launchCredit (Pipeline.owing O₀) 0 (sndC c x))) : sProp 𝕄))
      ∗ bigSep Finset.univ fun x : X => (cred (tallyOn (rcvC c x) (launchCredit (Pipeline.owing O₀) 0 (rcvC c x))) : sProp 𝕄))
    ⊢ iprop(cred (tallyAt (barC c) () 2) ∗ bigSep Finset.univ fun x : X => (cred (tallyAt (rcvC c x) () (amt x)) : sProp 𝕄)) := by
  rw [launch_bar, bigSep_congr (s := Finset.univ) fun (x : X) _ => congrArg (fun t => (cred t : sProp 𝕄)) (launch_rcv c x)]
  iintro ⟨HB, -, HR⟩
  isplitl [HB]; · iexact HB
  iexact HR

/-- What the device may wait for: the neighbours' words and every landing. -/
theorem creds (c : Dev nD) :
    (Pipeline.launchCred O₀ c : sProp 𝕄) ⊢ iprop(cred (tallyAt (barC c) () 2) ∗ bigSep Finset.univ fun x : X => (cred (tallyAt (rcvC c x) () (amt x)) : sProp 𝕄)) := by
  classical
  unfold Pipeline.launchCred
  refine (bigSep_subset (Finset.subset_univ (Finset.univ.map ⟨csem, csem_inj⟩ : Finset (SemLoc sig)))).trans ?_
  rw [bigSep_map, split_K]
  exact creds_names c

/-! ## The pipeline's data: one point, no windows -/

/-- Of a device before its body, what the launch hands over, -/
def handed (c : Dev nD) : sProp 𝕄 :=
  iprop(G' m c ∗ levAts L lv ∗ (cred (tallyAt (barC c) () 2) ∗ bigSep Finset.univ fun x : X => (cred (tallyAt (rcvC c x) () (amt x)) : sProp 𝕄))
    ∗ argX m c ∗ argW m c ∗ ∃ g, ((c : Thread nD τ).loc main_v1) ↦{fullShare} (g : Vec F S4096x512 .bf16))

/-- and its own buffers. -/
def scratch (c : Dev nD) : sProp 𝕄 :=
  iprop((∃ f, rows (F := F) false c Finset.univ fullShare f) ∗ (∃ f, rows (F := F) true c Finset.univ fullShare f)
    ∗ (∃ f, peaks (F := F) c Finset.univ fullShare f) ∗ (∃ f, wq (F := F) c f)
    ∗ (∃ f, ((c : Thread nD τ).loc cc0_scratch10) ↦{fullShare} (f : Vec F S4096x512 .bf16)) ∗ (∃ f, xb (F := F) c f) ∗ (∃ f, ys (F := F) c f))

/-- After its body. -/
def after (c : Dev nD) : sProp 𝕄 :=
  iprop((semVal (barC c) 0 ∗ argX m c ∗ argW m c ∗ ((c : Thread nD τ).loc main_v1) ↦{fullShare} OB m c)
    ∗ (((bigSep Finset.univ fun x : X => (semVal (sndC c x) 0 : sProp 𝕄)) ∗ bigSep Finset.univ fun x : X => (semVal (rcvC c x) 0 : sProp 𝕄)) ∗ spare c)
    ∗ scratch c)

/-- The data. -/
def dats (_ : Fin 1) (c : Dev nD) : Dat τ (Elt F) Unit ℕ UU ℕ cfg0 c where
  A w := w.elim0
  after w := w.elim0
  Φ t := match t with
    | ⟨0, _⟩ => iprop(handed m c ∗ scratch c)
    | ⟨_ + 1, _⟩ => after m c
  q _ := fullShare
  owed t := match t with
    | ⟨0, _⟩ => O₀ c
    | ⟨_ + 1, _⟩ => 0

theorem no_windows (Φ : Fin cfg0.W → sProp 𝕄) : bigSep Finset.univ Φ = BI.emp := by
  rw [show (Finset.univ : Finset (Fin cfg0.W)) = ∅ from rfl, bigSep_empty]

theorem scratch_eq (c : Dev nD) : (Pipeline.scopedRest (Ix := Unit) (Name := ℕ) (U := UU) (Lvl := ℕ) (Val := Elt F) cfg0.spec c : sProp 𝕄) = scratch c := by
  rw [scopedRest0_eq]; rfl

theorem body_pre (c : Dev nD) : iprop((handed m c ∗ scratch c) ∗ ∃ W, owes (c : Thread nD τ) (O₀ c) W)
    ⊢ iprop(∃ κ : Dev nD × K → ℕ, Open m κ c ∗ Bare m c ∗ Rest (F := F) c) := by
  unfold handed G' mine scratch spare Open Bare Rest barT gotB
  iintro ⟨⟨⟨⟨%κ, HR, ⟨H1, H2, HaB⟩, HT, HaR, HO, HiX, HiW⟩, HL, ⟨HcB, HcR⟩, HX, HW, HV⟩, Hr0, Hr1, Hp, Hw, Hob, Hxb, Hys⟩, Ho⟩
  iexists κ
  rw [bigSep_sep']
  isplitl [HR H1 H2 HaB HT HaR HL HcB HcR Ho]
  · isplitl [HR]; · iexact HR
    isplitl [HL]; · iexact HL
    isplitl [Ho]; · iexact Ho
    isplitl [H1 H2 HaB HcB]
    · isplitl [H1]; · iexact H1
      isplitl [H2]; · iexact H2
      isplitl [HaB]; · iexact HaB
      iexact HcB
    isplitl [HT]; · iexact HT
    isplitl [HcR]; · iexact HcR
    iexact HaR
  isplitl [HX HW Hxb Hys HiX HiW Hr0 Hr1]
  · isplitl [HX]; · iexact HX
    isplitl [Hxb]; · iexact Hxb
    isplitl [HiX]; · iexact HiX
    isplitl [HW]; · iexact HW
    isplitl [Hys]; · iexact Hys
    isplitl [HiW]; · iexact HiW
    isplitl [Hr0]; · iexact Hr0
    iexact Hr1
  isplitl [Hw]; · iexact Hw
  isplitl [Hp]; · iexact Hp
  isplitl [Hob]; · iexact Hob
  isplitl [HV]; · iexact HV
  iexact HO

theorem body_post (c : Dev nD) : Ended m c ⊢ iprop(after m c ∗ ∃ W, owes (c : Thread nD τ) (0 : CellTallies nD τ sig Unit) W) := by
  unfold Ended after scratch spare
  iintro ⟨HO, HB, ⟨HX, HW, HV⟩, ⟨Hs, Hr, Ho, HiX, HiW⟩, Hr0, Hr1, Hp, Hw, Hob, Hxb, Hys⟩
  isplitr [HO]
  · isplitl [HB HX HW HV]
    · isplitl [HB]; · iexact HB
      isplitl [HX]; · iexact HX
      isplitl [HW]; · iexact HW
      iexact HV
    isplitl [Hs Hr Ho HiX HiW]
    · isplitl [Hs Hr]
      · isplitl [Hs]; · iexact Hs
        iexact Hr
      isplitl [Ho]; · iexact Ho
      isplitl [HiX]; · iexact HiX
      iexact HiW
    isplitl [Hr0]; · iexact Hr0
    isplitl [Hr1]; · iexact Hr1
    isplitl [Hp]; · iexact Hp
    isplitl [Hw]; · iexact Hw
    isplitl [Hob]; · iexact Hob
    isplitl [Hxb]; · iexact Hxb
    iexact Hys
  iexact HO

theorem owes_in (c : Dev nD) : (dats m 0 c).owesAt () t0_0.castSucc ⊢ (iprop(∃ W, owes (c : Thread nD τ) (O₀ c) W) : sProp 𝕄) := by
  unfold Dat.owesAt Pipeline.owesWithin
  iintro ⟨%W, -, H⟩
  iexists W
  iexact H

theorem owes_out (c : Dev nD) : (iprop(∃ W, owes (c : Thread nD τ) (0 : CellTallies nD τ sig Unit) W) : sProp 𝕄) ⊢ (dats m 0 c).owesAt () t0_0.succ := by
  unfold Dat.owesAt Pipeline.owesWithin
  iintro ⟨%W, H⟩
  iexists W
  isplitr; · ipureintro; exact fun _ _ => Or.inl trivial
  iexact H

/-- The library's body obligation. -/
theorem body_obligation (c : Dev nD) : BodyObligation (dats (F := F) m 0 c) (defs₀ (F := F)) 𝒱₀ () Set.univ := fun t => by
  rw [fin_N0 t, no_windows, no_windows]
  show iprop((handed m c ∗ scratch c) ∗ (dats m 0 c).owesAt () t0_0.castSucc ∗ BI.emp)
    ⊢ wp frame (wpE (defs₀ (F := F)) 𝒱₀ (c : Thread nD τ) none) Set.univ (onBufs (cc0_body (F := F)))
      (fun _ => iprop(after m c ∗ (dats m 0 c).owesAt () t0_0.succ ∗ BI.emp))
  iintro ⟨HΦ, HO, -⟩
  ihave HO := (owes_in m c) $$ HO
  ihave ⟨%κ, H⟩ := (body_pre m c) $$ [HΦ HO]
  · isplitl [HΦ]; · iexact HΦ
    iexact HO
  iapply (use_part (body m κ c)) $$ H
  iintro %r H
  ihave ⟨HA, HO⟩ := (body_post m c) $$ H
  isplitl [HA]; · iexact HA
  isplitl [HO]
  · iapply (owes_out m c) $$ HO
  iempintro

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(handed m c ∗ emp) := by
  rw [Pipeline.unscopedRestP_none, unscopedRest0_eq]
  unfold handed
  iintro ⟨⟨HX, HW, HV⟩, HL, Hcr, -, HG⟩
  ihave Hc := (creds (F := F) c) $$ Hcr
  imodintro
  isplitl
  · isplitl [HG]; · iexact HG
    isplitl [HL]; · iexact HL
    isplitl [Hc]; · iexact Hc
    isplitl [HX]; · unfold argX; iexact HX
    isplitl [HW]; · unfold argW; iexact HW
    iexists _; iexact HV
  · iempintro

theorem phi_in (c : Dev nD) :
    iprop(handed m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(handed m c ∗ scratch c) from rfl, scratch_eq]
  iintro ⟨Hs, -, Hr⟩
  isplitl [Hs]; · iexact Hs
  iexact Hr

/-- What a device shows at the end: its barrier, its operands and its result. -/
def shown (c : Dev nD) : sProp 𝕄 :=
  iprop(unscopedSems0 c ∗ argX m c ∗ argW m c ∗ ((c : Thread nD τ).loc main_v1) ↦{fullShare} OB m c)

theorem phi_out (c : Dev nD) :
    (dats m 0 c).Φ (Fin.last cfg0.N) ⊢ iprop(shown m c ∗ Pipeline.ownSems0 osem c ∗ Pipeline.scopedRest cfg0.spec c) := by
  rw [show (dats m 0 c).Φ (Fin.last cfg0.N) = after m c from rfl, scratch_eq, ownSems0_eq]
  unfold after shown
  rw [unscopedSems0_eq]

/-- Of a buffer held whole the memory says the same. -/
theorem read1 (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  icombine HSI Hi gives %h
  isplitr
  · ipureintro
    exact Buf.eq_of_forall_mem_univ h
  · iexact HSI

/-- What a device's memory shows at the end. -/
def Shows (c : Dev nD) (s : MemSt nD τ sig (Elt F)) : Prop :=
  (s.mem ((c : Thread nD τ).loc main_arg0) = xs m c ∧ s.mem ((c : Thread nD τ).loc main_arg1) = ws m c ∧ s.mem ((c : Thread nD τ).loc main_v1) = OB m c)
    ∧ ∀ sm : SemLoc sig, sm.isScoped .tc = false → s.sem ((c.tc : Thread nD τ), sm) = 0

theorem reads (c : Dev nD) (s' : Phys nD τ sig (Elt F)) :
    iprop(shown m c ∗ emp ∗ SI s') ⊢ |={Set.univ}=> (iprop(⌜Shows m c s'.mem⌝ ∗ SI s') : sProp 𝕄) := by
  unfold shown argX argW
  iintro ⟨⟨Hu, HX, HW, HV⟩, -, HSI⟩
  ihave ⟨%hX, HSI⟩ := (read1 _ _ s') $$ [HX HSI]
  · isplitl [HX]; · iexact HX
    iexact HSI
  ihave ⟨%hW, HSI⟩ := (read1 _ _ s') $$ [HW HSI]
  · isplitl [HW]; · iexact HW
    iexact HSI
  ihave ⟨%hV, HSI⟩ := (read1 _ _ s') $$ [HV HSI]
  · isplitl [HV]; · iexact HV
    iexact HSI
  imod (Pipeline.unscopedSems0_read (X := unscopedSems0 c) (c := c) fupd_intro s') $$ [Hu HSI] with ⟨%hu, HSI⟩
  · isplitl [Hu]; · iexact Hu
    iexact HSI
  imodintro
  isplitr; · ipureintro; exact ⟨⟨hX, hW, hV⟩, hu⟩
  iexact HSI

theorem L_of_ne : ∀ g : GSem nD τ sig, g.1.2 ≠ .tc → L g = ∅ := fun g h => if_neg h

theorem waits (c : Dev nD) : (levAts L lv : sProp 𝕄) ⊢ Pipeline.cellsWaits cfgs (dats m) () 0 c :=
  Pipeline.cellsWaits_intro cfgs (dats m) () 0 c fun w _ _ => w.elim0

set_option maxRecDepth 8000 in
/-- From any memory with all semaphores at zero every execution ends, with the operands as they were, each device's
    result at `OB` and every semaphore at zero. -/
theorem run_main : θ_run defs (onTc (τ := τ) (main (F := F))) (s₀ m ρ)
    (fun r => (∀ c : Dev nD, r.2.mem ((c : Thread nD τ).loc main_arg0) = xs m c ∧ r.2.mem ((c : Thread nD τ).loc main_arg1) = ws m c
      ∧ r.2.mem ((c : Thread nD τ).loc main_v1) = OB m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave ⟨HP, HX⟩ := (ownU_pair _ _) $$ Hu
      ihave ⟨HX, -⟩ := (own_pair_emb _ _ _) $$ HX
      imod (fund_ring m) $$ [HX] with HG
      · iexact HX
      imodintro
      isplitl [HP]; · iexact HP
      iexact HG)
    (hglob := glob m)
    (hA := fun _ w => w.elim0) (hpf := fun _ k => k.elim0)
    (X := handed m) (Y := shown m) (Z := fun _ => iprop(emp))
    (hX := start_intro m ρ) (hin := phi_in m) (hout := phi_out m)
    (QY := Shows m) (hY := reads m)
    (hQ := fun _ h hs => ⟨fun c => (h c).2.2.1, sem_eq_zero hs fun c => (h c).2.2.2⟩)

end Cert.Ring

end
-- ==== Proof.Ring.Quant.lean ====
/-
  The quantiser on one element, over the extended reals. The device multiplies by the reciprocal of the scale and
  clips to `[0, 127]`; the reference takes the positive part, divides by the scale and clips to `[-127, 127]`. Times the
  scale the two give the same number, for every element and every peak that is not negative: also a zero peak, where the
  scale is zero, and an infinite peak, where the reciprocal is zero.
-/
module

public import Idealize.ShloMosaic.PureOps.Ideal
public import Idealize.ShloMosaic.Lib.IdealHost

@[expose] public section

noncomputable section

namespace Cert.Ring

open Idealize.ShloMosaic

/-- The word of 127, -/
theorem word_127 : Ideal.ofBits .f32 0x42FE0000#32 = ((127 : ℝ) : EReal) := by
  simp [Ideal.ofBits, Ideal.ieee, -EReal.coe_mul]; norm_num
/-- of -127 -/
theorem word_neg127 : Ideal.ofBits .f32 0xC2FE0000#32 = ((-127 : ℝ) : EReal) := by
  simp [Ideal.ofBits, Ideal.ieee, -EReal.coe_mul, -EReal.coe_neg]; norm_num
/-- and of minus infinity. -/
theorem word_bot : Ideal.ofBits .f32 0xFF800000#32 = ⊥ := by
  simp [Ideal.ofBits, Ideal.ieee]

/-- Rounding to the nearest integer, ties to even. -/
abbrev rnd : EReal → EReal := Ideal.liftRound Ideal.roundHalfEven

theorem rnd_zero : rnd 0 = 0 := by
  rw [← EReal.coe_zero, rnd, Ideal.liftRound_coe, Ideal.roundHalfEven]; norm_num

/-- What is not positive is not rounded above zero, -/
theorem even_nonpos {r : ℝ} (h : r ≤ 0) : Ideal.roundHalfEven r ≤ 0 := by
  have hf : ⌊r⌋ ≤ 0 := by
    have : ((⌊r⌋ : ℤ) : ℝ) ≤ 0 := (Int.floor_le r).trans h
    exact_mod_cast this
  rcases eq_or_lt_of_le hf with e | e
  · have e0 : r = 0 := le_antisymm h (Int.floor_nonneg.1 e.ge)
    subst e0; unfold Ideal.roundHalfEven; norm_num
  · unfold Ideal.roundHalfEven
    dsimp only
    split_ifs <;> omega

/-- and what is not negative is not rounded below zero. -/
theorem even_nonneg {r : ℝ} (h : 0 ≤ r) : 0 ≤ Ideal.roundHalfEven r := by
  have hf : 0 ≤ ⌊r⌋ := Int.floor_nonneg.2 h
  unfold Ideal.roundHalfEven
  dsimp only
  split_ifs <;> omega

/-- The quantised element as the device computes it from the product `y` and the peak `A`. -/
def devQ (A y : EReal) : EReal :=
  min ((127 : ℝ) : EReal) (max 0 (rnd (y * Ideal.div ((127 : ℝ) : EReal) A))) * Ideal.div A ((127 : ℝ) : EReal)

/-- The quantised element as the reference computes it. -/
def refQ (A y : EReal) : EReal :=
  min ((127 : ℝ) : EReal) (max ((-127 : ℝ) : EReal) (rnd (Ideal.div (max y 0) (Ideal.div A ((127 : ℝ) : EReal)))))
    * Ideal.div A ((127 : ℝ) : EReal)

theorem div_127 (A : EReal) : Ideal.div A ((127 : ℝ) : EReal) = A * ((127 : ℝ) : EReal)⁻¹ := by
  unfold Ideal.div
  rw [if_neg (by exact_mod_cast (by norm_num : (127 : ℝ) ≠ 0))]

/-- A clip of zero is zero, in both. -/
theorem clip_zero : min ((127 : ℝ) : EReal) (max 0 0) = 0 := by
  rw [max_self, min_eq_right]; exact_mod_cast (by norm_num : (0 : ℝ) ≤ 127)
theorem clip_zero' : min ((127 : ℝ) : EReal) (max ((-127 : ℝ) : EReal) 0) = 0 := by
  rw [max_eq_right, min_eq_right]
  · exact_mod_cast (by norm_num : (0 : ℝ) ≤ 127)
  · exact_mod_cast (by norm_num : (-127 : ℝ) ≤ 0)

/-- At a zero peak both are zero. -/
theorem quant_zero (y : EReal) : devQ 0 y = refQ 0 y := by
  unfold devQ refQ
  rw [div_127, zero_mul, mul_zero, mul_zero]

/-- At an infinite peak both are zero. -/
theorem quant_top (y : EReal) : devQ ⊤ y = refQ ⊤ y := by
  have e1 : Ideal.div ⊤ ((127 : ℝ) : EReal) = ⊤ := by
    rw [div_127, ← EReal.coe_inv]
    exact EReal.top_mul_coe_of_pos (by norm_num)
  have e2 (x : EReal) : Ideal.div x ⊤ = 0 := by
    unfold Ideal.div
    rw [if_neg (by simp), EReal.inv_top, mul_zero]
  unfold devQ refQ
  rw [e1, e2, e2, mul_zero, rnd_zero, clip_zero, clip_zero']

/-- At a positive real peak the arguments of the rounding agree where the element is positive, and elsewhere both are zero. -/
theorem quant_real (a : ℝ) (ha : 0 < a) (y : EReal) (hy : y ≠ ⊤) : devQ a y = refQ a y := by
  have e1 : Ideal.div (a : EReal) ((127 : ℝ) : EReal) = ((a * 127⁻¹ : ℝ) : EReal) := by
    rw [div_127, ← EReal.coe_inv, ← EReal.coe_mul]
  have e2 : Ideal.div ((127 : ℝ) : EReal) (a : EReal) = ((127 * a⁻¹ : ℝ) : EReal) := by
    unfold Ideal.div
    rw [if_neg (by exact_mod_cast ha.ne'), ← EReal.coe_inv, ← EReal.coe_mul]
  have e3 (x : EReal) : Ideal.div x ((a * 127⁻¹ : ℝ) : EReal) = x * ((127 * a⁻¹ : ℝ) : EReal) := by
    unfold Ideal.div
    rw [if_neg (by exact_mod_cast (by positivity : a * 127⁻¹ ≠ 0)), ← EReal.coe_inv, mul_inv, inv_inv, mul_comm a⁻¹]
  have hp : (0 : ℝ) < 127 * a⁻¹ := by positivity
  unfold devQ refQ
  rw [e1, e2, e3]
  congr 1
  induction y with
  | bot =>
    rw [EReal.bot_mul_coe_of_pos hp, max_eq_right bot_le, zero_mul, rnd_zero, clip_zero', rnd, Ideal.liftRound_bot,
      max_eq_left bot_le, min_eq_right]
    exact_mod_cast (by norm_num : (0 : ℝ) ≤ 127)
  | top => exact absurd rfl hy
  | coe r =>
    rcases le_total r 0 with h | h
    · rw [max_eq_right (by exact_mod_cast h : (r : EReal) ≤ 0), zero_mul, rnd_zero, clip_zero', ← EReal.coe_mul, rnd,
        Ideal.liftRound_coe, max_eq_left, min_eq_right]
      · exact_mod_cast (by norm_num : (0 : ℝ) ≤ 127)
      · exact_mod_cast even_nonpos (mul_nonpos_of_nonpos_of_nonneg h hp.le)
    · rw [max_eq_left (by exact_mod_cast h : (0 : EReal) ≤ r), ← EReal.coe_mul, rnd, Ideal.liftRound_coe]
      have h0 : (0 : ℝ) ≤ (Ideal.roundHalfEven (r * (127 * a⁻¹)) : ℝ) := by
        exact_mod_cast even_nonneg (mul_nonneg h hp.le)
      rw [max_eq_right (by exact_mod_cast h0), max_eq_right]
      exact_mod_cast (by linarith : (-127 : ℝ) ≤ (Ideal.roundHalfEven (r * (127 * a⁻¹)) : ℝ))

/-- **The two quantisers agree** on every element that is at most the peak. -/
theorem quant (A y : EReal) (hA : 0 ≤ A) (hy : y ≤ A) : devQ A y = refQ A y := by
  rcases eq_or_lt_of_le hA with e | h
  · rw [← e]; exact quant_zero y
  · induction A with
    | bot => exact absurd h (by simp)
    | top => exact quant_top y
    | coe a => exact quant_real a (by exact_mod_cast h) y (fun e => by rw [e] at hy; exact absurd hy (by simp))

end Cert.Ring

end
-- ==== Proof.Ring.Maxima.lean ====
/-
  The values of the pieces a device computes with, over the extended reals: the products as sums over the inner axis, and
  the maxima of the products by what bounds them.
-/
module

public import proofs.«01_k».proof.Proof.Ring.Protocol
public import proofs.«01_k».proof.Proof.Ring.Quant
public import Idealize.ShloMosaic.Lib.MatmulPlain
public import Idealize.ShloMosaic.Lib.Pipeline.Value

@[expose] public section

noncomputable section

namespace Cert.Ring

open Cert.KernelIdeal Cert.KernelIdeal.Gen
open Idealize.ShloMosaic Idealize.ShloMosaic.TcCoe Idealize.ShloMosaic.ValueIdx

/-! ## A maximum over all of an array -/

/-- A maximum from minus infinity into one cell is bounded by what bounds every element. -/
theorem reduce_le {s t : Shape} {axes : List (Fin s.rank)} (v : FVec Ideal s .f32) (h : s.Reduces axes t)
    (ht : ∀ b, t.size b = 1) (hφ : FKind.Formats .f32) (hacc : (0xFF800000#32 : BitVec FTy.f32.bits) = FKind.maximumf.neutral .f32 hφ)
    (j : t.Idx) (b : EReal) :
    (multiReduction .maximumf axes t v 0xFF800000#32 h hφ hacc j : EReal) ≤ b ↔ ∀ i, (v i : EReal) ≤ b := by
  rw [multiReduction_maximumf_eq_fold]
  have key := Finset.fold_max_le (s := Finset.univ.filter fun i => h.drop i = j) (f := fun i => (v i : EReal))
    (b := Ideal.ofBits .f32 0xFF800000#32) (c := b)
  refine key.trans ?_
  rw [word_bot]
  constructor
  · intro hh i
    refine hh.2 i (Finset.mem_filter.2 ⟨Finset.mem_univ _, funext fun a => Fin.ext ?_⟩)
    have h1 := (h.drop i a).isLt; have h2 := (j a).isLt; have h3 := ht a; omega
  · exact fun hh => ⟨bot_le, fun i _ => hh i⟩

/-- A recast array is bounded by what bounds the array. -/
theorem cast_le {s t : Shape} (v : s.Idx → EReal) (h : s.ShapeCasts t) (b : EReal) :
    (∀ i, shapeCast t v h i ≤ b) ↔ ∀ j, v j ≤ b :=
  (Shape.reshapeEquiv h).forall_congr_left.trans (by
    constructor
    · intro hh j; have := hh j; unfold shapeCast at this; rwa [Equiv.apply_symm_apply] at this
    · intro hh j; exact hh _)

/-! ## The products -/

variable (v : Vec Ideal S1x128x4096 .bf16) (w : Vec Ideal S4096x512 .bf16)

/-- A half's rows by the weights, -/
theorem pay3_apply (r : Fin 128) (j : Fin 512) :
    k0_pay3 v w (ix2 r j) = ∑ k : Fin 4096, (v (ix3 0 r k) : EReal) * w (ix2 k j) := by
  have e : k0_pay3 v w (ix2 r j) = FloatOps.matmul (φ₁ := .bf16) (φ₂ := .bf16) (DotDims.plain 128 4096 512) none
      (shapeCast (α := Ideal .bf16) S128x4096 v shapeCasts_S1x128x4096_S128x4096) w (constant S128x512 .f32 0x00000000#32) (ix2 r j) := by
    show shapeCast S128x512 (k0_pay2 v w) shapeCasts_S128x512_S128x512 (ix2 r j) = _
    rw [shapeCast_self]; rfl
  rw [e, Ideal.matmul_plain_apply]
  refine (congrArg (· + _) Ideal.ofBits_zero_f32).trans ((zero_add _).trans (Finset.sum_congr rfl fun k _ => ?_))
  refine congrArg (· * _) ?_
  exact (shapeCast_dropUnit_apply ![128, 4096] v _ (ix2 r k)).trans (congrArg v (funext fun a =>
    match a with
    | ⟨0, _⟩ => rfl
    | ⟨1, _⟩ => rfl
    | ⟨2, _⟩ => rfl))

theorem pay5_eq : k0_pay5 v w = k0_pay3 v w := rfl

/-- The one element of a one-element array, read through a recast, -/
theorem one3 (u : FVec Ideal S1 .f32) :
    ∃ k, extractAt ![0, 0, 0] (shapeCast S1x1x1 u shapeCasts_S1_S1x1x1) inpos_S1x1x1_p0_0_0 = u k := ⟨_, rfl⟩
/-- and through a longer one. -/
theorem one4 (u : FVec Ideal S1 .f32) :
    ∃ k, extractAt ![0, 0, 0, 0] (shapeCast S1x1x1x1 u shapeCasts_S1_S1x1x1x1) inpos_S1x1x1x1_p0_0_0_0 = u k := ⟨_, rfl⟩

/-- The maximum over one half's products, in the one-element array a device takes it from. -/
def halfmax (u : FVec Ideal S128x512 .f32) : FVec Ideal S1x1x1 .f32 :=
  shapeCast S1x1x1 (multiReduction .maximumf [1, 2] S1 (shapeCast S1x128x512 u shapeCasts_S128x512_S1x128x512) 0xFF800000#32
    reduces_S1x128x512_S1 (.inl rfl) rfl) shapeCasts_S1_S1x1x1

/-- It is bounded by what bounds the products. -/
theorem halfmax_le (u : FVec Ideal S128x512 .f32) (b : EReal) :
    (extractAt ![0, 0, 0] (halfmax u) inpos_S1x1x1_p0_0_0 : EReal) ≤ b
      ↔ ∀ (r : Fin 128) (j : Fin 512), (u (ix2 r j) : EReal) ≤ b := by
  unfold halfmax
  obtain ⟨k, e⟩ := one3 (multiReduction .maximumf [1, 2] S1 (shapeCast S1x128x512 u shapeCasts_S128x512_S1x128x512) 0xFF800000#32
    reduces_S1x128x512_S1 (.inl rfl) rfl)
  rw [e]
  refine (reduce_le _ _ (by decide) _ _ k b).trans ((cast_le u _ b).trans ?_)
  constructor
  · exact fun h r j => h (ix2 r j)
  · intro h j
    have := h (j 0) (j 1)
    rwa [show (ix2 (j 0) (j 1) : S128x512.Idx) = j from funext fun a =>
      match a with
      | ⟨0, _⟩ => rfl
      | ⟨1, _⟩ => rfl] at this

theorem pay2_eq : k0_pay2 v w = k0_pay3 v w := by
  show _ = shapeCast S128x512 (k0_pay2 v w) shapeCasts_S128x512_S128x512
  rw [shapeCast_self]

theorem pay6_eq : k0_pay6 v w = extractAt ![0, 0, 0] (halfmax (k0_pay3 v w)) inpos_S1x1x1_p0_0_0 := by
  rw [← pay2_eq]; rfl
theorem pay7_eq : k0_pay7 v w = halfmax (k0_pay3 v w) := by
  rw [← pay2_eq]; rfl

variable (v' : Vec Ideal S1x128x4096 .bf16)

theorem pay20_eq : k0_pay20 (k0_pay15 v) w v' w = Scalar.maximumf (k0_pay6 v w) (k0_pay6 v' w) := rfl
theorem pay21_eq (a : Ideal .f32) (u : Ideal .f32) (z : FVec Ideal S1x1x1 .f32) :
    k0_pay21 a u z = Scalar.maximumf a (Scalar.maximumf u (extractAt ![0, 0, 0] z inpos_S1x1x1_p0_0_0)) := rfl

/-- The first maximum is over both halves, -/
theorem pay20_le (b : EReal) :
    (k0_pay20 (k0_pay15 v) w v' w : EReal) ≤ b
      ↔ (∀ (r : Fin 128) (j : Fin 512), (k0_pay3 v w (ix2 r j) : EReal) ≤ b)
        ∧ ∀ (r : Fin 128) (j : Fin 512), (k0_pay3 v' w (ix2 r j) : EReal) ≤ b := by
  rw [pay20_eq, pay6_eq, pay6_eq, Ideal.scalar_maximumf_def, max_le_iff, halfmax_le, halfmax_le]

/-- and each later one adds two halves to the one before. -/
theorem pay21_le (a b : EReal) :
    (k0_pay21 (F := Ideal) a (k0_pay6 v w) (k0_pay7 v' w) : EReal) ≤ b
      ↔ a ≤ b ∧ (∀ (r : Fin 128) (j : Fin 512), (k0_pay3 v w (ix2 r j) : EReal) ≤ b)
        ∧ ∀ (r : Fin 128) (j : Fin 512), (k0_pay3 v' w (ix2 r j) : EReal) ≤ b := by
  rw [pay21_eq, pay6_eq, pay7_eq, Ideal.scalar_maximumf_def, Ideal.scalar_maximumf_def, max_le_iff, max_le_iff, halfmax_le,
    halfmax_le]

/-! ## The contents -/

variable (m : (ℓ : Loc nD τ sig) → Buf (Elt Ideal) ℓ)

/-- The weights in bf16 are the weights, -/
theorem wbf_apply (c : Dev nD) (k : Fin 4096) (j : Fin 512) : (wbf m c (ix2 k j) : EReal) = ws m c (ix2 k j) := by
  have e (u : Vec Ideal S1024x512 .f32) (i : S1024x512.Idx) : (k0_pay11 u i : EReal) = u i := by
    show shapeCast S1024x512 (α := EReal) u shapeCasts_S1024x512_S1024x512 i = u i
    rw [shapeCast_self]
  refine (e _ _).trans (congrArg (ws m c) (funext fun a => ?_))
  match a with
  | ⟨0, _⟩ => exact Fin.ext (Nat.div_add_mod k.val 1024)
  | ⟨1, _⟩ => rfl

/-- the first half of the rows -/
theorem loB_apply (c : Dev nD) (r : Fin 128) (k : Fin 4096) :
    (loB m c (ix3 0 r k) : EReal) = xs m c (ix2 ⟨r.val, by omega⟩ k) :=
  (shapeCast_addUnit_apply ![128, 4096] (α := EReal) (lo m c) shapeCasts_S128x4096_S1x128x4096 (ix3 0 r k)).trans rfl

/-- and the second half are the rows. -/
theorem hiB_apply (c : Dev nD) (r : Fin 128) (k : Fin 4096) :
    (hiB m c (ix3 0 r k) : EReal) = xs m c (ix2 ⟨128 + r.val, by omega⟩ k) :=
  (shapeCast_addUnit_apply ![128, 4096] (α := EReal) (hi m c) shapeCasts_S128x4096_S1x128x4096 (ix3 0 r k)).trans rfl

/-- The product of row `r` of device `o` and column `j` of device `c`. -/
def dp (o c : Dev nD) (r : Fin 256) (j : Fin 512) : EReal :=
  ∑ k : Fin 4096, (xs m o (ix2 r k) : EReal) * ws m c (ix2 k j)

theorem pay3_lo (o c : Dev nD) (r : Fin 128) (j : Fin 512) :
    (k0_pay3 (loB m o) (wbf m c) (ix2 r j) : EReal) = dp m o c ⟨r.val, by omega⟩ j := by
  rw [pay3_apply]
  exact Finset.sum_congr rfl fun k _ => by rw [loB_apply, wbf_apply]

theorem pay3_hi (o c : Dev nD) (r : Fin 128) (j : Fin 512) :
    (k0_pay3 (hiB m o) (wbf m c) (ix2 r j) : EReal) = dp m o c ⟨128 + r.val, by omega⟩ j := by
  rw [pay3_apply]
  exact Finset.sum_congr rfl fun k _ => by rw [hiB_apply, wbf_apply]

/-- The products of a device: 256 rows of each device. -/
theorem YB_apply (c o : Dev nD) (r : Fin 256) (j : Fin 512) :
    (YB m c (ix2 ⟨256 * o.val + r.val, by have := o.isLt; have : o.val < 16 := o.isLt; omega⟩ j) : EReal) = dp m o c r j := by
  have ho : o.val < 16 := o.isLt
  unfold YB
  have e : (⟨(256 * o.val + r.val) / 256, by show _ < 16; omega⟩ : Dev nD) = o := Fin.ext (by show _ / 256 = _; omega)
  by_cases h : r.val < 128
  · rw [if_pos (show (256 * o.val + r.val) % 256 < 128 by omega)]
    refine (congrArg (fun q => (k0_pay3 (loB m q) (wbf m c) _ : EReal)) e).trans ((pay3_lo m o c _ _).trans ?_)
    exact congrArg (fun q => dp m o c q j) (Fin.ext (by show (256 * o.val + r.val) % 128 = _; omega))
  · rw [if_neg (show ¬ (256 * o.val + r.val) % 256 < 128 by omega)]
    refine (congrArg (fun q => (k0_pay3 (hiB m q) (wbf m c) _ : EReal)) e).trans ((pay3_hi m o c _ _).trans ?_)
    exact congrArg (fun q => dp m o c q j) (Fin.ext (by show 128 + (256 * o.val + r.val) % 128 = _; omega))

/-- The running maximum is bounded by what bounds the products of the halves seen so far. -/
theorem accs_le (c : Dev nD) (b : EReal) (n : ℕ) :
    (accs m c n : EReal) ≤ b ↔ ∀ t ≤ n,
      (∀ (r : Fin 128) (j : Fin 512), dp m (orig false t c) c ⟨r.val, by omega⟩ j ≤ b)
        ∧ ∀ (r : Fin 128) (j : Fin 512), dp m (orig true t c) c ⟨128 + r.val, by omega⟩ j ≤ b := by
  induction n with
  | zero =>
    refine (pay20_le (loB m c) (wbf m c) (hiB m c) b).trans ?_
    have e1 : orig false 0 c = c := sh_sixteen (by decide) c
    have e2 : orig true 0 c = c := sh_sixteen (by decide) c
    simp only [pay3_lo, pay3_hi]
    constructor
    · intro h t ht
      obtain rfl : t = 0 := by omega
      rw [e1, e2]; exact h
    · intro h
      have := h 0 (le_refl 0)
      rwa [e1, e2] at this
  | succ n ih =>
    refine (pay21_le _ (wbf m c) _ (accs m c n) b).trans ?_
    rw [ih]
    simp only [pay3_lo, pay3_hi]
    constructor
    · rintro ⟨h1, h2⟩ t ht
      rcases Nat.lt_or_ge t (n + 1) with h | h
      · exact h1 t (by omega)
      · obtain rfl : t = n + 1 := by omega
        exact h2
    · exact fun h => ⟨fun t ht => h t (by omega), h (n + 1) (le_refl _)⟩

/-- After fifteen hops that is every product of the device's columns. -/
theorem accs_all (c : Dev nD) (b : EReal) :
    (accs m c 15 : EReal) ≤ b ↔ ∀ (o : Dev nD) (r : Fin 256) (j : Fin 512), dp m o c r j ≤ b := by
  rw [accs_le]
  constructor
  · intro h o r j
    have ho : o.val < 16 := o.isLt
    have hc : c.val < 16 := c.isLt
    by_cases hr : r.val < 128
    · have := (h ((16 + c.val - o.val) % 16) (by omega)).1 ⟨r.val, hr⟩ j
      rwa [show orig false ((16 + c.val - o.val) % 16) c = o from Fin.ext (by
        show (c.val + (16 - (16 + c.val - o.val) % 16)) % 16 = o.val; omega)] at this
    · have := (h ((16 + o.val - c.val) % 16) (by omega)).2 ⟨r.val - 128, by omega⟩ j
      rwa [show orig true ((16 + o.val - c.val) % 16) c = o from Fin.ext (by
          show (c.val + (16 + o.val - c.val) % 16) % 16 = o.val; omega),
        show (⟨128 + (r.val - 128), by omega⟩ : Fin 256) = r from Fin.ext (by show 128 + _ = _; omega)] at this
  · exact fun h t _ => ⟨fun r j => h _ _ _, fun r j => h _ _ _⟩

/-- The greatest entry of a table, as a device takes it. -/
def tabMax (T : FVec Ideal S16x8x128 .f32) : Ideal .f32 :=
  extractAt ![0, 0, 0, 0] (shapeCast S1x1x1x1 (multiReduction (F := Ideal) .maximumf [1, 2, 3] S1
    (shapeCast S1x16x8x128 T shapeCasts_S16x8x128_S1x16x8x128) 0xFF800000#32 reduces_S1x16x8x128_S1 (.inl rfl) rfl)
    shapeCasts_S1_S1x1x1x1) inpos_S1x1x1x1_p0_0_0_0

/-- It is bounded by what bounds the entries. -/
theorem tabMax_le (T : FVec Ideal S16x8x128 .f32) (b : EReal) : (tabMax T : EReal) ≤ b ↔ ∀ i, (T i : EReal) ≤ b := by
  unfold tabMax
  obtain ⟨k, e⟩ := one4 (multiReduction (F := Ideal) .maximumf [1, 2, 3] S1
    (shapeCast S1x16x8x128 T shapeCasts_S16x8x128_S1x16x8x128) 0xFF800000#32 reduces_S1x16x8x128_S1 (.inl rfl) rfl)
  rw [e]
  exact (reduce_le _ _ (by decide) _ _ k b).trans (cast_le T _ b)

/-- The quantiser of a device on 256 rows, as operations on them, -/
theorem pay1_eq (T : FVec Ideal S16x8x128 .f32) (u : FVec Ideal S256x512 .f32) :
    k0_pay1 T u = shapeCast S256x512 (truncf .bf16 (mulf (minimumf (broadcast S256x512 (Scalar.ofBits .f32 0x42FE0000#32))
      (maximumf (broadcast S256x512 (Scalar.ofBits .f32 0x00000000#32)) (roundeven (mulf u
        (broadcast S256x512 (Scalar.divf (Scalar.ofBits .f32 0x42FE0000#32) (tabMax T)))))))
      (broadcast S256x512 (Scalar.divf (tabMax T) (Scalar.ofBits .f32 0x42FE0000#32)))) bitsLt_bf16_f32)
      shapeCasts_S256x512_S256x512 := rfl

/-- and on one element. -/
theorem pay1_apply (T : FVec Ideal S16x8x128 .f32) (u : FVec Ideal S256x512 .f32) (i : S256x512.Idx) :
    (k0_pay1 (F := Ideal) T u i : EReal) = devQ (tabMax T) (u i) := by
  rw [pay1_eq, shapeCast_self]
  generalize tabMax T = A
  show min (Ideal.ofBits .f32 0x42FE0000#32) (max (Ideal.ofBits .f32 0x00000000#32)
    (rnd (u i * Ideal.div (Ideal.ofBits .f32 0x42FE0000#32) A))) * Ideal.div A (Ideal.ofBits .f32 0x42FE0000#32) = devQ A (u i)
  rw [word_127, Ideal.ofBits_zero_f32]
  rfl

/-- The peak over all devices, as a device takes it from its table. -/
def top (c : Dev nD) : EReal := tabMax (AB m c)

/-- Every element of a peak is the positive part of the maximum. -/
theorem pay22_apply (a : Ideal .f32) (i : S1x8x128.Idx) : k0_pay22 a i = Scalar.maximumf a (Scalar.ofBits .f32 0x00000000#32) := rfl

/-- An entry of the table is bounded by what bounds zero and the products of the device it comes from. -/
theorem AB_le (c : Dev nD) (i : S16x8x128.Idx) (b : EReal) :
    (AB m c i : EReal) ≤ b ↔ (accs m (sh (16 - (i 0).val) c) 15 : EReal) ≤ b ∧ 0 ≤ b := by
  unfold AB peak
  rw [pay22_apply, Ideal.scalar_maximumf_def, max_le_iff]
  exact and_congr Iff.rfl (iff_of_eq (congrArg (· ≤ b) Ideal.ofBits_zero_f32))

/-- The peak is bounded by what bounds zero and every product. -/
theorem top_le (c : Dev nD) (b : EReal) :
    top m c ≤ b ↔ 0 ≤ b ∧ ∀ (o d : Dev nD) (r : Fin 256) (j : Fin 512), dp m o d r j ≤ b := by
  refine (tabMax_le (AB m c) b).trans ?_
  constructor
  · intro h
    refine ⟨((AB_le m c _ b).1 (h (ix3 0 0 0))).2, fun o d => ?_⟩
    have hd : d.val < 16 := d.isLt
    have hc : c.val < 16 := c.isLt
    have := ((AB_le m c _ b).1 (h (ix3 ⟨(16 + c.val - d.val) % 16, by omega⟩ 0 0))).1
    rw [show sh (16 - ((ix3 ⟨(16 + c.val - d.val) % 16, by omega⟩ 0 0 : S16x8x128.Idx) 0).val) c = d from Fin.ext (by
      show (c.val + (16 - (16 + c.val - d.val) % 16)) % 16 = d.val; omega)] at this
    exact (accs_all m d b).1 this o
  · exact fun h i => (AB_le m c i b).2 ⟨(accs_all m _ b).2 fun o => h.2 o _, h.1⟩

/-- **A result of the device** is the quantised product. -/
theorem OB_apply (c o : Dev nD) (r : Fin 256) (j : Fin 512) :
    (OB m c (ix2 ⟨256 * o.val + r.val, by have : o.val < 16 := o.isLt; omega⟩ j) : EReal) = devQ (top m c) (dp m o c r j) := by
  have ho : o.val < 16 := o.isLt
  unfold OB
  rw [pay1_apply]
  refine congrArg (devQ (top m c)) ?_
  refine Eq.trans (congrArg (YB m c) (funext fun a => ?_)) (YB_apply m c o r j)
  match a with
  | ⟨0, _⟩ => exact Fin.ext (by
      show 256 * ((256 * o.val + r.val) / 256) + (256 * o.val + r.val) % 256 = 256 * o.val + r.val
      omega)
  | ⟨1, _⟩ => rfl

end Cert.Ring

end
-- ==== Proof.Ring.Value.lean ====
/-
  The reference over the extended reals, and the results of the devices as its blocks: the peak is the same, since both
  are bounded by what bounds zero and every product, and the quantisers agree on every element.
-/
module

public import proofs.«01_k».proof.Proof.Ring.Maxima
public import proofs.«01_k».proof.Proof.Gen.ReferenceIdeal
public import Idealize.ShloMosaic.Lib.StackMember
public import Idealize.ShloMosaic.Lib.Layout

@[expose] public section

noncomputable section

namespace Cert.Ring

open Idealize.ShloMosaic Idealize.ShloMosaic.TcCoe Idealize.ShloMosaic.ValueIdx

section Reference

open Cert.ReferenceIdeal Cert.ReferenceIdeal.Gen

/-- The host's maximum from minus infinity into one cell is bounded by what bounds every element. -/
theorem hostReduce_le {s t u : Shape} {axes : List (Fin s.rank)} (v : FVec Ideal s .f32) (h : s.ReducesTo axes t)
    (hu : 0 < u.numel) (ht : ∀ b, t.size b = 1) (j : t.Idx) (b : EReal) :
    (Host.reduce (α := EReal) (FloatOps.maximumf (F := Ideal) (φ := .f32)) v (constant (F := Ideal) u .f32 0xFF800000#32) h hu j : EReal) ≤ b ↔ ∀ i, (v i : EReal) ≤ b := by
  rw [Host.reduce_eq_fold]
  have key := Finset.fold_max_le (s := Finset.univ.filter fun i => h.drop i = j) (f := fun i => (v i : EReal))
    (b := Ideal.ofBits .f32 0xFF800000#32) (c := b)
  refine key.trans ?_
  rw [word_bot]
  constructor
  · intro hh i
    refine hh.2 i (Finset.mem_filter.2 ⟨Finset.mem_univ _, funext fun a => Fin.ext ?_⟩)
    have h1 := (h.drop i a).isLt; have h2 := (j a).isLt; have h3 := ht a; omega
  · exact fun hh => ⟨bot_le, fun i _ => hh i⟩

/-- The one index of a scalar. -/
def pt : S_.Idx := fun a => a.elim0

/-- The peak of the reference, from the products. -/
def refPeak (P : FVec Ideal S4096x8192 .f32) : FVec Ideal S_ .f32 :=
  Host.reduce FloatOps.maximumf (Host.absf (maximumf P (broadcastInDim S4096x8192 ![] bcast_S_S4096x8192
    (constant S_ .f32 0x00000000#32)))) (constant S_ .f32 0xFF800000#32) reducesTo_S4096x8192_S_d0_1 h_S_

/-- The magnitude of a positive part is the positive part. -/
theorem mag_le (y b : EReal) : max (max y 0) (-(max y 0)) ≤ b ↔ y ≤ b ∧ 0 ≤ b := by
  have h : (0 : EReal) ≤ max y 0 := le_max_right _ _
  rw [max_eq_left ((EReal.neg_le_zero.2 h).trans h), max_le_iff]

/-- It is bounded by what bounds zero and every product. -/
theorem refPeak_le (P : FVec Ideal S4096x8192 .f32) (b : EReal) :
    (refPeak P pt : EReal) ≤ b ↔ 0 ≤ b ∧ ∀ i, (P i : EReal) ≤ b := by
  unfold refPeak
  refine (hostReduce_le _ _ _ (fun a => a.elim0) pt b).trans ?_
  have e (i : S4096x8192.Idx) : (Host.absf (maximumf P (broadcastInDim S4096x8192 ![] bcast_S_S4096x8192
      (constant (F := Ideal) S_ .f32 0x00000000#32))) i : EReal) ≤ b ↔ (P i : EReal) ≤ b ∧ 0 ≤ b := by
    show max (max (P i) (Ideal.ofBits .f32 0x00000000#32)) (-(max (P i) (Ideal.ofBits .f32 0x00000000#32))) ≤ b ↔ _
    rw [Ideal.ofBits_zero_f32]
    exact mag_le _ _
  simp only [e]
  exact ⟨fun h => ⟨(h (ix2 0 0)).2, fun i => (h i).1⟩, fun h i => ⟨h.2 i, h.1⟩⟩

/-- The result of the reference from the products and the peak, -/
def refOut (P : FVec Ideal S4096x8192 .f32) (a : FVec Ideal S_ .f32) : FVec Ideal S4096x8192 .bf16 :=
  truncf .bf16 (mulf (minimumf (broadcastInDim S4096x8192 ![] bcast_S_S4096x8192 (id (constant S_ .f32 0x42FE0000#32)))
    (maximumf (broadcastInDim S4096x8192 ![] bcast_S_S4096x8192 (id (constant S_ .f32 0xC2FE0000#32))) (Host.roundeven
      (Host.divf (maximumf P (broadcastInDim S4096x8192 ![] bcast_S_S4096x8192 (constant S_ .f32 0x00000000#32)))
        (broadcastInDim S4096x8192 ![] bcast_S_S4096x8192 (Host.divf a (constant S_ .f32 0x42FE0000#32)))))))
    (broadcastInDim S4096x8192 ![] bcast_S_S4096x8192 (Host.divf a (constant S_ .f32 0x42FE0000#32)))) bitsLt_bf16_f32

/-- and on one element. -/
theorem refOut_apply (P : FVec Ideal S4096x8192 .f32) (a : FVec Ideal S_ .f32) (i : S4096x8192.Idx) :
    (refOut P a i : EReal) = refQ (a pt) (P i) := by
  have e (z : S_.Idx) : z = pt := funext fun q => q.elim0
  have eb (x : FVec Ideal S_ .f32) : broadcastInDim S4096x8192 ![] bcast_S_S4096x8192 x i = x pt := congrArg x (e _)
  unfold refOut
  show min (broadcastInDim S4096x8192 ![] bcast_S_S4096x8192 (constant (F := Ideal) S_ .f32 0x42FE0000#32) i : EReal)
    (max (broadcastInDim S4096x8192 ![] bcast_S_S4096x8192 (constant (F := Ideal) S_ .f32 0xC2FE0000#32) i : EReal)
      (rnd (Ideal.div (max (P i) (broadcastInDim S4096x8192 ![] bcast_S_S4096x8192 (constant (F := Ideal) S_ .f32 0x00000000#32) i : EReal))
        (broadcastInDim S4096x8192 ![] bcast_S_S4096x8192 (Host.divf a (constant (F := Ideal) S_ .f32 0x42FE0000#32)) i : EReal))))
    * (broadcastInDim S4096x8192 ![] bcast_S_S4096x8192 (Host.divf a (constant (F := Ideal) S_ .f32 0x42FE0000#32)) i : EReal) = _
  rw [eb, eb, eb, eb]
  show min (Ideal.ofBits .f32 0x42FE0000#32) (max (Ideal.ofBits .f32 0xC2FE0000#32)
    (rnd (Ideal.div (max (P i) (Ideal.ofBits .f32 0x00000000#32)) (Ideal.div (a pt) (Ideal.ofBits .f32 0x42FE0000#32)))))
    * Ideal.div (a pt) (Ideal.ofBits .f32 0x42FE0000#32) = _
  rw [word_127, word_neg127, Ideal.ofBits_zero_f32]
  rfl

variable (X : FVec Ideal S4096x4096 .f32) (W : FVec Ideal S4096x8192 .f32)

/-- The products of the reference, -/
def refProd : FVec Ideal S4096x8192 .f32 :=
  Host.dotGeneral dot_S4096x4096_S4096x8192_S4096x8192_1_0_0_1_n_n none (truncf .bf16 X bitsLt_bf16_f32)
    (truncf .bf16 W bitsLt_bf16_f32)

/-- each a sum over the inner axis. -/
theorem refProd_apply (r : Fin 4096) (j : Fin 8192) :
    (refProd X W (ix2 r j) : EReal) = ∑ k : Fin 4096, (X (ix2 r k) : EReal) * W (ix2 k j) :=
  StackMember.dotGeneral_plain_apply (m := 4096) (n := 8192) (k := 4096) (φ₁ := .bf16) (φ₂ := .bf16) none X W r j

end Reference

/-! ## The devices' results as blocks -/

section Blocks

set_option backward.proofsInPublic true

open Cert.KernelIdeal Cert.KernelIdeal.Gen

variable (m : (ℓ : Loc nD τ sig) → Buf (Elt Ideal) ℓ)
variable (X : FVec Ideal ⟨2, ![4096, 4096]⟩ .f32) (W : FVec Ideal ⟨2, ![4096, 8192]⟩ .f32)
variable (hx : ∀ c : Dev nD, xs m c = Layout.block ⟨2, ![256, 4096]⟩ ⟨2, ![4096, 4096]⟩ 0 16 c X)
variable (hw : ∀ c : Dev nD, ws m c = Layout.block ⟨2, ![4096, 512]⟩ ⟨2, ![4096, 8192]⟩ 1 16 c W)

include hx hw

/-- A product of a device is a product of the reference. -/
theorem dp_eq (o c : Dev nD) (r : Fin 256) (j : Fin 512) :
    dp m o c r j = refProd X W (ix2 ⟨o.val * 256 + r.val, by have : o.val < 16 := o.isLt; omega⟩
      ⟨c.val * 512 + j.val, by have : c.val < 16 := c.isLt; omega⟩) := by
  unfold dp
  rw [refProd_apply]
  refine Finset.sum_congr rfl fun k _ => ?_
  rw [hx, hw, Layout.block_apply, Layout.block_apply]
  refine congrArg₂ (· * ·) (congrArg X (funext fun a => ?_)) (congrArg W (funext fun a => ?_))
  · match a with
    | ⟨0, _⟩ => rfl
    | ⟨1, _⟩ => rfl
  · match a with
    | ⟨0, _⟩ => rfl
    | ⟨1, _⟩ => rfl

/-- Every product of the reference is bounded when every product of the devices is. -/
theorem prods_le (b : EReal) : (∀ i, (refProd X W i : EReal) ≤ b) ↔
    ∀ (o d : Dev nD) (r : Fin 256) (j : Fin 512), dp m o d r j ≤ b := by
  constructor
  · intro h o d r j
    rw [dp_eq m X W hx hw]; exact h _
  · intro h i
    have h0 := idx2_lt0 i
    have h1 := idx2_lt1 i
    have := h ⟨(i 0).val / 256, by show _ < 16; omega⟩ ⟨(i 1).val / 512, by show _ < 16; omega⟩
      ⟨(i 0).val % 256, Nat.mod_lt _ (by decide)⟩ ⟨(i 1).val % 512, Nat.mod_lt _ (by decide)⟩
    rw [dp_eq m X W hx hw] at this
    refine le_of_eq_of_le (congrArg (refProd X W) (funext fun a => ?_)) this
    match a with
    | ⟨0, _⟩ => exact Fin.ext (by show (i 0).val = (i 0).val / 256 * 256 + (i 0).val % 256; omega)
    | ⟨1, _⟩ => exact Fin.ext (by show (i 1).val = (i 1).val / 512 * 512 + (i 1).val % 512; omega)

/-- The devices' peak is the reference's. -/
theorem top_eq (c : Dev nD) : top m c = refPeak (refProd X W) pt :=
  eq_of_forall_ge_iff fun b => by
    rw [top_le, refPeak_le, prods_le m X W hx hw]

/-- **A device's result is its block of the reference's.** -/
theorem OB_eq (c : Dev nD) :
    OB m c = Layout.block ⟨2, ![4096, 512]⟩ ⟨2, ![4096, 8192]⟩ 1 16 c (refOut (refProd X W) (refPeak (refProd X W))) := by
  funext i
  have h0 := idx2_lt0 i
  have ei : i = ix2 ⟨256 * ((i 0).val / 256) + (i 0).val % 256, by omega⟩ ⟨(i 1).val, idx2_lt1 i⟩ := funext fun a => by
    match a with
    | ⟨0, _⟩ => exact Fin.ext (by show (i 0).val = 256 * ((i 0).val / 256) + (i 0).val % 256; omega)
    | ⟨1, _⟩ => rfl
  have key := OB_apply m c ⟨(i 0).val / 256, by show _ < 16; omega⟩ ⟨(i 0).val % 256, Nat.mod_lt _ (by decide)⟩
    ⟨(i 1).val, idx2_lt1 i⟩
  refine (congrArg (OB m c) ei).trans (key.trans ?_)
  have ht := (top_le m c (top m c)).1 le_rfl
  rw [quant _ _ ht.1 (ht.2 _ _ _ _), top_eq m X W hx hw, dp_eq m X W hx hw, Layout.block_apply, refOut_apply]
  refine congrArg (fun q => refQ (refPeak (refProd X W) pt) (refProd X W q)) (funext fun a => ?_)
  match a with
  | ⟨0, _⟩ => exact Fin.ext (by show (i 0).val / 256 * 256 + (i 0).val % 256 = (i 0).val; omega)
  | ⟨1, _⟩ => rfl

end Blocks

end Cert.Ring

end
-- ==== Proof.lean ====
/-
  The proof of `Cert.Claim`: the kernel's run on the sixteen devices (Proof/Ring), read at the machine's floats and at
  the ideal ones, and the reference's run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring.Launch
public import proofs.«01_k».proof.Proof.Ring.Value

@[expose] public section

noncomputable section

namespace Cert.Proof

open Idealize.ShloMosaic Idealize.SL.Sem

/-- At the machine's floats the kernel runs, keeps its operands and ends with every semaphore at zero: its text is the
    ideal program's. -/
theorem frame_kernel : Cert.quiescent_Kernel := fun m ρ _ =>
  (θ_run Cert.KernelIdeal.defs _ _).mono (fun _ h => ⟨fun c => ⟨(h.1 c).1, (h.1 c).2.1⟩, h.2⟩) (Cert.Ring.run_main (F := Bits) m ρ)

/-- The same at the ideal floats. -/
theorem frame_ideal : Cert.quiescent_KernelIdeal := fun m ρ _ =>
  (θ_run Cert.KernelIdeal.defs _ _).mono (fun _ h => ⟨fun c => ⟨(h.1 c).1, (h.1 c).2.1⟩, h.2⟩) (Cert.Ring.run_main (F := Ideal) m ρ)

/-- The reference is a straight line of host operations and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Value

variable (m' : (ℓ : Loc Cert.ReferenceIdeal.nD Cert.ReferenceIdeal.τ Cert.ReferenceIdeal.sig) → Buf (Elt Ideal) ℓ)

/-- The reference's two operands -/
def rows : FVec Ideal Cert.ReferenceIdeal.S4096x4096 .f32 :=
  m' (((0 : Dev Cert.ReferenceIdeal.nD).tc : Thread Cert.ReferenceIdeal.nD Cert.ReferenceIdeal.τ).loc Cert.ReferenceIdeal.main_arg0)
def cols : FVec Ideal Cert.ReferenceIdeal.S4096x8192 .f32 :=
  m' (((0 : Dev Cert.ReferenceIdeal.nD).tc : Thread Cert.ReferenceIdeal.nD Cert.ReferenceIdeal.τ).loc Cert.ReferenceIdeal.main_arg1)

/-- and its result. -/
def quantised : FVec Ideal Cert.ReferenceIdeal.S4096x8192 .bf16 :=
  Cert.Ring.refOut (Cert.Ring.refProd (rows m') (cols m')) (Cert.Ring.refPeak (Cert.Ring.refProd (rows m') (cols m')))

/-- The reference ends with that result and keeps its operands. -/
theorem reference_run (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r =>
        r.2.mem (((0 : Dev Cert.ReferenceIdeal.nD).tc : Thread Cert.ReferenceIdeal.nD Cert.ReferenceIdeal.τ).loc Cert.ReferenceIdeal.main_v14) = quantised m'
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1)
          = m' (((0 : Dev Cert.ReferenceIdeal.nD).tc : Thread Cert.ReferenceIdeal.nD Cert.ReferenceIdeal.τ).loc Cert.ReferenceIdeal.main_arg1)) :=
  (θ_run Cert.ReferenceIdeal.defs _ _).mono (fun _ h => ⟨(h 0).1, (h 0).2⟩) (Cert.ReferenceIdeal.Value.run (F := Ideal) m' g')

end Value

/-- Over the extended reals a device's result is its block of the reference's result. -/
theorem value : Cert.algebraic_KernelIdeal_ReferenceIdeal := by
  intro m g m' g' _ ha
  refine ⟨quantised m', ?_, reference_run m' g'⟩
  refine (θ_run Cert.KernelIdeal.defs _ _).mono (fun r h c => ?_) (Cert.Ring.run_main (F := Ideal) m g)
  have e := Cert.Ring.OB_eq m (rows m') (cols m') (fun c => (ha c).1) (fun c => (ha c).2) c
  exact ⟨(h.1 c).2.2.trans e, (h.1 c).1, (h.1 c).2.1⟩

theorem claim : Cert.Claim := ⟨Cert.Kernel.Gen.facts, Cert.KernelIdeal.Gen.facts, Cert.ReferenceIdeal.Gen.facts,
  frame_kernel, frame_ideal, frame_reference, trivial, value⟩

end Cert.Proof

end
